-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_q_k [hPre_finite_q_k : Cert.Pre_finite_q_k.Facts] (m : (ℓ : Loc Cert.KernelIdeal.nD Cert.KernelIdeal.τ Cert.KernelIdeal.sig) → Buf (Elt Ideal) ℓ) : Prop :=
  ∀ c : Dev Cert.KernelIdeal.nD,
    (Cert.Pre_finite_q_k.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_q_k [hPre_finite_q_k : Cert.Pre_finite_q_k.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_q_k.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_q_k [hKernelIdeal : Cert.KernelIdeal.Facts] [hPre_finite_q_k : Cert.Pre_finite_q_k.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_q_k m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_q_k [hReferenceIdeal : Cert.ReferenceIdeal.Facts] [hPre_finite_q_k : Cert.Pre_finite_q_k.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_q_k m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6)
      ∧ r.2.mem ((c.tc : Thread Cert.Kernel12.nD Cert.Kernel12.τ).loc Cert.Kernel12.main_arg7) = m ((c.tc : Thread Cert.Kernel12.nD Cert.Kernel12.τ).loc Cert.Kernel12.main_arg7)
      ∧ r.2.mem ((c.tc : Thread Cert.Kernel12.nD Cert.Kernel12.τ).loc Cert.Kernel12.main_arg8) = m ((c.tc : Thread Cert.Kernel12.nD Cert.Kernel12.τ).loc Cert.Kernel12.main_arg8)
      ∧ r.2.mem ((c.tc : Thread Cert.Kernel12.nD Cert.Kernel12.τ).loc Cert.Kernel12.main_arg9) = m ((c.tc : Thread Cert.Kernel12.nD Cert.Kernel12.τ).loc Cert.Kernel12.main_arg9)
      ∧ r.2.mem ((c.tc : Thread Cert.Kernel12.nD Cert.Kernel12.τ).loc Cert.Kernel12.main_arg10) = m ((c.tc : Thread Cert.Kernel12.nD Cert.Kernel12.τ).loc Cert.Kernel12.main_arg10))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
      ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
      ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8)
      ∧ r.2.mem ((c.tc : Thread Cert.Kernel12Ideal.nD Cert.Kernel12Ideal.τ).loc Cert.Kernel12Ideal.main_arg9) = m ((c.tc : Thread Cert.Kernel12Ideal.nD Cert.Kernel12Ideal.τ).loc Cert.Kernel12Ideal.main_arg9)
      ∧ r.2.mem ((c.tc : Thread Cert.Kernel12Ideal.nD Cert.Kernel12Ideal.τ).loc Cert.Kernel12Ideal.main_arg10) = m ((c.tc : Thread Cert.Kernel12Ideal.nD Cert.Kernel12Ideal.τ).loc Cert.Kernel12Ideal.main_arg10))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6)
      ∧ r.2.mem ((c.tc : Thread Cert.Reference12Ideal.nD Cert.Reference12Ideal.τ).loc Cert.Reference12Ideal.main_arg7) = m ((c.tc : Thread Cert.Reference12Ideal.nD Cert.Reference12Ideal.τ).loc Cert.Reference12Ideal.main_arg7)
      ∧ r.2.mem ((c.tc : Thread Cert.Reference12Ideal.nD Cert.Reference12Ideal.τ).loc Cert.Reference12Ideal.main_arg8) = m ((c.tc : Thread Cert.Reference12Ideal.nD Cert.Reference12Ideal.τ).loc Cert.Reference12Ideal.main_arg8)
      ∧ r.2.mem ((c.tc : Thread Cert.Reference12Ideal.nD Cert.Reference12Ideal.τ).loc Cert.Reference12Ideal.main_arg9) = m ((c.tc : Thread Cert.Reference12Ideal.nD Cert.Reference12Ideal.τ).loc Cert.Reference12Ideal.main_arg9)
      ∧ r.2.mem ((c.tc : Thread Cert.Reference12Ideal.nD Cert.Reference12Ideal.τ).loc Cert.Reference12Ideal.main_arg10) = m ((c.tc : Thread Cert.Reference12Ideal.nD Cert.Reference12Ideal.τ).loc Cert.Reference12Ideal.main_arg10))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def preserves_Kernel_KernelIdeal : Prop :=
  True

def algebraic_KernelIdeal_ReferenceIdeal_pre_finite_q_k [hKernelIdeal : Cert.KernelIdeal.Facts] [hReferenceIdeal : Cert.ReferenceIdeal.Facts] [hPre_finite_q_k : Cert.Pre_finite_q_k.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_q_k m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_v63) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v8) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v34) = v0 c
          ∧ r.2.mem ((c.tc : Thread Cert.Reference4Ideal.nD Cert.Reference4Ideal.τ).loc Cert.Reference4Ideal.main_v17) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)
      ∧ m' ((c.tc : Thread Cert.Reference12Ideal.nD Cert.Reference12Ideal.τ).loc Cert.Reference12Ideal.main_arg7) = m ((c.tc : Thread Cert.Kernel12Ideal.nD Cert.Kernel12Ideal.τ).loc Cert.Kernel12Ideal.main_arg7)
      ∧ m' ((c.tc : Thread Cert.Reference12Ideal.nD Cert.Reference12Ideal.τ).loc Cert.Reference12Ideal.main_arg8) = m ((c.tc : Thread Cert.Kernel12Ideal.nD Cert.Kernel12Ideal.τ).loc Cert.Kernel12Ideal.main_arg8)
      ∧ m' ((c.tc : Thread Cert.Reference12Ideal.nD Cert.Reference12Ideal.τ).loc Cert.Reference12Ideal.main_arg9) = m ((c.tc : Thread Cert.Kernel12Ideal.nD Cert.Kernel12Ideal.τ).loc Cert.Kernel12Ideal.main_arg9)
      ∧ m' ((c.tc : Thread Cert.Reference12Ideal.nD Cert.Reference12Ideal.τ).loc Cert.Reference12Ideal.main_arg10) = m ((c.tc : Thread Cert.Kernel12Ideal.nD Cert.Kernel12Ideal.τ).loc Cert.Kernel12Ideal.main_arg10)) →
    ∃ (v0 : (c : Dev Cert.Kernel12Ideal.nD) → Buf (Elt Ideal) ((c.tc : Thread Cert.Kernel12Ideal.nD Cert.Kernel12Ideal.τ).loc Cert.Kernel12Ideal.main_v1)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)) (v4 : (c : Dev Cert.Kernel12Ideal.nD) → Buf (Elt Ideal) ((c.tc : Thread Cert.Kernel12Ideal.nD Cert.Kernel12Ideal.τ).loc Cert.Kernel12Ideal.main_v0_4)) (v5 : (c : Dev Cert.Kernel12Ideal.nD) → Buf (Elt Ideal) ((c.tc : Thread Cert.Kernel12Ideal.nD Cert.Kernel12Ideal.τ).loc Cert.Kernel12Ideal.main_v0_5)) (v6 : (c : Dev Cert.Kernel12Ideal.nD) → Buf (Elt Ideal) ((c.tc : Thread Cert.Kernel12Ideal.nD Cert.Kernel12Ideal.τ).loc Cert.Kernel12Ideal.main_v0_6)) (v7 : (c : Dev Cert.Kernel12Ideal.nD) → Buf (Elt Ideal) ((c.tc : Thread Cert.Kernel12Ideal.nD Cert.Kernel12Ideal.τ).loc Cert.Kernel12Ideal.main_v0_7)) (v8 : (c : Dev Cert.Kernel12Ideal.nD) → Buf (Elt Ideal) ((c.tc : Thread Cert.Kernel12Ideal.nD Cert.Kernel12Ideal.τ).loc Cert.Kernel12Ideal.main_v0_8)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_v0_4) = v4 c
          ∧ r.2.mem ((c.tc : Thread Cert.Kernel12Ideal.nD Cert.Kernel12Ideal.τ).loc Cert.Kernel12Ideal.main_v0_5) = v5 c
          ∧ r.2.mem ((c.tc : Thread Cert.Kernel12Ideal.nD Cert.Kernel12Ideal.τ).loc Cert.Kernel12Ideal.main_v0_6) = v6 c
          ∧ r.2.mem ((c.tc : Thread Cert.Kernel12Ideal.nD Cert.Kernel12Ideal.τ).loc Cert.Kernel12Ideal.main_v0_7) = v7 c
          ∧ r.2.mem ((c.tc : Thread Cert.Kernel12Ideal.nD Cert.Kernel12Ideal.τ).loc Cert.Kernel12Ideal.main_v0_8) = v8 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
          ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
          ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8)
          ∧ r.2.mem ((c.tc : Thread Cert.Kernel12Ideal.nD Cert.Kernel12Ideal.τ).loc Cert.Kernel12Ideal.main_arg9) = m ((c.tc : Thread Cert.Kernel12Ideal.nD Cert.Kernel12Ideal.τ).loc Cert.Kernel12Ideal.main_arg9)
          ∧ r.2.mem ((c.tc : Thread Cert.Kernel12Ideal.nD Cert.Kernel12Ideal.τ).loc Cert.Kernel12Ideal.main_arg10) = m ((c.tc : Thread Cert.Kernel12Ideal.nD Cert.Kernel12Ideal.τ).loc Cert.Kernel12Ideal.main_arg10))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v91) = v0 c
          ∧ r.2.mem ((c.tc : Thread Cert.Reference12Ideal.nD Cert.Reference12Ideal.τ).loc Cert.Reference12Ideal.main_v81) = v1 c
          ∧ r.2.mem ((c.tc : Thread Cert.Reference12Ideal.nD Cert.Reference12Ideal.τ).loc Cert.Reference12Ideal.main_v92) = v2 c
          ∧ r.2.mem ((c.tc : Thread Cert.Reference12Ideal.nD Cert.Reference12Ideal.τ).loc Cert.Reference12Ideal.main_v93) = v3 c
          ∧ r.2.mem ((c.tc : Thread Cert.Reference12Ideal.nD Cert.Reference12Ideal.τ).loc Cert.Reference12Ideal.main_v94) = v4 c
          ∧ r.2.mem ((c.tc : Thread Cert.Reference12Ideal.nD Cert.Reference12Ideal.τ).loc Cert.Reference12Ideal.main_v95) = v5 c
          ∧ r.2.mem ((c.tc : Thread Cert.Reference12Ideal.nD Cert.Reference12Ideal.τ).loc Cert.Reference12Ideal.main_v96) = v6 c
          ∧ r.2.mem ((c.tc : Thread Cert.Reference12Ideal.nD Cert.Reference12Ideal.τ).loc Cert.Reference12Ideal.main_v54) = v7 c
          ∧ r.2.mem ((c.tc : Thread Cert.Reference12Ideal.nD Cert.Reference12Ideal.τ).loc Cert.Reference12Ideal.main_v65) = v8 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6)
          ∧ r.2.mem ((c.tc : Thread Cert.Reference12Ideal.nD Cert.Reference12Ideal.τ).loc Cert.Reference12Ideal.main_arg7) = m' ((c.tc : Thread Cert.Reference12Ideal.nD Cert.Reference12Ideal.τ).loc Cert.Reference12Ideal.main_arg7)
          ∧ r.2.mem ((c.tc : Thread Cert.Reference12Ideal.nD Cert.Reference12Ideal.τ).loc Cert.Reference12Ideal.main_arg8) = m' ((c.tc : Thread Cert.Reference12Ideal.nD Cert.Reference12Ideal.τ).loc Cert.Reference12Ideal.main_arg8)
          ∧ r.2.mem ((c.tc : Thread Cert.Reference12Ideal.nD Cert.Reference12Ideal.τ).loc Cert.Reference12Ideal.main_arg9) = m' ((c.tc : Thread Cert.Reference12Ideal.nD Cert.Reference12Ideal.τ).loc Cert.Reference12Ideal.main_arg9)
          ∧ r.2.mem ((c.tc : Thread Cert.Reference12Ideal.nD Cert.Reference12Ideal.τ).loc Cert.Reference12Ideal.main_arg10) = m' ((c.tc : Thread Cert.Reference12Ideal.nD Cert.Reference12Ideal.τ).loc Cert.Reference12Ideal.main_arg10))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v13_0)) (v1 : (c : Dev Cert.Kernel13Ideal.nD) → Buf (Elt Ideal) ((c.tc : Thread Cert.Kernel13Ideal.nD Cert.Kernel13Ideal.τ).loc Cert.Kernel13Ideal.main_v13_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v13_0) = v0 c
          ∧ r.2.mem ((c.tc : Thread Cert.Kernel13Ideal.nD Cert.Kernel13Ideal.τ).loc Cert.Kernel13Ideal.main_v13_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v23) = v0 c
          ∧ r.2.mem ((c.tc : Thread Cert.Reference13Ideal.nD Cert.Reference13Ideal.τ).loc Cert.Reference13Ideal.main_v22) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v12) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v23) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v16) = v0 c
          ∧ r.2.mem ((c.tc : Thread Cert.Reference16Ideal.nD Cert.Reference16Ideal.τ).loc Cert.Reference16Ideal.main_v17) = v1 c
          ∧ r.2.mem ((c.tc : Thread Cert.Reference16Ideal.nD Cert.Reference16Ideal.τ).loc Cert.Reference16Ideal.main_v30) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hPre_finite_q_k : Cert.Pre_finite_q_k.Facts),
    quiescent_Kernel (hKernel := hKernel)
    ∧ quiescent_KernelIdeal (hKernelIdeal := hKernelIdeal)
    ∧ quiescent_KernelIdeal_pre_finite_q_k (hKernelIdeal := hKernelIdeal) (hPre_finite_q_k := hPre_finite_q_k)
    ∧ quiescent_ReferenceIdeal (hReferenceIdeal := hReferenceIdeal)
    ∧ quiescent_ReferenceIdeal_pre_finite_q_k (hReferenceIdeal := hReferenceIdeal) (hPre_finite_q_k := hPre_finite_q_k)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ preserves_Kernel_KernelIdeal
    ∧ algebraic_KernelIdeal_ReferenceIdeal_pre_finite_q_k (hKernelIdeal := hKernelIdeal) (hReferenceIdeal := hReferenceIdeal) (hPre_finite_q_k := hPre_finite_q_k)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
-- ==== Pre_finite_q_k.lean ====
abbrev S8192x12544 : Shape := ⟨2, ![8192, 12544]⟩
abbrev S256x1024 : Shape := ⟨2, ![256, 1024]⟩
abbrev S8192x1024 : Shape := ⟨2, ![8192, 1024]⟩
abbrev S_ : Shape := ⟨0, ![]⟩

class Facts : Prop where
  slices_S8192x12544_S8192x1024_0_8192 : S8192x12544.Slices ![0, 8192] S8192x1024
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S256x1024 : S_.BroadcastsInDim S256x1024 (![] : Fin 0 → Fin S256x1024.rank)
  reducesTo_S256x1024_S_d0_1 : S256x1024.ReducesTo [0, 1] S_

variable [Facts]

def fn {F : FTy → Type} [FloatOps F] (main_arg0 : FVec F S8192x12544 .f32) (main_arg1 : FVec F S256x1024 .bf16) (main_arg2 : FVec F S256x1024 .bf16) (main_arg3 : FVec F S8192x1024 .f32) (main_arg4 : FVec F S8192x12544 .bf16) : IVec S_ 1 :=
  let main_v0 : FVec F S8192x1024 .f32 := (extractStridedSlice S8192x1024 ![0, 8192] · slices_S8192x12544_S8192x1024_0_8192) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_c : IVec S_ 1 := constantI S_ 1 1#1
  let main_v4 : IVec S_ 1 := (fun x v => Host.reduce IntOp.andi x v reducesTo_S8192x1024_S_d0_1 h_S_) main_v3 main_c
  let main_v5 : FVec F S256x1024 .bf16 := Host.absf main_arg1
  let main_cst_0 : FVec F S_ .bf16 := constant S_ .bf16 0x7F80#16
  let main_v6 : FVec F S256x1024 .bf16 := broadcastInDim S256x1024 ![] bcast_S_S256x1024 main_cst_0
  let main_v7 : IVec S256x1024 1 := cmpf .olt main_v5 main_v6
  let main_c_1 : IVec S_ 1 := constantI S_ 1 1#1
  let main_v8 : IVec S_ 1 := (fun x v => Host.reduce IntOp.andi x v reducesTo_S256x1024_S_d0_1 h_S_) main_v7 main_c_1
  let main_v9 : IVec S_ 1 := andi main_v4 main_v8
  main_v9
-- ==== Kernel.lean ====
abbrev S8192x12544 : Shape := ⟨2, ![8192, 12544]⟩
abbrev S256x1024 : Shape := ⟨2, ![256, 1024]⟩
abbrev S8192x1024 : Shape := ⟨2, ![8192, 1024]⟩
abbrev S1024x1024 : Shape := ⟨2, ![1024, 1024]⟩
abbrev S1024x256 : Shape := ⟨2, ![1024, 256]⟩
abbrev S256x256 : Shape := ⟨2, ![256, 256]⟩
abbrev S1024 : Shape := ⟨1, ![1024]⟩
abbrev S1024x1 : Shape := ⟨2, ![1024, 1]⟩

abbrev nBuf : Space → Nat
  | .hbm => 8
  | .vmem => 10
  | .smem => 0
  | _ => 0

abbrev bufTy : (tb : Table) → Fin (tcTables nBuf tb) → BufTy
  | .hbm, ⟨0, _⟩ => ⟨S8192x12544, .f32⟩
  | .hbm, ⟨1, _⟩ => ⟨S256x1024, .bf16⟩
  | .hbm, ⟨2, _⟩ => ⟨S256x1024, .bf16⟩
  | .hbm, ⟨3, _⟩ => ⟨S8192x1024, .f32⟩
  | .hbm, ⟨4, _⟩ => ⟨S8192x12544, .bf16⟩
  | .hbm, ⟨5, _⟩ => ⟨S8192x12544, .bf16⟩
  | .hbm, ⟨6, _⟩ => ⟨S256x1024, .f32⟩
  | .hbm, ⟨7, _⟩ => ⟨S256x1024, .f32⟩
  | .local _ .vmem, ⟨0, _⟩ => ⟨S1024x1024, .f32⟩
  | .local _ .vmem, ⟨1, _⟩ => ⟨S1024x1024, .f32⟩
  | .local _ .vmem, ⟨2, _⟩ => ⟨S256x1024, .bf16⟩
  | .local _ .vmem, ⟨3, _⟩ => ⟨S256x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S256x1024, .f32⟩
  | .local _ .vmem, ⟨9, _⟩ => ⟨S256x1024, .f32⟩
  | _, _ => ⟨S8192x12544, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S8192x12544 : Shape := ⟨2, ![8192, 12544]⟩
abbrev S256x1024 : Shape := ⟨2, ![256, 1024]⟩
abbrev S8192x1024 : Shape := ⟨2, ![8192, 1024]⟩
abbrev S8192x4x256 : Shape := ⟨3, ![8192, 4, 256]⟩
abbrev S256x4x256 : Shape := ⟨3, ![256, 4, 256]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x256x8192 : Shape := ⟨3, ![4, 256, 8192]⟩
abbrev S4x256x256 : Shape := ⟨3, ![4, 256, 256]⟩

abbrev nBuf : Space → Nat
  | .hbm => 89
  | .vmem => 0
  | .smem => 0
  | _ => 0

abbrev bufTy : (tb : Table) → Fin (tcTables nBuf tb) → BufTy
  | .hbm, ⟨0, _⟩ => ⟨S8192x12544, .f32⟩
  | .hbm, ⟨1, _⟩ => ⟨S256x1024, .bf16⟩
  | .hbm, ⟨2, _⟩ => ⟨S256x1024, .bf16⟩
  | .hbm, ⟨3, _⟩ => ⟨S8192x1024, .f32⟩
  | .hbm, ⟨4, _⟩ => ⟨S8192x12544, .bf16⟩
  | .hbm, ⟨5, _⟩ => ⟨S8192x1024, .f32⟩
  | .hbm, ⟨6, _⟩ => ⟨S256x1024, .f32⟩
  | .hbm, ⟨7, _⟩ => ⟨S256x1024, .f32⟩
  | .hbm, ⟨8, _⟩ => ⟨S8192x4x256, .f32⟩
  | .hbm, ⟨9, _⟩ => ⟨S256x4x256, .f32⟩
  | .hbm, ⟨10, _⟩ => ⟨S256x4x256, .f32⟩
  | .hbm, ⟨11, _⟩ => ⟨S4x8192x256, .f32⟩
  | .hbm, ⟨12, _⟩ => ⟨S_, .f32⟩
  | .hbm, ⟨13, _⟩ => ⟨S4x8192x256, .f32⟩
  | .hbm, ⟨14, _⟩ => ⟨S4x8192x256, .f32⟩
  | .hbm, ⟨15, _⟩ => ⟨S_, .f32⟩
  | .hbm, ⟨16, _⟩ => ⟨S4x8192, .f32⟩
  | .hbm, ⟨17, _⟩ => ⟨S4x8192x1, .f32⟩
  | .hbm, ⟨18, _⟩ => ⟨S4x8192x256, .f32⟩
  | .hbm, ⟨19, _⟩ => ⟨S4x8192x256, .i1⟩
  | .hbm, ⟨20, _⟩ => ⟨S4x8192x256, .f32⟩
  | .hbm, ⟨21, _⟩ => ⟨S_, .f32⟩
  | .hbm, ⟨22, _⟩ => ⟨S4x8192, .f32⟩
  | .hbm, ⟨23, _⟩ => ⟨S_, .f32⟩
  | .hbm, ⟨24, _⟩ => ⟨S4x8192, .f32⟩
  | .hbm, ⟨25, _⟩ => ⟨S4x8192, .f32⟩
  | .hbm, ⟨26, _⟩ => ⟨S_, .f32⟩
  | .hbm, ⟨27, _⟩ => ⟨S4x8192, .f32⟩
  | .hbm, ⟨28, _⟩ => ⟨S4x8192, .i1⟩
  | .hbm, ⟨29, _⟩ => ⟨S_, .f32⟩
  | .hbm, ⟨30, _⟩ => ⟨S4x8192, .f32⟩
  | .hbm, ⟨31, _⟩ => ⟨S4x8192, .i1⟩
  | .hbm, ⟨32, _⟩ => ⟨S_, .f32⟩
  | .hbm, ⟨33, _⟩ => ⟨S4x8192, .f32⟩
  | .hbm, ⟨34, _⟩ => ⟨S_, .f32⟩
  | .hbm, ⟨35, _⟩ => ⟨S4x8192, .f32⟩
  | .hbm, ⟨36, _⟩ => ⟨S_, .f32⟩
  | .hbm, ⟨37, _⟩ => ⟨S4x8192, .f32⟩
  | .hbm, ⟨38, _⟩ => ⟨S4x8192, .f32⟩
  | .hbm, ⟨39, _⟩ => ⟨S4x8192, .f32⟩
  | .hbm, ⟨40, _⟩ => ⟨S4x8192x1, .f32⟩
  | .hbm, ⟨41, _⟩ => ⟨S4x8192x256, .f32⟩
  | .hbm, ⟨42, _⟩ => ⟨S4x8192x256, .f32⟩
  | .hbm, ⟨43, _⟩ => ⟨S4x8192x256, .f32⟩
  | .hbm, ⟨44, _⟩ => ⟨S_, .f32⟩
  | .hbm, ⟨45, _⟩ => ⟨S4x8192, .f32⟩
  | .hbm, ⟨46, _⟩ => ⟨S4x8192x1, .f32⟩
  | .hbm, ⟨47, _⟩ => ⟨S4x8192x256, .f32⟩
  | .hbm, ⟨48, _⟩ => ⟨S4x8192x256, .f32⟩
  | .hbm, ⟨49, _⟩ => ⟨S4x8192x1, .f32⟩
  | .hbm, ⟨50, _⟩ => ⟨S_, .f32⟩
  | .hbm, ⟨51, _⟩ => ⟨S4x8192x1, .f32⟩
  | .hbm, ⟨52, _⟩ => ⟨S4x8192x1, .f32⟩
  | .hbm, ⟨53, _⟩ => ⟨S4x256x8192, .f32⟩
  | .hbm, ⟨54, _⟩ => ⟨S8192x4x256, .f32⟩
  | .hbm, ⟨55, _⟩ => ⟨S8192x1024, .f32⟩
  | .hbm, ⟨56, _⟩ => ⟨S8192x4x256, .f32⟩
  | .hbm, ⟨57, _⟩ => ⟨S4x256x8192, .f32⟩
  | .hbm, ⟨58, _⟩ => ⟨S4x8192x256, .f32⟩
  | .hbm, ⟨59, _⟩ => ⟨S4x256x256, .f32⟩
  | .hbm, ⟨60, _⟩ => ⟨S256x4x256, .f32⟩
  | .hbm, ⟨61, _⟩ => ⟨S4x8192x256, .f32⟩
  | .hbm, ⟨62, _⟩ => ⟨S4x8192x256, .f32⟩
  | .hbm, ⟨63, _⟩ => ⟨S4x8192x256, .f32⟩
  | .hbm, ⟨64, _⟩ => ⟨S_, .f32⟩
  | .hbm, ⟨65, _⟩ => ⟨S4x8192, .f32⟩
  | .hbm, ⟨66, _⟩ => ⟨S4x8192x1, .f32⟩
  | .hbm, ⟨67, _⟩ => ⟨S4x8192x1, .f32⟩
  | .hbm, ⟨68, _⟩ => ⟨S4x8192x256, .f32⟩
  | .hbm, ⟨69, _⟩ => ⟨S4x8192x256, .f32⟩
  | .hbm, ⟨70, _⟩ => ⟨S_, .f32⟩
  | .hbm, ⟨71, _⟩ => ⟨S4x8192, .f32⟩
  | .hbm, ⟨72, _⟩ => ⟨S4x8192x256, .f32⟩
  | .hbm, ⟨73, _⟩ => ⟨S4x8192x256, .f32⟩
  | .hbm, ⟨74, _⟩ => ⟨S4x8192x256, .f32⟩
  | .hbm, ⟨75, _⟩ => ⟨S_, .f32⟩
  | .hbm, ⟨76, _⟩ => ⟨S4x8192x256, .f32⟩
  | .hbm, ⟨77, _⟩ => ⟨S4x8192x256, .f32⟩
  | .hbm, ⟨78, _⟩ => ⟨S4x256x256, .f32⟩
  | .hbm, ⟨79, _⟩ => ⟨S256x4x256, .f32⟩
  | .hbm, ⟨80, _⟩ => ⟨S4x8192x256, .f32⟩
  | .hbm, ⟨81, _⟩ => ⟨S8192x4x256, .f32⟩
  | .hbm, ⟨82, _⟩ => ⟨S256x1024, .f32⟩
  | .hbm, ⟨83, _⟩ => ⟨S256x1024, .f32⟩
  | .hbm, ⟨84, _⟩ => ⟨S8192x1024, .f32⟩
  | .hbm, ⟨85, _⟩ => ⟨S8192x1024, .bf16⟩
  | .hbm, ⟨86, _⟩ => ⟨S_, .i32⟩
  | .hbm, ⟨87, _⟩ => ⟨S_, .i32⟩
  | .hbm, ⟨88, _⟩ => ⟨S8192x12544, .bf16⟩
  | _, _ => ⟨S8192x12544, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_8 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_9 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_10 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_11 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_12 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_c : Ref sig .tc := ⟨.hbm, 86, rfl⟩
abbrev main_c_13 : Ref sig .tc := ⟨.hbm, 87, rfl⟩
abbrev main_v67 : Ref sig .tc := ⟨.hbm, 88, rfl⟩

abbrev nD : Nat := 1
abbrev τ : Topo := Topo.v7x

variable {F : FTy → Type} [FloatOps F]
-- ==== Kernel2.lean ====
abbrev S8192x12544 : Shape := ⟨2, ![8192, 12544]⟩
abbrev S8192x1024 : Shape := ⟨2, ![8192, 1024]⟩
abbrev S12544x1024 : Shape := ⟨2, ![12544, 1024]⟩
abbrev S1024x1792 : Shape := ⟨2, ![1024, 1792]⟩
abbrev S1024x1024 : Shape := ⟨2, ![1024, 1024]⟩
abbrev S1792x1024 : Shape := ⟨2, ![1792, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x12544, .bf16⟩
  | .hbm, ⟨1, _⟩ => ⟨S8192x1024, .bf16⟩
  | .hbm, ⟨2, _⟩ => ⟨S12544x1024, .bf16⟩
  | .local _ .vmem, ⟨0, _⟩ => ⟨S1024x1792, .bf16⟩
  | .local _ .vmem, ⟨1, _⟩ => ⟨S1024x1792, .bf16⟩
  | .local _ .vmem, ⟨2, _⟩ => ⟨S1024x1024, .bf16⟩
  | .local _ .vmem, ⟨3, _⟩ => ⟨S1024x1024, .bf16⟩
  | .local _ .vmem, ⟨4, _⟩ => ⟨S1792x1024, .bf16⟩
  | .local _ .vmem, ⟨5, _⟩ => ⟨S1792x1024, .bf16⟩
  | .local _ .vmem, ⟨6, _⟩ => ⟨S1792x1024, .f32⟩
  | _, _ => ⟨S8192x12544, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![7, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1792x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8192x12544 : Shape := ⟨2, ![8192, 12544]⟩
abbrev S8192x1024 : Shape := ⟨2, ![8192, 1024]⟩
abbrev S_ : Shape := ⟨0, ![]⟩
abbrev S12544x1024 : Shape := ⟨2, ![12544, 1024]⟩
abbrev S1024x12544 : Shape := ⟨2, ![1024, 12544]⟩

abbrev nBuf : Space → Nat
  | .hbm => 12
  | .vmem => 0
  | .smem => 0
  | _ => 0

abbrev bufTy : (tb : Table) → Fin (tcTables nBuf tb) → BufTy
  | .hbm, ⟨0, _⟩ => ⟨S8192x12544, .bf16⟩
  | .hbm, ⟨1, _⟩ => ⟨S8192x1024, .bf16⟩
  | .hbm, ⟨2, _⟩ => ⟨S8192x1024, .f32⟩
  | .hbm, ⟨3, _⟩ => ⟨S8192x12544, .f32⟩
  | .hbm, ⟨4, _⟩ => ⟨S_, .f32⟩
  | .hbm, ⟨5, _⟩ => ⟨S12544x1024, .f32⟩
  | .hbm, ⟨6, _⟩ => ⟨S1024x12544, .f32⟩
  | .hbm, ⟨7, _⟩ => ⟨S8192x12544, .f32⟩
  | .hbm, ⟨8, _⟩ => ⟨S12544x1024, .f32⟩
  | .hbm, ⟨9, _⟩ => ⟨S1024x12544, .f32⟩
  | .hbm, ⟨10, _⟩ => ⟨S12544x1024, .f32⟩
  | .hbm, ⟨11, _⟩ => ⟨S12544x1024, .bf16⟩
  | _, _ => ⟨S8192x12544, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel3.lean ====
abbrev S8192x12544 : Shape := ⟨2, ![8192, 12544]⟩
abbrev S12544x1024 : Shape := ⟨2, ![12544, 1024]⟩
abbrev S8192x1024 : Shape := ⟨2, ![8192, 1024]⟩
abbrev S1024x1792 : Shape := ⟨2, ![1024, 1792]⟩
abbrev S1792x1024 : Shape := ⟨2, ![1792, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x12544, .bf16⟩
  | .hbm, ⟨1, _⟩ => ⟨S12544x1024, .bf16⟩
  | .hbm, ⟨2, _⟩ => ⟨S8192x1024, .f32⟩
  | .local _ .vmem, ⟨0, _⟩ => ⟨S1024x1792, .bf16⟩
  | .local _ .vmem, ⟨1, _⟩ => ⟨S1024x1792, .bf16⟩
  | .local _ .vmem, ⟨2, _⟩ => ⟨S1792x1024, .bf16⟩
  | .local _ .vmem, ⟨3, _⟩ => ⟨S1792x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x12544, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 7], ![false, false, false]⟩

def k0_cond2 (i : grid0.Coords) : BitVec 1 :=
  let arg2 : BitVec 32 := BitVec.ofNat 32 (i 2).val
  let c6_i32 : BitVec 32 := 6#32
  let v11 : BitVec 1 := Scalar.cmpi .eq arg2 c6_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1792x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x12544 : Shape := ⟨2, ![8192, 12544]⟩
abbrev S12544x1024 : Shape := ⟨2, ![12544, 1024]⟩
abbrev S_ : Shape := ⟨0, ![]⟩
abbrev S8192x1024 : Shape := ⟨2, ![8192, 1024]⟩
abbrev S1024x12544 : Shape := ⟨2, ![1024, 12544]⟩

abbrev nBuf : Space → Nat
  | .hbm => 9
  | .vmem => 0
  | .smem => 0
  | _ => 0

abbrev bufTy : (tb : Table) → Fin (tcTables nBuf tb) → BufTy
  | .hbm, ⟨0, _⟩ => ⟨S8192x12544, .bf16⟩
  | .hbm, ⟨1, _⟩ => ⟨S12544x1024, .bf16⟩
  | .hbm, ⟨2, _⟩ => ⟨S12544x1024, .f32⟩
  | .hbm, ⟨3, _⟩ => ⟨S8192x12544, .f32⟩
  | .hbm, ⟨4, _⟩ => ⟨S_, .f32⟩
  | .hbm, ⟨5, _⟩ => ⟨S8192x1024, .f32⟩
  | .hbm, ⟨6, _⟩ => ⟨S1024x12544, .f32⟩
  | .hbm, ⟨7, _⟩ => ⟨S8192x12544, .f32⟩
  | .hbm, ⟨8, _⟩ => ⟨S8192x1024, .f32⟩
  | _, _ => ⟨S8192x12544, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S8192x1024 : Shape := ⟨2, ![8192, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference4Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 47
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S8192, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Kernel5.lean ====
abbrev S8192x1024 : Shape := ⟨2, ![8192, 1024]⟩
abbrev S12544x1024 : Shape := ⟨2, ![12544, 1024]⟩
abbrev S8192x12544 : Shape := ⟨2, ![8192, 12544]⟩
abbrev S1024x1024 : Shape := ⟨2, ![1024, 1024]⟩
abbrev S1792x1024 : Shape := ⟨2, ![1792, 1024]⟩
abbrev S1024x1792 : Shape := ⟨2, ![1024, 1792]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S12544x1024, .bf16⟩
  | .hbm, ⟨2, _⟩ => ⟨S8192x12544, .f32⟩
  | .local _ .vmem, ⟨0, _⟩ => ⟨S1024x1024, .bf16⟩
  | .local _ .vmem, ⟨1, _⟩ => ⟨S1024x1024, .bf16⟩
  | .local _ .vmem, ⟨2, _⟩ => ⟨S1792x1024, .bf16⟩
  | .local _ .vmem, ⟨3, _⟩ => ⟨S1792x1024, .bf16⟩
  | .local _ .vmem, ⟨4, _⟩ => ⟨S1024x1792, .f32⟩
  | .local _ .vmem, ⟨5, _⟩ => ⟨S1024x1792, .f32⟩
  | .local _ .vmem, ⟨6, _⟩ => ⟨S1024x1792, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 7, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1792x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x1024 : Shape := ⟨2, ![8192, 1024]⟩
abbrev S12544x1024 : Shape := ⟨2, ![12544, 1024]⟩
abbrev S1024x12544 : Shape := ⟨2, ![1024, 12544]⟩
abbrev S8192x12544 : Shape := ⟨2, ![8192, 12544]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S12544x1024, .bf16⟩
  | .hbm, ⟨2, _⟩ => ⟨S8192x1024, .f32⟩
  | .hbm, ⟨3, _⟩ => ⟨S12544x1024, .f32⟩
  | .hbm, ⟨4, _⟩ => ⟨S1024x12544, .f32⟩
  | .hbm, ⟨5, _⟩ => ⟨S8192x12544, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel6.lean ====
abbrev S8192x1024 : Shape := ⟨2, ![8192, 1024]⟩
abbrev S2048x1024 : Shape := ⟨2, ![2048, 1024]⟩
abbrev S8192x2048 : Shape := ⟨2, ![8192, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S2048x1024, .bf16⟩
  | .hbm, ⟨2, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x1024 : Shape := ⟨2, ![8192, 1024]⟩
abbrev S2048x1024 : Shape := ⟨2, ![2048, 1024]⟩
abbrev S_ : Shape := ⟨0, ![]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2048x1024, .bf16⟩
  | .hbm, ⟨2, _⟩ => ⟨S8192x1024, .f32⟩
  | .hbm, ⟨3, _⟩ => ⟨S2048x1024, .f32⟩
  | .hbm, ⟨4, _⟩ => ⟨S_, .f32⟩
  | .hbm, ⟨5, _⟩ => ⟨S8192x2048, .f32⟩
  | .hbm, ⟨6, _⟩ => ⟨S8192x1024, .f32⟩
  | .hbm, ⟨7, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S8192x1024 : Shape := ⟨2, ![8192, 1024]⟩
abbrev S1536x1024 : Shape := ⟨2, ![1536, 1024]⟩
abbrev S8192x1536 : Shape := ⟨2, ![8192, 1536]⟩
abbrev S1024x1024 : Shape := ⟨2, ![1024, 1024]⟩
abbrev S768x1024 : Shape := ⟨2, ![768, 1024]⟩
abbrev S1024x768 : Shape := ⟨2, ![1024, 768]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1536x1024, .bf16⟩
  | .hbm, ⟨2, _⟩ => ⟨S8192x1536, .f32⟩
  | .local _ .vmem, ⟨0, _⟩ => ⟨S1024x1024, .bf16⟩
  | .local _ .vmem, ⟨1, _⟩ => ⟨S1024x1024, .bf16⟩
  | .local _ .vmem, ⟨2, _⟩ => ⟨S768x1024, .bf16⟩
  | .local _ .vmem, ⟨3, _⟩ => ⟨S768x1024, .bf16⟩
  | .local _ .vmem, ⟨4, _⟩ => ⟨S1024x768, .f32⟩
  | .local _ .vmem, ⟨5, _⟩ => ⟨S1024x768, .f32⟩
  | .local _ .vmem, ⟨6, _⟩ => ⟨S1024x768, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x1024 : Shape := ⟨2, ![8192, 1024]⟩
abbrev S1536x1024 : Shape := ⟨2, ![1536, 1024]⟩
abbrev S_ : Shape := ⟨0, ![]⟩
abbrev S8192x1536 : Shape := ⟨2, ![8192, 1536]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1536x1024, .bf16⟩
  | .hbm, ⟨2, _⟩ => ⟨S8192x1024, .f32⟩
  | .hbm, ⟨3, _⟩ => ⟨S1536x1024, .f32⟩
  | .hbm, ⟨4, _⟩ => ⟨S_, .f32⟩
  | .hbm, ⟨5, _⟩ => ⟨S8192x1536, .f32⟩
  | .hbm, ⟨6, _⟩ => ⟨S8192x1024, .f32⟩
  | .hbm, ⟨7, _⟩ => ⟨S8192x1536, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S8192x2048 : Shape := ⟨2, ![8192, 2048]⟩
abbrev S8192x1024 : Shape := ⟨2, ![8192, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S2048x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x2048 : Shape := ⟨2, ![8192, 2048]⟩
abbrev S8192x1024 : Shape := ⟨2, ![8192, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S8192x2048, .f32⟩
  | .hbm, ⟨3, _⟩ => ⟨S8192x1024, .f32⟩
  | .hbm, ⟨4, _⟩ => ⟨S_, .f32⟩
  | .hbm, ⟨5, _⟩ => ⟨S2048x1024, .f32⟩
  | .hbm, ⟨6, _⟩ => ⟨S8192x1024, .f32⟩
  | .hbm, ⟨7, _⟩ => ⟨S1024x2048, .f32⟩
  | .hbm, ⟨8, _⟩ => ⟨S2048x1024, .f32⟩
  | .hbm, ⟨9, _⟩ => ⟨S2048x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel10.lean ====
abbrev S8192x1536 : Shape := ⟨2, ![8192, 1536]⟩
abbrev S8192x1024 : Shape := ⟨2, ![8192, 1024]⟩
abbrev S1536x1024 : Shape := ⟨2, ![1536, 1024]⟩
abbrev S1024x768 : Shape := ⟨2, ![1024, 768]⟩
abbrev S1024x1024 : Shape := ⟨2, ![1024, 1024]⟩
abbrev S768x1024 : Shape := ⟨2, ![768, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1536, .bf16⟩
  | .hbm, ⟨1, _⟩ => ⟨S8192x1024, .bf16⟩
  | .hbm, ⟨2, _⟩ => ⟨S1536x1024, .bf16⟩
  | .local _ .vmem, ⟨0, _⟩ => ⟨S1024x768, .bf16⟩
  | .local _ .vmem, ⟨1, _⟩ => ⟨S1024x768, .bf16⟩
  | .local _ .vmem, ⟨2, _⟩ => ⟨S1024x1024, .bf16⟩
  | .local _ .vmem, ⟨3, _⟩ => ⟨S1024x1024, .bf16⟩
  | .local _ .vmem, ⟨4, _⟩ => ⟨S768x1024, .bf16⟩
  | .local _ .vmem, ⟨5, _⟩ => ⟨S768x1024, .bf16⟩
  | .local _ .vmem, ⟨6, _⟩ => ⟨S768x1024, .f32⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x1536 : Shape := ⟨2, ![8192, 1536]⟩
abbrev S8192x1024 : Shape := ⟨2, ![8192, 1024]⟩
abbrev S_ : Shape := ⟨0, ![]⟩
abbrev S1536x1024 : Shape := ⟨2, ![1536, 1024]⟩
abbrev S1024x1536 : Shape := ⟨2, ![1024, 1536]⟩

abbrev nBuf : Space → Nat
  | .hbm => 10
  | .vmem => 0
  | .smem => 0
  | _ => 0

abbrev bufTy : (tb : Table) → Fin (tcTables nBuf tb) → BufTy
  | .hbm, ⟨0, _⟩ => ⟨S8192x1536, .bf16⟩
  | .hbm, ⟨1, _⟩ => ⟨S8192x1024, .bf16⟩
  | .hbm, ⟨2, _⟩ => ⟨S8192x1536, .f32⟩
  | .hbm, ⟨3, _⟩ => ⟨S8192x1024, .f32⟩
  | .hbm, ⟨4, _⟩ => ⟨S_, .f32⟩
  | .hbm, ⟨5, _⟩ => ⟨S1536x1024, .f32⟩
  | .hbm, ⟨6, _⟩ => ⟨S8192x1024, .f32⟩
  | .hbm, ⟨7, _⟩ => ⟨S1024x1536, .f32⟩
  | .hbm, ⟨8, _⟩ => ⟨S1536x1024, .f32⟩
  | .hbm, ⟨9, _⟩ => ⟨S1536x1024, .bf16⟩
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel11.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference11Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S1024x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel12.lean ====
abbrev S8192x1024 : Shape := ⟨2, ![8192, 1024]⟩
abbrev S8192x2048 : Shape := ⟨2, ![8192, 2048]⟩
abbrev S8192x1536 : Shape := ⟨2, ![8192, 1536]⟩
abbrev S8192x12544 : Shape := ⟨2, ![8192, 12544]⟩
abbrev S2048x1024 : Shape := ⟨2, ![2048, 1024]⟩
abbrev S1536x1024 : Shape := ⟨2, ![1536, 1024]⟩
abbrev S1024x1024 : Shape := ⟨2, ![1024, 1024]⟩
abbrev S1x1024 : Shape := ⟨2, ![1, 1024]⟩
abbrev S256x1024 : Shape := ⟨2, ![256, 1024]⟩
abbrev S256x2048 : Shape := ⟨2, ![256, 2048]⟩
abbrev S256x1536 : Shape := ⟨2, ![256, 1536]⟩
abbrev S256x3072 : Shape := ⟨2, ![256, 3072]⟩
abbrev S256 : Shape := ⟨1, ![256]⟩
abbrev S256x1 : Shape := ⟨2, ![256, 1]⟩
abbrev S1024 : Shape := ⟨1, ![1024]⟩
abbrev S8192x3072 : Shape := ⟨2, ![8192, 3072]⟩

abbrev nBuf : Space → Nat
  | .hbm => 21
  | .vmem => 33
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x2048, .bf16⟩
  | .hbm, ⟨3, _⟩ => ⟨S8192x1536, .bf16⟩
  | .hbm, ⟨4, _⟩ => ⟨S8192x1024, .bf16⟩
  | .hbm, ⟨5, _⟩ => ⟨S8192x12544, .f32⟩
  | .hbm, ⟨6, _⟩ => ⟨S2048x1024, .bf16⟩
  | .hbm, ⟨7, _⟩ => ⟨S1536x1024, .bf16⟩
  | .hbm, ⟨8, _⟩ => ⟨S1024x1024, .bf16⟩
  | .hbm, ⟨9, _⟩ => ⟨S1024x1024, .bf16⟩
  | .hbm, ⟨10, _⟩ => ⟨S1x1024, .f32⟩
  | .hbm, ⟨11, _⟩ => ⟨S8192x12544, .bf16⟩
  | .hbm, ⟨12, _⟩ => ⟨S8192x1024, .f32⟩
  | .hbm, ⟨13, _⟩ => ⟨S8192x1024, .bf16⟩
  | .hbm, ⟨14, _⟩ => ⟨S8192x1024, .bf16⟩
  | .hbm, ⟨15, _⟩ => ⟨S8192x1024, .bf16⟩
  | .hbm, ⟨16, _⟩ => ⟨S8192x1024, .bf16⟩
  | .hbm, ⟨17, _⟩ => ⟨S8192x1024, .bf16⟩
  | .hbm, ⟨18, _⟩ => ⟨S1x1024, .f32⟩
  | .hbm, ⟨19, _⟩ => ⟨S1x1024, .f32⟩
  | .hbm, ⟨20, _⟩ => ⟨S8192x3072, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x2048, .bf16⟩
  | .local _ .vmem, ⟨5, _⟩ => ⟨S256x2048, .bf16⟩
  | .local _ .vmem, ⟨6, _⟩ => ⟨S256x1536, .bf16⟩
  | .local _ .vmem, ⟨7, _⟩ => ⟨S256x1536, .bf16⟩
  | .local _ .vmem, ⟨8, _⟩ => ⟨S256x1024, .bf16⟩
  | .local _ .vmem, ⟨9, _⟩ => ⟨S256x1024, .bf16⟩
  | .local _ .vmem, ⟨10, _⟩ => ⟨S256x3072, .f32⟩
  | .local _ .vmem, ⟨11, _⟩ => ⟨S256x3072, .f32⟩
  | .local _ .vmem, ⟨12, _⟩ => ⟨S2048x1024, .bf16⟩
  | .local _ .vmem, ⟨13, _⟩ => ⟨S1536x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1x1024, .f32⟩
  | .local _ .vmem, ⟨17, _⟩ => ⟨S256x3072, .bf16⟩
  | .local _ .vmem, ⟨18, _⟩ => ⟨S256x3072, .bf16⟩
  | .local _ .vmem, ⟨19, _⟩ => ⟨S256x1024, .f32⟩
  | .local _ .vmem, ⟨20, _⟩ => ⟨S256x1024, .f32⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x1024, .bf16⟩
  | .local _ .vmem, ⟨27, _⟩ => ⟨S256x1024, .bf16⟩
  | .local _ .vmem, ⟨28, _⟩ => ⟨S256x1024, .bf16⟩
  | .local _ .vmem, ⟨29, _⟩ => ⟨S256x1024, .bf16⟩
  | .local _ .vmem, ⟨30, _⟩ => ⟨S256x1024, .bf16⟩
  | .local _ .vmem, ⟨31, _⟩ => ⟨S1x1024, .f32⟩
  | .local _ .vmem, ⟨32, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v0_3 : Ref sig .tc := ⟨.hbm, 14, rfl⟩
abbrev main_v0_4 : Ref sig .tc := ⟨.hbm, 15, rfl⟩
abbrev main_v0_5 : Ref sig .tc := ⟨.hbm, 16, rfl⟩
abbrev main_v0_6 : Ref sig .tc := ⟨.hbm, 17, rfl⟩
abbrev main_v0_7 : Ref sig .tc := ⟨.hbm, 18, rfl⟩
abbrev main_v0_8 : Ref sig .tc := ⟨.hbm, 19, rfl⟩
abbrev main_v1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg19_0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem19_0 : DmaSem sig := 32

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1536x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x3072 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== Reference12Ideal.lean ====
abbrev S8192x1024 : Shape := ⟨2, ![8192, 1024]⟩
abbrev S8192x2048 : Shape := ⟨2, ![8192, 2048]⟩
abbrev S8192x1536 : Shape := ⟨2, ![8192, 1536]⟩
abbrev S8192x12544 : Shape := ⟨2, ![8192, 12544]⟩
abbrev S2048x1024 : Shape := ⟨2, ![2048, 1024]⟩
abbrev S1536x1024 : Shape := ⟨2, ![1536, 1024]⟩
abbrev S1024x1024 : Shape := ⟨2, ![1024, 1024]⟩
abbrev S1x1024 : Shape := ⟨2, ![1, 1024]⟩
abbrev S8192x3072 : Shape := ⟨2, ![8192, 3072]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 127
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x2048, .bf16⟩
  | .hbm, ⟨3, _⟩ => ⟨S8192x1536, .bf16⟩
  | .hbm, ⟨4, _⟩ => ⟨S8192x1024, .bf16⟩
  | .hbm, ⟨5, _⟩ => ⟨S8192x12544, .f32⟩
  | .hbm, ⟨6, _⟩ => ⟨S2048x1024, .bf16⟩
  | .hbm, ⟨7, _⟩ => ⟨S1536x1024, .bf16⟩
  | .hbm, ⟨8, _⟩ => ⟨S1024x1024, .bf16⟩
  | .hbm, ⟨9, _⟩ => ⟨S1024x1024, .bf16⟩
  | .hbm, ⟨10, _⟩ => ⟨S1x1024, .f32⟩
  | .hbm, ⟨11, _⟩ => ⟨S8192x2048, .f32⟩
  | .hbm, ⟨12, _⟩ => ⟨S8192x1536, .f32⟩
  | .hbm, ⟨13, _⟩ => ⟨S8192x1024, .f32⟩
  | .hbm, ⟨14, _⟩ => ⟨S2048x1024, .f32⟩
  | .hbm, ⟨15, _⟩ => ⟨S1536x1024, .f32⟩
  | .hbm, ⟨16, _⟩ => ⟨S1024x1024, .f32⟩
  | .hbm, ⟨17, _⟩ => ⟨S1024x1024, .f32⟩
  | .hbm, ⟨18, _⟩ => ⟨S8192x3072, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x3072, .f32⟩
  | .hbm, ⟨23, _⟩ => ⟨S8192x3072, .f32⟩
  | .hbm, ⟨24, _⟩ => ⟨S_, .f32⟩
  | .hbm, ⟨25, _⟩ => ⟨S8192x3072, .f32⟩
  | .hbm, ⟨26, _⟩ => ⟨S8192x3072, .f32⟩
  | .hbm, ⟨27, _⟩ => ⟨S_, .f32⟩
  | .hbm, ⟨28, _⟩ => ⟨S8192x3072, .f32⟩
  | .hbm, ⟨29, _⟩ => ⟨S8192x3072, .f32⟩
  | .hbm, ⟨30, _⟩ => ⟨S_, .f32⟩
  | .hbm, ⟨31, _⟩ => ⟨S8192x3072, .f32⟩
  | .hbm, ⟨32, _⟩ => ⟨S8192x3072, .f32⟩
  | .hbm, ⟨33, _⟩ => ⟨S8192x3072, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S8192, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S8192x1, .f32⟩
  | .hbm, ⟨55, _⟩ => ⟨S8192x1, .f32⟩
  | .hbm, ⟨56, _⟩ => ⟨S_, .f32⟩
  | .hbm, ⟨57, _⟩ => ⟨S8192x1, .f32⟩
  | .hbm, ⟨58, _⟩ => ⟨S8192x1, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S_, .f32⟩
  | .hbm, ⟨66, _⟩ => ⟨S8192x1024, .f32⟩
  | .hbm, ⟨67, _⟩ => ⟨S8192x1024, .f32⟩
  | .hbm, ⟨68, _⟩ => ⟨S_, .f32⟩
  | .hbm, ⟨69, _⟩ => ⟨S8192x1024, .f32⟩
  | .hbm, ⟨70, _⟩ => ⟨S8192x1024, .f32⟩
  | .hbm, ⟨71, _⟩ => ⟨S_, .f32⟩
  | .hbm, ⟨72, _⟩ => ⟨S1024, .f32⟩
  | .hbm, ⟨73, _⟩ => ⟨S1x1024, .f32⟩
  | .hbm, ⟨74, _⟩ => ⟨S_, .f32⟩
  | .hbm, ⟨75, _⟩ => ⟨S1x1024, .f32⟩
  | .hbm, ⟨76, _⟩ => ⟨S1x1024, .f32⟩
  | .hbm, ⟨77, _⟩ => ⟨S_, .f32⟩
  | .hbm, ⟨78, _⟩ => ⟨S1x1024, .f32⟩
  | .hbm, ⟨79, _⟩ => ⟨S_, .f32⟩
  | .hbm, ⟨80, _⟩ => ⟨S1x1024, .f32⟩
  | .hbm, ⟨81, _⟩ => ⟨S1x1024, .f32⟩
  | .hbm, ⟨82, _⟩ => ⟨S_, .f32⟩
  | .hbm, ⟨83, _⟩ => ⟨S1024, .f32⟩
  | .hbm, ⟨84, _⟩ => ⟨S8192x1024, .f32⟩
  | .hbm, ⟨85, _⟩ => ⟨S_, .f32⟩
  | .hbm, ⟨86, _⟩ => ⟨S8192x1024, .f32⟩
  | .hbm, ⟨87, _⟩ => ⟨S8192x1024, .f32⟩
  | .hbm, ⟨88, _⟩ => ⟨S8192x1024, .f32⟩
  | .hbm, ⟨89, _⟩ => ⟨S8192x1024, .f32⟩
  | .hbm, ⟨90, _⟩ => ⟨S_, .f32⟩
  | .hbm, ⟨91, _⟩ => ⟨S1024, .f32⟩
  | .hbm, ⟨92, _⟩ => ⟨S1x1024, .f32⟩
  | .hbm, ⟨93, _⟩ => ⟨S8192x1024, .f32⟩
  | .hbm, ⟨94, _⟩ => ⟨S8192x1024, .f32⟩
  | .hbm, ⟨95, _⟩ => ⟨S8192x1024, .f32⟩
  | .hbm, ⟨96, _⟩ => ⟨S_, .f32⟩
  | .hbm, ⟨97, _⟩ => ⟨S8192, .f32⟩
  | .hbm, ⟨98, _⟩ => ⟨S8192x1, .f32⟩
  | .hbm, ⟨99, _⟩ => ⟨S8192x1024, .f32⟩
  | .hbm, ⟨100, _⟩ => ⟨S8192x1024, .f32⟩
  | .hbm, ⟨101, _⟩ => ⟨S8192x1, .f32⟩
  | .hbm, ⟨102, _⟩ => ⟨S_, .f32⟩
  | .hbm, ⟨103, _⟩ => ⟨S8192x1, .f32⟩
  | .hbm, ⟨104, _⟩ => ⟨S8192x1, .f32⟩
  | .hbm, ⟨105, _⟩ => ⟨S_, .f32⟩
  | .hbm, ⟨106, _⟩ => ⟨S8192, .f32⟩
  | .hbm, ⟨107, _⟩ => ⟨S8192x1024, .f32⟩
  | .hbm, ⟨108, _⟩ => ⟨S8192x1024, .f32⟩
  | .hbm, ⟨109, _⟩ => ⟨S8192x1024, .f32⟩
  | .hbm, ⟨110, _⟩ => ⟨S8192x1024, .f32⟩
  | .hbm, ⟨111, _⟩ => ⟨S8192x1024, .f32⟩
  | .hbm, ⟨112, _⟩ => ⟨S8192x1024, .f32⟩
  | .hbm, ⟨113, _⟩ => ⟨S8192x1024, .f32⟩
  | .hbm, ⟨114, _⟩ => ⟨S8192x1024, .f32⟩
  | .hbm, ⟨115, _⟩ => ⟨S8192x1024, .f32⟩
  | .hbm, ⟨116, _⟩ => ⟨S8192x1024, .f32⟩
  | .hbm, ⟨117, _⟩ => ⟨S8192x1024, .f32⟩
  | .hbm, ⟨118, _⟩ => ⟨S8192x1024, .f32⟩
  | .hbm, ⟨119, _⟩ => ⟨S8192x3072, .f32⟩
  | .hbm, ⟨120, _⟩ => ⟨S8192x3072, .f32⟩
  | .hbm, ⟨121, _⟩ => ⟨S8192x3072, .bf16⟩
  | .hbm, ⟨122, _⟩ => ⟨S8192x1024, .bf16⟩
  | .hbm, ⟨123, _⟩ => ⟨S8192x1024, .bf16⟩
  | .hbm, ⟨124, _⟩ => ⟨S8192x1024, .bf16⟩
  | .hbm, ⟨125, _⟩ => ⟨S8192x1024, .bf16⟩
  | .hbm, ⟨126, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_cst_0 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_2 : Ref sig .tc := ⟨.hbm, 45, rfl⟩
abbrev main_v31 : Ref sig .tc := ⟨.hbm, 46, rfl⟩
abbrev main_v32 : Ref sig .tc := ⟨.hbm, 47, rfl⟩
abbrev main_cst_3 : Ref sig .tc := ⟨.hbm, 48, rfl⟩
abbrev main_v33 : Ref sig .tc := ⟨.hbm, 49, rfl⟩
abbrev main_v34 : Ref sig .tc := ⟨.hbm, 50, rfl⟩
abbrev main_cst_4 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_5 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_6 : Ref sig .tc := ⟨.hbm, 65, rfl⟩
abbrev main_v47 : Ref sig .tc := ⟨.hbm, 66, rfl⟩
abbrev main_v48 : Ref sig .tc := ⟨.hbm, 67, rfl⟩
abbrev main_cst_7 : Ref sig .tc := ⟨.hbm, 68, rfl⟩
abbrev main_v49 : Ref sig .tc := ⟨.hbm, 69, rfl⟩
abbrev main_v50 : Ref sig .tc := ⟨.hbm, 70, rfl⟩
abbrev main_cst_8 : Ref sig .tc := ⟨.hbm, 71, rfl⟩
abbrev main_v51 : Ref sig .tc := ⟨.hbm, 72, rfl⟩
abbrev main_v52 : Ref sig .tc := ⟨.hbm, 73, rfl⟩
abbrev main_cst_9 : Ref sig .tc := ⟨.hbm, 74, rfl⟩
abbrev main_v53 : Ref sig .tc := ⟨.hbm, 75, rfl⟩
abbrev main_v54 : Ref sig .tc := ⟨.hbm, 76, rfl⟩
abbrev main_cst_10 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_cst_12 : Ref sig .tc := ⟨.hbm, 82, rfl⟩
abbrev main_v58 : Ref sig .tc := ⟨.hbm, 83, rfl⟩
abbrev main_v59 : Ref sig .tc := ⟨.hbm, 84, rfl⟩
abbrev main_cst_13 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_14 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_15 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_16 : Ref sig .tc := ⟨.hbm, 102, rfl⟩
abbrev main_v74 : Ref sig .tc := ⟨.hbm, 103, rfl⟩
abbrev main_v75 : Ref sig .tc := ⟨.hbm, 104, rfl⟩
abbrev main_cst_17 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩

abbrev nD : Nat := 1
abbrev τ : Topo := Topo.v7x

variable {F : FTy → Type} [FloatOps F]
-- ==== Kernel13.lean ====
abbrev S256x1024 : Shape := ⟨2, ![256, 1024]⟩
abbrev S1x1024 : Shape := ⟨2, ![1, 1024]⟩
abbrev S1024x2048 : Shape := ⟨2, ![1024, 2048]⟩
abbrev S_ : Shape := ⟨0, ![]⟩
abbrev S256 : Shape := ⟨1, ![256]⟩
abbrev S256x1 : Shape := ⟨2, ![256, 1]⟩
abbrev S256x2048 : Shape := ⟨2, ![256, 2048]⟩
abbrev S1024 : Shape := ⟨1, ![1024]⟩

abbrev nBuf : Space → Nat
  | .hbm => 23
  | .vmem => 8
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x2048, .bf16⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S_, .f32⟩
  | .hbm, ⟨7, _⟩ => ⟨S256, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S_, .f32⟩
  | .hbm, ⟨13, _⟩ => ⟨S256x1, .f32⟩
  | .hbm, ⟨14, _⟩ => ⟨S256x1, .f32⟩
  | .hbm, ⟨15, _⟩ => ⟨S256x1, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S256x1024, .f32⟩
  | .hbm, ⟨20, _⟩ => ⟨S256x1024, .bf16⟩
  | .hbm, ⟨21, _⟩ => ⟨S1024x2048, .bf16⟩
  | .hbm, ⟨22, _⟩ => ⟨S1x1024, .f32⟩
  | .local _ .vmem, ⟨0, _⟩ => ⟨S256x1024, .f32⟩
  | .local _ .vmem, ⟨1, _⟩ => ⟨S1x1024, .f32⟩
  | .local _ .vmem, ⟨2, _⟩ => ⟨S256x1024, .bf16⟩
  | .local _ .vmem, ⟨3, _⟩ => ⟨S1024x2048, .bf16⟩
  | .local _ .vmem, ⟨4, _⟩ => ⟨S256x1024, .f32⟩
  | .local _ .vmem, ⟨5, _⟩ => ⟨S256x1024, .f32⟩
  | .local _ .vmem, ⟨6, _⟩ => ⟨S1024x2048, .bf16⟩
  | .local _ .vmem, ⟨7, _⟩ => ⟨S1x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13_0 : Ref sig .tc := ⟨.hbm, 21, rfl⟩
abbrev main_v13_1 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Reference13Ideal.lean ====
abbrev S256x1024 : Shape := ⟨2, ![256, 1024]⟩
abbrev S1x1024 : Shape := ⟨2, ![1, 1024]⟩
abbrev S1024x2048 : Shape := ⟨2, ![1024, 2048]⟩
abbrev S_ : Shape := ⟨0, ![]⟩
abbrev S256 : Shape := ⟨1, ![256]⟩
abbrev S256x1 : Shape := ⟨2, ![256, 1]⟩
abbrev S256x2048 : Shape := ⟨2, ![256, 2048]⟩
abbrev S2048x1024 : Shape := ⟨2, ![2048, 1024]⟩
abbrev S1024 : Shape := ⟨1, ![1024]⟩

abbrev nBuf : Space → Nat
  | .hbm => 33
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x2048, .bf16⟩
  | .hbm, ⟨3, _⟩ => ⟨S256x1024, .f32⟩
  | .hbm, ⟨4, _⟩ => ⟨S256x1024, .f32⟩
  | .hbm, ⟨5, _⟩ => ⟨S1024x2048, .f32⟩
  | .hbm, ⟨6, _⟩ => ⟨S256x1024, .f32⟩
  | .hbm, ⟨7, _⟩ => ⟨S_, .f32⟩
  | .hbm, ⟨8, _⟩ => ⟨S256, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S_, .f32⟩
  | .hbm, ⟨14, _⟩ => ⟨S256x1, .f32⟩
  | .hbm, ⟨15, _⟩ => ⟨S256x1, .f32⟩
  | .hbm, ⟨16, _⟩ => ⟨S256x1, .f32⟩
  | .hbm, ⟨17, _⟩ => ⟨S256x1024, .f32⟩
  | .hbm, ⟨18, _⟩ => ⟨S256x1024, .f32⟩
  | .hbm, ⟨19, _⟩ => ⟨S256x1024, .f32⟩
  | .hbm, ⟨20, _⟩ => ⟨S256x1024, .f32⟩
  | .hbm, ⟨21, _⟩ => ⟨S256x2048, .f32⟩
  | .hbm, ⟨22, _⟩ => ⟨S256x1024, .f32⟩
  | .hbm, ⟨23, _⟩ => ⟨S256x1024, .f32⟩
  | .hbm, ⟨24, _⟩ => ⟨S256x2048, .f32⟩
  | .hbm, ⟨25, _⟩ => ⟨S2048x1024, .f32⟩
  | .hbm, ⟨26, _⟩ => ⟨S1024x2048, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S1024x2048, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Kernel14.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference14Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel15.lean ====
abbrev S8192x12544 : Shape := ⟨2, ![8192, 12544]⟩
abbrev S256x1024 : Shape := ⟨2, ![256, 1024]⟩
abbrev S8192x1024 : Shape := ⟨2, ![8192, 1024]⟩
abbrev S1024x1024 : Shape := ⟨2, ![1024, 1024]⟩
abbrev S1024x256 : Shape := ⟨2, ![1024, 256]⟩
abbrev S256x256 : Shape := ⟨2, ![256, 256]⟩
abbrev S1024 : Shape := ⟨1, ![1024]⟩
abbrev S1024x1 : Shape := ⟨2, ![1024, 1]⟩

abbrev nBuf : Space → Nat
  | .hbm => 4
  | .vmem => 6
  | .smem => 0
  | _ => 0

abbrev bufTy : (tb : Table) → Fin (tcTables nBuf tb) → BufTy
  | .hbm, ⟨0, _⟩ => ⟨S8192x12544, .f32⟩
  | .hbm, ⟨1, _⟩ => ⟨S256x1024, .bf16⟩
  | .hbm, ⟨2, _⟩ => ⟨S256x1024, .bf16⟩
  | .hbm, ⟨3, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S256x1024, .bf16⟩
  | .local _ .vmem, ⟨3, _⟩ => ⟨S256x1024, .bf16⟩
  | .local _ .vmem, ⟨4, _⟩ => ⟨S1024x1024, .bf16⟩
  | .local _ .vmem, ⟨5, _⟩ => ⟨S1024x1024, .bf16⟩
  | _, _ => ⟨S8192x12544, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference15Ideal.lean ====
abbrev S8192x12544 : Shape := ⟨2, ![8192, 12544]⟩
abbrev S256x1024 : Shape := ⟨2, ![256, 1024]⟩
abbrev S8192x1024 : Shape := ⟨2, ![8192, 1024]⟩
abbrev S8192x4x256 : Shape := ⟨3, ![8192, 4, 256]⟩
abbrev S256x4x256 : Shape := ⟨3, ![256, 4, 256]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x256x8192 : Shape := ⟨3, ![4, 256, 8192]⟩

abbrev nBuf : Space → Nat
  | .hbm => 31
  | .vmem => 0
  | .smem => 0
  | _ => 0

abbrev bufTy : (tb : Table) → Fin (tcTables nBuf tb) → BufTy
  | .hbm, ⟨0, _⟩ => ⟨S8192x12544, .f32⟩
  | .hbm, ⟨1, _⟩ => ⟨S256x1024, .bf16⟩
  | .hbm, ⟨2, _⟩ => ⟨S256x1024, .bf16⟩
  | .hbm, ⟨3, _⟩ => ⟨S8192x1024, .f32⟩
  | .hbm, ⟨4, _⟩ => ⟨S256x1024, .f32⟩
  | .hbm, ⟨5, _⟩ => ⟨S256x1024, .f32⟩
  | .hbm, ⟨6, _⟩ => ⟨S8192x4x256, .f32⟩
  | .hbm, ⟨7, _⟩ => ⟨S256x4x256, .f32⟩
  | .hbm, ⟨8, _⟩ => ⟨S256x4x256, .f32⟩
  | .hbm, ⟨9, _⟩ => ⟨S4x8192x256, .f32⟩
  | .hbm, ⟨10, _⟩ => ⟨S_, .f32⟩
  | .hbm, ⟨11, _⟩ => ⟨S4x8192x256, .f32⟩
  | .hbm, ⟨12, _⟩ => ⟨S4x8192x256, .f32⟩
  | .hbm, ⟨13, _⟩ => ⟨S_, .f32⟩
  | .hbm, ⟨14, _⟩ => ⟨S4x8192, .f32⟩
  | .hbm, ⟨15, _⟩ => ⟨S_, .f32⟩
  | .hbm, ⟨16, _⟩ => ⟨S4x8192, .f32⟩
  | .hbm, ⟨17, _⟩ => ⟨S4x8192, .f32⟩
  | .hbm, ⟨18, _⟩ => ⟨S4x8192x1, .f32⟩
  | .hbm, ⟨19, _⟩ => ⟨S4x8192x256, .f32⟩
  | .hbm, ⟨20, _⟩ => ⟨S4x8192x256, .f32⟩
  | .hbm, ⟨21, _⟩ => ⟨S4x8192x256, .f32⟩
  | .hbm, ⟨22, _⟩ => ⟨S_, .f32⟩
  | .hbm, ⟨23, _⟩ => ⟨S4x8192, .f32⟩
  | .hbm, ⟨24, _⟩ => ⟨S4x8192x1, .f32⟩
  | .hbm, ⟨25, _⟩ => ⟨S4x8192x256, .f32⟩
  | .hbm, ⟨26, _⟩ => ⟨S4x8192x256, .f32⟩
  | .hbm, ⟨27, _⟩ => ⟨S4x256x8192, .f32⟩
  | .hbm, ⟨28, _⟩ => ⟨S8192x4x256, .f32⟩
  | .hbm, ⟨29, _⟩ => ⟨S8192x1024, .f32⟩
  | .hbm, ⟨30, _⟩ => ⟨S8192x1024, .bf16⟩
  | _, _ => ⟨S8192x12544, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== Kernel16.lean ====
abbrev S256x1024 : Shape := ⟨2, ![256, 1024]⟩
abbrev S1x1024 : Shape := ⟨2, ![1, 1024]⟩
abbrev S1024x2048 : Shape := ⟨2, ![1024, 2048]⟩
abbrev S256 : Shape := ⟨1, ![256]⟩
abbrev S256x1 : Shape := ⟨2, ![256, 1]⟩
abbrev S256x2048 : Shape := ⟨2, ![256, 2048]⟩

abbrev nBuf : Space → Nat
  | .hbm => 6
  | .vmem => 6
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x2048, .bf16⟩
  | .hbm, ⟨3, _⟩ => ⟨S256x1024, .bf16⟩
  | .hbm, ⟨4, _⟩ => ⟨S256x1024, .bf16⟩
  | .hbm, ⟨5, _⟩ => ⟨S256x1024, .bf16⟩
  | .local _ .vmem, ⟨0, _⟩ => ⟨S256x1024, .f32⟩
  | .local _ .vmem, ⟨1, _⟩ => ⟨S1x1024, .f32⟩
  | .local _ .vmem, ⟨2, _⟩ => ⟨S1024x2048, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Reference16Ideal.lean ====
abbrev S256x1024 : Shape := ⟨2, ![256, 1024]⟩
abbrev S1x1024 : Shape := ⟨2, ![1, 1024]⟩
abbrev S1024x2048 : Shape := ⟨2, ![1024, 2048]⟩
abbrev S_ : Shape := ⟨0, ![]⟩
abbrev S256 : Shape := ⟨1, ![256]⟩
abbrev S256x1 : Shape := ⟨2, ![256, 1]⟩
abbrev S256x2048 : Shape := ⟨2, ![256, 2048]⟩

abbrev nBuf : Space → Nat
  | .hbm => 40
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x2048, .bf16⟩
  | .hbm, ⟨3, _⟩ => ⟨S1024x2048, .f32⟩
  | .hbm, ⟨4, _⟩ => ⟨S256x1024, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S256x2048, .f32⟩
  | .hbm, ⟨20, _⟩ => ⟨S256x1024, .f32⟩
  | .hbm, ⟨21, _⟩ => ⟨S256x1024, .f32⟩
  | .hbm, ⟨22, _⟩ => ⟨S256x1024, .bf16⟩
  | .hbm, ⟨23, _⟩ => ⟨S256x1024, .bf16⟩
  | .hbm, ⟨24, _⟩ => ⟨S256x1024, .f32⟩
  | .hbm, ⟨25, _⟩ => ⟨S_, .f32⟩
  | .hbm, ⟨26, _⟩ => ⟨S256, .f32⟩
  | .hbm, ⟨27, _⟩ => ⟨S256x1, .f32⟩
  | .hbm, ⟨28, _⟩ => ⟨S_, .f32⟩
  | .hbm, ⟨29, _⟩ => ⟨S256x1, .f32⟩
  | .hbm, ⟨30, _⟩ => ⟨S256x1, .f32⟩
  | .hbm, ⟨31, _⟩ => ⟨S_, .f32⟩
  | .hbm, ⟨32, _⟩ => ⟨S256x1, .f32⟩
  | .hbm, ⟨33, _⟩ => ⟨S256x1, .f32⟩
  | .hbm, ⟨34, _⟩ => ⟨S256x1, .f32⟩
  | .hbm, ⟨35, _⟩ => ⟨S256x1024, .f32⟩
  | .hbm, ⟨36, _⟩ => ⟨S256x1024, .f32⟩
  | .hbm, ⟨37, _⟩ => ⟨S256x1024, .f32⟩
  | .hbm, ⟨38, _⟩ => ⟨S256x1024, .f32⟩
  | .hbm, ⟨39, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]
-- ==== Proof.Attn.Math.lean ====
module

public import Idealize.ShloMosaic.Lib.Pointwise
public import Idealize.ShloMosaic.Lib.IdealHost
public import Idealize.ShloMosaic.PureOps.Ideal.Laws

/-! The gradient of one row of attention over one head, on extended reals: as a softmax's derivative is written, and as differentiating
    the softmax line by line gives it, equal where the scores are real. -/

@[expose] public section

noncomputable section

namespace Cert.Attn

open Idealize.ShloMosaic

/-- The score scale, one sixteenth, as the programs spell it. -/
def scale : EReal := Ideal.ofBits .f32 0x3D800000#32

/-- The value a row maximum starts from. -/
def low : EReal := Ideal.ofBits .f32 0xFF800000#32

theorem scale_eq : scale = (((1 : ℝ) / 16 : ℝ) : EReal) := by
  unfold scale; simp [Ideal.ofBits, Ideal.ieee, -EReal.coe_mul]; norm_num

theorem low_eq : low = ⊥ := by
  unfold low; simp [Ideal.ofBits, Ideal.ieee]

/-- Column `d` of head `h` among the four heads' columns. -/
def col (h : Fin 4) (d : Fin 256) : Fin 1024 := ⟨h.val * 256 + d.val, by omega⟩

theorem exists_col (y : Fin 1024) : ∃ h d, y = col h d :=
  ⟨⟨y.val / 256, by omega⟩, ⟨y.val % 256, by omega⟩, Fin.ext (by simp only [col]; omega)⟩

variable (q dy : Fin 256 → EReal) (k v : Fin 256 → Fin 256 → EReal)

/-- The score of a query row against key `m`. -/
def score (m : Fin 256) : EReal := (∑ d, q d * k m d) * scale
/-- The greatest score of the row. -/
def top : EReal := Finset.fold max low (fun m => score q k m) Finset.univ
/-- The exponential of a score less the greatest. -/
def expo (m : Fin 256) : EReal := Ideal.exp (score q k m - top q k)
/-- The sum of the row's exponentials. -/
def total : EReal := ∑ n, expo q k n
/-- The attention probability. -/
def prob (m : Fin 256) : EReal := Ideal.div (expo q k m) (total q k)
/-- The derivative by the probability: the output gradient against value row `m`. -/
def dprob (m : Fin 256) : EReal := ∑ d, dy d * v m d
/-- The derivative by the score product. -/
def dscore (m : Fin 256) : EReal := prob q k m * (dprob dy v m - ∑ n, dprob dy v n * prob q k n) * scale
/-- The same, by the quotient rule on exponential over sum. -/
def dscoreQuot (m : Fin 256) : EReal :=
  (Ideal.div (dprob dy v m) (total q k)
    + -(∑ n, dprob dy v n * Ideal.div 1 (total q k * total q k) * expo q k n)) * expo q k m * scale

theorem max_low_top : max low (top q k) = top q k := by rw [low_eq]; simp

/-- A sum of reals is the sum of the extended reals. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A sum of extended reals that are real is real. -/
theorem real_sum {ι : Type} (s : Finset ι) (f : ι → EReal) (h : ∀ i, ∃ a : ℝ, f i = a) : ∃ a : ℝ, ∑ i ∈ s, f i = a := by
  choose g hg using h
  exact ⟨∑ i ∈ s, g i, by rw [Finset.sum_congr rfl fun i _ => hg i]; exact (coe_sum s g).symm⟩

theorem real_fold (f : Fin 256 → ℝ) : ∃ a : ℝ, Finset.fold max low (fun m => ((f m : ℝ) : EReal)) Finset.univ = a := by
  have hb : Finset.fold max low (fun m => ((f m : ℝ) : EReal)) Finset.univ ≠ ⊥ := by
    have : ((f 0 : ℝ) : EReal) ≤ Finset.fold max low (fun m => ((f m : ℝ) : EReal)) Finset.univ :=
      (Finset.le_fold_max _).2 (Or.inr ⟨0, Finset.mem_univ _, le_rfl⟩)
    intro h; rw [h] at this; exact absurd (le_bot_iff.1 this) (EReal.coe_ne_bot _)
  have ht : Finset.fold max low (fun m => ((f m : ℝ) : EReal)) Finset.univ ≠ ⊤ := by
    refine ne_of_lt ((Finset.fold_max_lt _).2 ⟨by rw [low_eq]; exact bot_lt_top, fun m _ => EReal.coe_lt_top _⟩)
  exact ⟨_, (EReal.coe_toReal ht hb).symm⟩

/-- A real factor that is not negative moves into a sum. -/
theorem mul_sum_real {ι : Type} (c : ℝ) (hc : 0 ≤ c) (s : Finset ι) (f : ι → EReal) :
    ((c : ℝ) : EReal) * ∑ i ∈ s, f i = ∑ i ∈ s, (c : EReal) * f i := by
  classical
  induction s using Finset.induction_on with
  | empty => simp
  | insert a s ha ih => rw [Finset.sum_insert ha, Finset.sum_insert ha, EReal.left_distrib_of_nonneg_of_ne_top (by exact_mod_cast hc) (EReal.coe_ne_top c), ih]

/-- The two forms of the derivative agree where the query row and the keys are real. -/
theorem dscoreQuot_eq (hq : ∀ d, ∃ a : ℝ, q d = a) (hk : ∀ m d, ∃ a : ℝ, k m d = a) (m : Fin 256) :
    dscoreQuot q dy k v m = dscore q dy k v m := by
  have hs : ∀ m, ∃ a : ℝ, score q k m = a := fun m => by
    obtain ⟨a, ha⟩ := real_sum Finset.univ (fun d => q d * k m d) (fun d => by
      obtain ⟨a, ha⟩ := hq d; obtain ⟨b, hb⟩ := hk m d; exact ⟨a * b, by rw [ha, hb, EReal.coe_mul]⟩)
    exact ⟨a * (1 / 16), by rw [score, ha, scale_eq, EReal.coe_mul]⟩
  choose s hs using hs
  obtain ⟨t, ht⟩ := real_fold s
  have htop : top q k = t := by rw [← ht]; unfold top; simp only [hs]
  have he : ∀ m, expo q k m = ((Real.exp (s m - t) : ℝ) : EReal) := fun m => by
    rw [expo, hs, htop, ← EReal.coe_sub, Ideal.exp_coe]
  have hT : total q k = ((∑ n, Real.exp (s n - t) : ℝ) : EReal) := by
    rw [total, Finset.sum_congr rfl fun n _ => he n]; exact (coe_sum Finset.univ (fun n => Real.exp (s n - t))).symm
  have hpos : (0 : ℝ) < ∑ n, Real.exp (s n - t) := Finset.sum_pos (fun n _ => Real.exp_pos _) ⟨0, Finset.mem_univ _⟩
  unfold dscoreQuot dscore prob
  rw [hT]
  generalize (∑ n, Real.exp (s n - t)) = T at hpos
  simp only [he]
  have hd : ∀ x : EReal, Ideal.div x ((T : ℝ) : EReal) = ((T⁻¹ : ℝ) : EReal) * x := fun x => by
    rw [Ideal.div_coe hpos.ne', one_div, mul_comm]
  have hd2 : Ideal.div 1 (((T : ℝ) : EReal) * (T : EReal)) = ((T⁻¹ : ℝ) : EReal) * ((T⁻¹ : ℝ) : EReal) := by
    rw [← EReal.coe_mul, Ideal.div_coe (mul_ne_zero hpos.ne' hpos.ne'), one_mul, ← EReal.coe_mul]; congr 1; field_simp
  have hsum : (∑ n, dprob dy v n * Ideal.div 1 (((T : ℝ) : EReal) * (T : EReal)) * ((Real.exp (s n - t) : ℝ) : EReal))
      = ((T⁻¹ : ℝ) : EReal) * ∑ n, dprob dy v n * Ideal.div ((Real.exp (s n - t) : ℝ) : EReal) ((T : ℝ) : EReal) := by
    rw [mul_sum_real _ (inv_nonneg.2 hpos.le), hd2]
    refine Finset.sum_congr rfl fun n _ => ?_
    rw [hd]; ac_rfl
  rw [hsum, hd, hd, ← mul_neg, ← EReal.left_distrib_of_nonneg_of_ne_top (by exact_mod_cast (inv_nonneg.2 hpos.le)) (EReal.coe_ne_top _), ← sub_eq_add_neg]
  simp only [hd]
  ac_rfl

/-! The whole arrays' readings: head `h` of a row. -/

/-- Head `h` of query row `r`: columns 8192 and on of the projection. -/
def qRow (x : (⟨2, ![8192, 12544]⟩ : Shape).Idx → EReal) (r : Fin 8192) (h : Fin 4) (d : Fin 256) : EReal :=
  x (ix2 r ⟨8192 + (col h d).val, by have := (col h d).isLt; omega⟩)
/-- Head `h` of an array of 1024 columns. -/
def heads {R : ℕ} (x : (⟨2, ![R, 1024]⟩ : Shape).Idx → EReal) (h : Fin 4) (r : Fin R) (d : Fin 256) : EReal := x (ix2 r (col h d))

section
variable (x0 : (⟨2, ![8192, 12544]⟩ : Shape).Idx → EReal) (x1 x2 : (⟨2, ![256, 1024]⟩ : Shape).Idx → EReal)
  (x3 : (⟨2, ![8192, 1024]⟩ : Shape).Idx → EReal)

/-- The score derivative of row `r` in head `h`, against key `m`. -/
def dsAt (r : Fin 8192) (h : Fin 4) (m : Fin 256) : EReal :=
  dscore (qRow x0 r h) (heads x3 h r) (heads x1 h) (heads x2 h) m
/-- The gradient of the queries. -/
def dqAt (r : Fin 8192) (h : Fin 4) (d : Fin 256) : EReal := ∑ m, dsAt x0 x1 x2 x3 r h m * heads x1 h m d
/-- The gradient of the keys. -/
def dkAt (m : Fin 256) (h : Fin 4) (d : Fin 256) : EReal := ∑ r, dsAt x0 x1 x2 x3 r h m * qRow x0 r h d
/-- The gradient of the values. -/
def dvAt (m : Fin 256) (h : Fin 4) (d : Fin 256) : EReal := ∑ r, prob (qRow x0 r h) (heads x1 h) m * heads x3 h r d
end

end Cert.Attn
end
-- ==== Proof.Attn.Body.lean ====
module

public import proofs.«01_k».proof.Proof.Gen.KernelIdeal.Value
public import Idealize.ShloMosaic.Lib.Pointwise
public import Idealize.ShloMosaic.Lib.WritesUnit
public import proofs.«01_k».proof.Proof.Attn.Math

/-! What the kernel's body leaves in each output window, head by head. -/

@[expose] public section

set_option maxRecDepth 16384
noncomputable section

namespace Cert.KernelIdeal.Attn

open Cert.KernelIdeal Cert.KernelIdeal.Gen Idealize.ShloMosaic Idealize.ShloMosaic.TcCoe Idealize.SL.Sem Idealize.ShloMosaic.Tactic

variable {F : FTy → Type} [FloatOps F]

/-- The columns of head `h` of an array of four heads of 256 columns. -/
def headCols {R : ℕ} {e : EltTy} (h : Fin 4) (X : Vec F ⟨2, ![R, 1024]⟩ e) : Vec F ⟨2, ![R, 256]⟩ e :=
  fun j => X (ix2 (j 0) (Cert.Attn.col h (j 1)))

/-- A load of 256 columns from column `256 h` on is the columns of head `h`. -/
theorem ld_headCols {R : ℕ} {e : EltTy} (h : Fin 4) (o : ℕ) (ho : o = h.val * 256) (X : Vec F ⟨2, ![R, 1024]⟩ e)
    (inb : ∀ a, (![0, o] : Fin 2 → ℕ) a + (![R, 256] : Fin 2 → ℕ) a ≤ (⟨2, ![R, 1024]⟩ : Shape).size a) :
    View.ld X (Rect.unit (s := ⟨2, ![R, 1024]⟩) ![0, o] ![R, 256] inb) = headCols h X := by
  subst ho
  funext j
  refine congrArg X (funext fun a => Fin.ext ?_)
  show (![0, h.val * 256] : Fin 2 → ℕ) a + 1 * (j a).val = _
  fin_cases a
  · show 0 + 1 * (j 0).val = (j 0).val; omega
  · show h.val * 256 + 1 * (j 1).val = h.val * 256 + (j 1).val; omega

/-- A write over the columns of head `h` is read, at a column of that head, as its payload. -/
theorem canon_hit {R : ℕ} {e : EltTy} (h : Fin 4) (o : ℕ) (ho : o = h.val * 256)
    (inb : ∀ a, (![0, o] : Fin 2 → ℕ) a + (![R, 256] : Fin 2 → ℕ) a ≤ (⟨2, ![R, 1024]⟩ : Shape).size a)
    (w : Vec F ⟨2, ![R, 256]⟩ e) (L : List (View.Piece (Elt F) ⟨2, ![R, 1024]⟩ e)) (r : Fin R) (d : Fin 256) (y : Fin 1024)
    (hy : y.val = h.val * 256 + d.val) :
    View.canon (⟨Rect.unit (s := ⟨2, ![R, 1024]⟩) ![0, o] ![R, 256] inb, w⟩ :: L) (ix2 r y) = w (ix2 r d) := by
  subst ho
  have : (ix2 r y : (⟨2, ![R, 1024]⟩ : Shape).Idx) = (Rect.unit (s := ⟨2, ![R, 1024]⟩) ![0, h.val * 256] ![R, 256] inb).emb (ix2 r d) := by
    funext a; apply Fin.ext
    show _ = (![0, h.val * 256] : Fin 2 → ℕ) a + 1 * ((ix2 r d : (⟨2, ![R, 256]⟩ : Shape).Idx) a).val
    fin_cases a
    · show r.val = 0 + 1 * r.val; omega
    · show y.val = h.val * 256 + 1 * d.val; omega
  rw [this]
  exact View.canon_cons_emb (Rect.unit (s := ⟨2, ![R, 1024]⟩) ![0, h.val * 256] ![R, 256] inb) w L (ix2 r d)

/-- A write over the columns of another head is not met. -/
theorem canon_miss {R : ℕ} {e : EltTy} (o : ℕ)
    (inb : ∀ a, (![0, o] : Fin 2 → ℕ) a + (![R, 256] : Fin 2 → ℕ) a ≤ (⟨2, ![R, 1024]⟩ : Shape).size a)
    (w : Vec F ⟨2, ![R, 256]⟩ e) (L : List (View.Piece (Elt F) ⟨2, ![R, 1024]⟩ e)) (r : Fin R) (y : Fin 1024)
    (hy : y.val < o ∨ o + 256 ≤ y.val) :
    View.canon (⟨Rect.unit (s := ⟨2, ![R, 1024]⟩) ![0, o] ![R, 256] inb, w⟩ :: L) (ix2 r y) = View.canon L (ix2 r y) := by
  refine View.canon_cons_of_not_mem _ L ?_
  rw [Rect.mem_set_unit]
  intro h
  have := h 1
  have h1 : o ≤ y.val := this.1
  have h2 : y.val < o + 256 := this.2
  omega

/-- What a point adds to a head's gradient of k: the old contents and the product over its rows. -/
def dkStep (q : Vec F S1024x256 .f32) (k : Vec F S256x256 .bf16) (dy : Vec F S1024x256 .f32) (v : Vec F S256x256 .bf16) (acc : Vec F S256x256 .f32) : Vec F S256x256 .f32 :=
  k0_pay9 (k0_pay4 q) (k0_pay7 q k dy v) acc

/-- What a point adds to a head's gradient of v: the old contents and the product over its rows. -/
def dvStep (q : Vec F S1024x256 .f32) (k : Vec F S256x256 .bf16) (dy : Vec F S1024x256 .f32) (acc : Vec F S256x256 .f32) : Vec F S256x256 .f32 :=
  k0_pay10 (k0_pay5 q k) (k0_pay6 dy) acc

/-- A head's gradient of q over a point's rows. -/
def dqStep (q : Vec F S1024x256 .f32) (k : Vec F S256x256 .bf16) (dy : Vec F S1024x256 .f32) (v : Vec F S256x256 .bf16) : Vec F S1024x256 .bf16 :=
  k0_pay8 q k dy v k

/-- A load over the columns of another head passes a write. -/
theorem readCov_miss {R : ℕ} {e : EltTy} (v : View sig .tc .vmem ⟨2, ![R, 1024]⟩ e) (o o' : ℕ)
    (inb : ∀ a, (![0, o] : Fin 2 → ℕ) a + (![R, 256] : Fin 2 → ℕ) a ≤ (⟨2, ![R, 1024]⟩ : Shape).size a)
    (inb' : ∀ a, (![0, o'] : Fin 2 → ℕ) a + (![R, 256] : Fin 2 → ℕ) a ≤ (⟨2, ![R, 1024]⟩ : Shape).size a)
    (w : Vec F ⟨2, ![R, 256]⟩ e) (L : List (View.Piece (Elt F) ⟨2, ![R, 1024]⟩ e)) (h : o + 256 ≤ o' ∨ o' + 256 ≤ o) :
    v.readCov (⟨Rect.unit (s := ⟨2, ![R, 1024]⟩) ![0, o] ![R, 256] inb, w⟩ :: L) (Rect.unit (s := ⟨2, ![R, 1024]⟩) ![0, o'] ![R, 256] inb').toLoadRect
      = v.readCov L (Rect.unit (s := ⟨2, ![R, 1024]⟩) ![0, o'] ![R, 256] inb').toLoadRect := by
  rw [View.readCov_eq_canon', View.readCov_eq_canon']
  funext j
  refine View.canon_cons_of_not_mem _ L ?_
  rw [Rect.mem_set_unit]
  intro hm
  have h1 : o ≤ o' + 1 * (j 1).val := (hm 1).1
  have h2 : o' + 1 * (j 1).val < o + 256 := (hm 1).2
  have h3 : (j 1).val < 256 := (j 1).isLt
  omega

/-- A load over the columns of head `h` of a window whose whole rectangle was written. -/
theorem readCov_whole {R : ℕ} {e : EltTy} (v : View sig .tc .vmem ⟨2, ![R, 1024]⟩ e) (h : Fin 4) (o : ℕ) (ho : o = h.val * 256)
    (inb : ∀ a, (![0, 0] : Fin 2 → ℕ) a + (![R, 1024] : Fin 2 → ℕ) a ≤ (⟨2, ![R, 1024]⟩ : Shape).size a)
    (inb' : ∀ a, (![0, o] : Fin 2 → ℕ) a + (![R, 256] : Fin 2 → ℕ) a ≤ (⟨2, ![R, 1024]⟩ : Shape).size a)
    (w : Vec F ⟨2, ![R, 1024]⟩ e) :
    v.readCov [⟨Rect.unit (s := ⟨2, ![R, 1024]⟩) ![0, 0] ![R, 1024] inb, w⟩] (Rect.unit (s := ⟨2, ![R, 1024]⟩) ![0, o] ![R, 256] inb').toLoadRect
      = headCols h w := by
  rw [← ld_headCols h o ho w inb', View.readCov_eq_canon']
  funext j
  refine Eq.trans ?_ (View.canon_cons_emb (Rect.unit (s := ⟨2, ![R, 1024]⟩) ![0, 0] ![R, 1024] inb) w [] ((Rect.unit (s := ⟨2, ![R, 1024]⟩) ![0, o] ![R, 256] inb').toLoadRect.idx j))
  refine congrArg _ (funext fun a => Fin.ext ?_)
  show _ = (![0, 0] : Fin 2 → ℕ) a + 1 * (((Rect.unit (s := ⟨2, ![R, 1024]⟩) ![0, o] ![R, 256] inb').toLoadRect.idx j) a).val
  fin_cases a <;> simp

theorem out0_A_4_apply (c : Dev nD) (i : grid0.Coords) (arg1 : Memref sig .tc .vmem S1024x1024 .f32) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S1024x1024 .f32) (harg4 : arg4.IsWhole) (arg6 : Memref sig .tc .vmem S1024x1024 .bf16) (harg6 : arg6.IsWhole) (arg7 : Memref sig .tc .vmem S256x1024 .f32) (harg7 : arg7.IsWhole) (arg8 : Memref sig .tc .vmem S256x1024 .f32) (harg8 : arg8.IsWhole) (hc0 : cond0_0 i)
    (x0 : Vec F S1024x1024 .f32) (x1 : Vec F S256x1024 .bf16) (x2 : Vec F S256x1024 .bf16) (x3 : Vec F S1024x1024 .f32)
    (h : Fin 4) (r : Fin 1024) (d : Fin 256) (y : Fin 1024) (hy : y.val = h.val * 256 + d.val) :
    out0_A_4 c i arg1 harg1 arg2 harg2 arg3 harg3 arg4 harg4 arg6 harg6 arg7 harg7 arg8 harg8 hc0 x0 x1 x2 x3 (ix2 r y)
      = dqStep (headCols h x0) (headCols h x1) (headCols h x3) (headCols h x2) (ix2 r d) := by
  unfold out0_A_4
  rw [View.read_writes_junk_eq_canon]
  unfold kernelRun0_A
  dsimp only; sl_unfold_words
  simp only [Memref.IsWhole.read_unread, View.readAt_eq_ld, harg1, harg2, harg3, harg4, harg7, harg8]
  simp only [ld_headCols 0 0 rfl, ld_headCols 1 256 rfl, ld_headCols 2 512 rfl, ld_headCols 3 768 rfl]
  fin_cases h
  · rw [canon_miss _ _ _ _ _ _ (by simp at hy ⊢; omega), canon_miss _ _ _ _ _ _ (by simp at hy ⊢; omega), canon_miss _ _ _ _ _ _ (by simp at hy ⊢; omega), canon_hit 0 _ (by rfl) _ _ _ _ d _ hy]
    rfl
  · rw [canon_miss _ _ _ _ _ _ (by simp at hy ⊢; omega), canon_miss _ _ _ _ _ _ (by simp at hy ⊢; omega), canon_hit 1 _ (by rfl) _ _ _ _ d _ hy]
    rfl
  · rw [canon_miss _ _ _ _ _ _ (by simp at hy ⊢; omega), canon_hit 2 _ (by rfl) _ _ _ _ d _ hy]
    rfl
  · rw [canon_hit 3 _ (by rfl) _ _ _ _ d _ hy]
    rfl

theorem out0_A_5_apply (c : Dev nD) (i : grid0.Coords) (arg1 : Memref sig .tc .vmem S1024x1024 .f32) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S1024x1024 .f32) (harg4 : arg4.IsWhole) (arg6 : Memref sig .tc .vmem S1024x1024 .bf16) (harg6 : arg6.IsWhole) (arg7 : Memref sig .tc .vmem S256x1024 .f32) (harg7 : arg7.IsWhole) (arg8 : Memref sig .tc .vmem S256x1024 .f32) (harg8 : arg8.IsWhole) (hc0 : cond0_0 i)
    (x0 : Vec F S1024x1024 .f32) (x1 : Vec F S256x1024 .bf16) (x2 : Vec F S256x1024 .bf16) (x3 : Vec F S1024x1024 .f32)
    (h : Fin 4) (r : Fin 256) (d : Fin 256) (y : Fin 1024) (hy : y.val = h.val * 256 + d.val) :
    out0_A_5 c i arg1 harg1 arg2 harg2 arg3 harg3 arg4 harg4 arg6 harg6 arg7 harg7 arg8 harg8 hc0 x0 x1 x2 x3 (ix2 r y)
      = dkStep (headCols h x0) (headCols h x1) (headCols h x3) (headCols h x2) (headCols h k0_pay2) (ix2 r d) := by
  unfold out0_A_5
  rw [View.read_writes_junk_eq_canon]
  unfold kernelRun0_A
  dsimp only; sl_unfold_words
  simp only [Memref.IsWhole.read_unread, View.readAt_eq_ld, harg1, harg2, harg3, harg4, harg7, harg8]
  simp only [ld_headCols 0 0 rfl, ld_headCols 1 256 rfl, ld_headCols 2 512 rfl, ld_headCols 3 768 rfl]
  fin_cases h
  · rw [canon_miss _ _ _ _ _ _ (by simp at hy ⊢; omega), canon_miss _ _ _ _ _ _ (by simp at hy ⊢; omega), canon_miss _ _ _ _ _ _ (by simp at hy ⊢; omega), canon_hit 0 _ (by rfl) _ _ _ _ d _ hy]
    rw [readCov_whole _ 0 _ (by rfl)]; rfl
  · rw [canon_miss _ _ _ _ _ _ (by simp at hy ⊢; omega), canon_miss _ _ _ _ _ _ (by simp at hy ⊢; omega), canon_hit 1 _ (by rfl) _ _ _ _ d _ hy]
    rw [readCov_miss _ _ _ _ _ _ _ (by omega), readCov_whole _ 1 _ (by rfl)]; rfl
  · rw [canon_miss _ _ _ _ _ _ (by simp at hy ⊢; omega), canon_hit 2 _ (by rfl) _ _ _ _ d _ hy]
    rw [readCov_miss _ _ _ _ _ _ _ (by omega), readCov_miss _ _ _ _ _ _ _ (by omega), readCov_whole _ 2 _ (by rfl)]; rfl
  · rw [canon_hit 3 _ (by rfl) _ _ _ _ d _ hy]
    rw [readCov_miss _ _ _ _ _ _ _ (by omega), readCov_miss _ _ _ _ _ _ _ (by omega), readCov_miss _ _ _ _ _ _ _ (by omega), readCov_whole _ 3 _ (by rfl)]; rfl

theorem out0_A_6_apply (c : Dev nD) (i : grid0.Coords) (arg1 : Memref sig .tc .vmem S1024x1024 .f32) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S1024x1024 .f32) (harg4 : arg4.IsWhole) (arg6 : Memref sig .tc .vmem S1024x1024 .bf16) (harg6 : arg6.IsWhole) (arg7 : Memref sig .tc .vmem S256x1024 .f32) (harg7 : arg7.IsWhole) (arg8 : Memref sig .tc .vmem S256x1024 .f32) (harg8 : arg8.IsWhole) (hc0 : cond0_0 i)
    (x0 : Vec F S1024x1024 .f32) (x1 : Vec F S256x1024 .bf16) (x2 : Vec F S256x1024 .bf16) (x3 : Vec F S1024x1024 .f32)
    (h : Fin 4) (r : Fin 256) (d : Fin 256) (y : Fin 1024) (hy : y.val = h.val * 256 + d.val) :
    out0_A_6 c i arg1 harg1 arg2 harg2 arg3 harg3 arg4 harg4 arg6 harg6 arg7 harg7 arg8 harg8 hc0 x0 x1 x2 x3 (ix2 r y)
      = dvStep (headCols h x0) (headCols h x1) (headCols h x3) (headCols h k0_pay3) (ix2 r d) := by
  unfold out0_A_6
  rw [View.read_writes_junk_eq_canon]
  unfold kernelRun0_A
  dsimp only; sl_unfold_words
  simp only [Memref.IsWhole.read_unread, View.readAt_eq_ld, harg1, harg2, harg3, harg4, harg7, harg8]
  simp only [ld_headCols 0 0 rfl, ld_headCols 1 256 rfl, ld_headCols 2 512 rfl, ld_headCols 3 768 rfl]
  fin_cases h
  · rw [canon_miss _ _ _ _ _ _ (by simp at hy ⊢; omega), canon_miss _ _ _ _ _ _ (by simp at hy ⊢; omega), canon_miss _ _ _ _ _ _ (by simp at hy ⊢; omega), canon_hit 0 _ (by rfl) _ _ _ _ d _ hy]
    rw [readCov_whole _ 0 _ (by rfl)]; rfl
  · rw [canon_miss _ _ _ _ _ _ (by simp at hy ⊢; omega), canon_miss _ _ _ _ _ _ (by simp at hy ⊢; omega), canon_hit 1 _ (by rfl) _ _ _ _ d _ hy]
    rw [readCov_miss _ _ _ _ _ _ _ (by omega), readCov_whole _ 1 _ (by rfl)]; rfl
  · rw [canon_miss _ _ _ _ _ _ (by simp at hy ⊢; omega), canon_hit 2 _ (by rfl) _ _ _ _ d _ hy]
    rw [readCov_miss _ _ _ _ _ _ _ (by omega), readCov_miss _ _ _ _ _ _ _ (by omega), readCov_whole _ 2 _ (by rfl)]; rfl
  · rw [canon_hit 3 _ (by rfl) _ _ _ _ d _ hy]
    rw [readCov_miss _ _ _ _ _ _ _ (by omega), readCov_miss _ _ _ _ _ _ _ (by omega), readCov_miss _ _ _ _ _ _ _ (by omega), readCov_whole _ 3 _ (by rfl)]; rfl

theorem out0_B_4_apply (c : Dev nD) (i : grid0.Coords) (arg1 : Memref sig .tc .vmem S1024x1024 .f32) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S1024x1024 .f32) (harg4 : arg4.IsWhole) (arg6 : Memref sig .tc .vmem S1024x1024 .bf16) (harg6 : arg6.IsWhole) (arg7 : Memref sig .tc .vmem S256x1024 .f32) (harg7 : arg7.IsWhole) (arg8 : Memref sig .tc .vmem S256x1024 .f32) (harg8 : arg8.IsWhole) (hc0 : ¬cond0_0 i)
    (x0 : Vec F S1024x1024 .f32) (x1 : Vec F S256x1024 .bf16) (x2 : Vec F S256x1024 .bf16) (x3 : Vec F S1024x1024 .f32) (xo5 : Vec F S256x1024 .f32) (xo6 : Vec F S256x1024 .f32)
    (h : Fin 4) (r : Fin 1024) (d : Fin 256) (y : Fin 1024) (hy : y.val = h.val * 256 + d.val) :
    out0_B_4 c i arg1 harg1 arg2 harg2 arg3 harg3 arg4 harg4 arg6 harg6 arg7 harg7 arg8 harg8 hc0 x0 x1 x2 x3 xo5 xo6 (ix2 r y)
      = dqStep (headCols h x0) (headCols h x1) (headCols h x3) (headCols h x2) (ix2 r d) := by
  unfold out0_B_4
  rw [View.read_writes_junk_eq_canon]
  unfold kernelRun0_B
  dsimp only; sl_unfold_words
  simp only [Memref.IsWhole.read_unread, View.readAt_eq_ld, harg1, harg2, harg3, harg4, harg7, harg8]
  simp only [ld_headCols 0 0 rfl, ld_headCols 1 256 rfl, ld_headCols 2 512 rfl, ld_headCols 3 768 rfl]
  fin_cases h
  · rw [canon_miss _ _ _ _ _ _ (by simp at hy ⊢; omega), canon_miss _ _ _ _ _ _ (by simp at hy ⊢; omega), canon_miss _ _ _ _ _ _ (by simp at hy ⊢; omega), canon_hit 0 _ (by rfl) _ _ _ _ d _ hy]
    rfl
  · rw [canon_miss _ _ _ _ _ _ (by simp at hy ⊢; omega), canon_miss _ _ _ _ _ _ (by simp at hy ⊢; omega), canon_hit 1 _ (by rfl) _ _ _ _ d _ hy]
    rfl
  · rw [canon_miss _ _ _ _ _ _ (by simp at hy ⊢; omega), canon_hit 2 _ (by rfl) _ _ _ _ d _ hy]
    rfl
  · rw [canon_hit 3 _ (by rfl) _ _ _ _ d _ hy]
    rfl

theorem out0_B_5_apply (c : Dev nD) (i : grid0.Coords) (arg1 : Memref sig .tc .vmem S1024x1024 .f32) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S1024x1024 .f32) (harg4 : arg4.IsWhole) (arg6 : Memref sig .tc .vmem S1024x1024 .bf16) (harg6 : arg6.IsWhole) (arg7 : Memref sig .tc .vmem S256x1024 .f32) (harg7 : arg7.IsWhole) (arg8 : Memref sig .tc .vmem S256x1024 .f32) (harg8 : arg8.IsWhole) (hc0 : ¬cond0_0 i)
    (x0 : Vec F S1024x1024 .f32) (x1 : Vec F S256x1024 .bf16) (x2 : Vec F S256x1024 .bf16) (x3 : Vec F S1024x1024 .f32) (xo5 : Vec F S256x1024 .f32) (xo6 : Vec F S256x1024 .f32)
    (h : Fin 4) (r : Fin 256) (d : Fin 256) (y : Fin 1024) (hy : y.val = h.val * 256 + d.val) :
    out0_B_5 c i arg1 harg1 arg2 harg2 arg3 harg3 arg4 harg4 arg6 harg6 arg7 harg7 arg8 harg8 hc0 x0 x1 x2 x3 xo5 xo6 (ix2 r y)
      = dkStep (headCols h x0) (headCols h x1) (headCols h x3) (headCols h x2) (headCols h xo5) (ix2 r d) := by
  unfold out0_B_5
  rw [View.read_writes_junk_eq_canon]
  unfold kernelRun0_B
  dsimp only; sl_unfold_words
  simp only [Memref.IsWhole.read_unread, View.readAt_eq_ld, harg1, harg2, harg3, harg4, harg7, harg8]
  simp only [ld_headCols 0 0 rfl, ld_headCols 1 256 rfl, ld_headCols 2 512 rfl, ld_headCols 3 768 rfl]
  fin_cases h
  · rw [canon_miss _ _ _ _ _ _ (by simp at hy ⊢; omega), canon_miss _ _ _ _ _ _ (by simp at hy ⊢; omega), canon_miss _ _ _ _ _ _ (by simp at hy ⊢; omega), canon_hit 0 _ (by rfl) _ _ _ _ d _ hy]
    rfl
  · rw [canon_miss _ _ _ _ _ _ (by simp at hy ⊢; omega), canon_miss _ _ _ _ _ _ (by simp at hy ⊢; omega), canon_hit 1 _ (by rfl) _ _ _ _ d _ hy]
    rfl
  · rw [canon_miss _ _ _ _ _ _ (by simp at hy ⊢; omega), canon_hit 2 _ (by rfl) _ _ _ _ d _ hy]
    rfl
  · rw [canon_hit 3 _ (by rfl) _ _ _ _ d _ hy]
    rfl

theorem out0_B_6_apply (c : Dev nD) (i : grid0.Coords) (arg1 : Memref sig .tc .vmem S1024x1024 .f32) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S1024x1024 .f32) (harg4 : arg4.IsWhole) (arg6 : Memref sig .tc .vmem S1024x1024 .bf16) (harg6 : arg6.IsWhole) (arg7 : Memref sig .tc .vmem S256x1024 .f32) (harg7 : arg7.IsWhole) (arg8 : Memref sig .tc .vmem S256x1024 .f32) (harg8 : arg8.IsWhole) (hc0 : ¬cond0_0 i)
    (x0 : Vec F S1024x1024 .f32) (x1 : Vec F S256x1024 .bf16) (x2 : Vec F S256x1024 .bf16) (x3 : Vec F S1024x1024 .f32) (xo5 : Vec F S256x1024 .f32) (xo6 : Vec F S256x1024 .f32)
    (h : Fin 4) (r : Fin 256) (d : Fin 256) (y : Fin 1024) (hy : y.val = h.val * 256 + d.val) :
    out0_B_6 c i arg1 harg1 arg2 harg2 arg3 harg3 arg4 harg4 arg6 harg6 arg7 harg7 arg8 harg8 hc0 x0 x1 x2 x3 xo5 xo6 (ix2 r y)
      = dvStep (headCols h x0) (headCols h x1) (headCols h x3) (headCols h xo6) (ix2 r d) := by
  unfold out0_B_6
  rw [View.read_writes_junk_eq_canon]
  unfold kernelRun0_B
  dsimp only; sl_unfold_words
  simp only [Memref.IsWhole.read_unread, View.readAt_eq_ld, harg1, harg2, harg3, harg4, harg7, harg8]
  simp only [ld_headCols 0 0 rfl, ld_headCols 1 256 rfl, ld_headCols 2 512 rfl, ld_headCols 3 768 rfl]
  fin_cases h
  · rw [canon_miss _ _ _ _ _ _ (by simp at hy ⊢; omega), canon_miss _ _ _ _ _ _ (by simp at hy ⊢; omega), canon_miss _ _ _ _ _ _ (by simp at hy ⊢; omega), canon_hit 0 _ (by rfl) _ _ _ _ d _ hy]
    rfl
  · rw [canon_miss _ _ _ _ _ _ (by simp at hy ⊢; omega), canon_miss _ _ _ _ _ _ (by simp at hy ⊢; omega), canon_hit 1 _ (by rfl) _ _ _ _ d _ hy]
    rfl
  · rw [canon_miss _ _ _ _ _ _ (by simp at hy ⊢; omega), canon_hit 2 _ (by rfl) _ _ _ _ d _ hy]
    rfl
  · rw [canon_hit 3 _ (by rfl) _ _ _ _ d _ hy]
    rfl

end Cert.KernelIdeal.Attn
end
-- ==== Proof.Attn.Kernel.lean ====
module

public import proofs.«01_k».proof.Proof.Attn.Body
public import Idealize.ShloMosaic.Lib.Pipeline.ValueKit
public import Idealize.ShloMosaic.Lib.Pointwise.Sums

/-! The three arrays the kernel ends with, on extended reals. -/

@[expose] public section

set_option maxRecDepth 16384
noncomputable section

namespace Cert.KernelIdeal.Attn

open Cert.KernelIdeal Cert.KernelIdeal.Gen Idealize.ShloMosaic Idealize.ShloMosaic.TcCoe Idealize.SL.Sem Idealize.ShloMosaic.Tactic
open Cert.Attn (col qRow heads dsAt dqAt dkAt dvAt prob dscore)

/-! The arithmetic of one head over one block of rows. -/

section
variable (q dy : Vec Ideal S1024x256 .f32) (k v : Vec Ideal S256x256 .bf16) (acc : Vec Ideal S256x256 .f32)

theorem pay5_at (r : Fin 1024) (m : Fin 256) :
    k0_pay5 q k (ix2 r m) = prob (fun d => q (ix2 r d)) (fun m d => k (ix2 m d)) m := by
  unfold k0_pay5 k0_pay4; pointwise; rfl

theorem pay7_at (r : Fin 1024) (m : Fin 256) :
    k0_pay7 q k dy v (ix2 r m)
      = dscore (fun d => q (ix2 r d)) (fun d => dy (ix2 r d)) (fun m d => k (ix2 m d)) (fun m d => v (ix2 m d)) m := by
  unfold k0_pay7 k0_pay6; pointwise
  simp only [pay5_at]; rfl

theorem dqStep_at (r : Fin 1024) (d : Fin 256) :
    dqStep q k dy v (ix2 r d)
      = ∑ m, dscore (fun d => q (ix2 r d)) (fun d => dy (ix2 r d)) (fun m d => k (ix2 m d)) (fun m d => v (ix2 m d)) m * k (ix2 m d) := by
  unfold dqStep k0_pay8; pointwise
  simp only [pay7_at]

theorem dkStep_at (m d : Fin 256) :
    dkStep q k dy v acc (ix2 m d) = acc (ix2 m d) + ∑ r, dscore (fun d => q (ix2 r d)) (fun d => dy (ix2 r d)) (fun m d => k (ix2 m d)) (fun m d => v (ix2 m d)) m * q (ix2 r d) := by
  unfold dkStep k0_pay9 k0_pay4; pointwise
  simp only [pay7_at]

theorem dvStep_at (m d : Fin 256) :
    dvStep q k dy acc (ix2 m d) = acc (ix2 m d) + ∑ r, prob (fun d => q (ix2 r d)) (fun m d => k (ix2 m d)) m * dy (ix2 r d) := by
  unfold dvStep k0_pay10 k0_pay6; pointwise
  simp only [pay5_at]
end

theorem pay2_at (i : S256x1024.Idx) : k0_pay2 (F := Ideal) i = 0 := by
  unfold k0_pay2; pointwise
theorem pay3_at (i : S256x1024.Idx) : k0_pay3 (F := Ideal) i = 0 := by
  unfold k0_pay3; pointwise

/-! The blocks a grid point reads. -/

variable (m : (ℓ : Loc nD τ sig) → Buf (Elt Ideal) ℓ)

theorem e0 : ∀ t : Fin cfg0.N, win0_0.index t = ![t.val, 8] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![t.val, 0] := (by decide +kernel : ∀ t : Fin grid0.N, _)
theorem e4 : ∀ t : Fin cfg0.N, win0_4.index t = ![t.val, 8] := (by decide +kernel : ∀ t : Fin grid0.N, _)
theorem e5 : ∀ t : Fin cfg0.N, win0_5.index t = ![0, 0] := (by decide +kernel : ∀ t : Fin grid0.N, _)
theorem e6 : ∀ t : Fin cfg0.N, win0_6.index t = ![0, 0] := (by decide +kernel : ∀ t : Fin grid0.N, _)

/-- The row of the whole array that row `r` of point `t`'s block is. -/
def rowAt (t : Fin 8) (r : Fin 1024) : Fin 8192 := ⟨t.val * 1024 + r.val, by omega⟩

theorem blk1_at (c : Dev nD) (t : Fin cfg0.N) (i : S256x1024.Idx) :
    iblk m c 1 t i = m ((c : Thread nD τ).loc main_arg1) i := by
  blk_simp [iblk, V_main_arg1]
  congr 1
  funext a; apply Fin.ext
  fin_cases a <;> blk_simp [e1] <;> omega

theorem blk2_at (c : Dev nD) (t : Fin cfg0.N) (i : S256x1024.Idx) :
    iblk m c 2 t i = m ((c : Thread nD τ).loc main_arg2) i := by
  blk_simp [iblk, V_main_arg2]
  congr 1
  funext a; apply Fin.ext
  fin_cases a <;> blk_simp [e2] <;> omega

theorem blk3_at (c : Dev nD) (t : Fin cfg0.N) (r y : Fin 1024) :
    iblk m c 3 t (ix2 r y) = m ((c : Thread nD τ).loc main_arg3) (ix2 (rowAt t r) y) := by
  blk_simp [iblk, V_main_arg3]
  congr 1
  funext a; apply Fin.ext
  fin_cases a <;> blk_simp [e3] <;> rfl

theorem blk0_at (c : Dev nD) (t : Fin cfg0.N) (r y : Fin 1024) :
    X0_0 m c t (ix2 r y) = m ((c : Thread nD τ).loc main_arg0) (ix2 (rowAt t r) ⟨8192 + y.val, by omega⟩) := by
  unfold X0_0 Pipeline.Window.fill
  rw [dif_pos (moved0_0 t _)]
  blk_simp [iblk, V_main_arg0]
  congr 1
  funext a; apply Fin.ext
  fin_cases a <;> blk_simp [e0] <;> rfl

variable (c : Dev nD)

/-- The arguments, as launched. -/
abbrev A0 : (⟨2, ![8192, 12544]⟩ : Shape).Idx → EReal := m ((c : Thread nD τ).loc main_arg0)
abbrev A1 : (⟨2, ![256, 1024]⟩ : Shape).Idx → EReal := m ((c : Thread nD τ).loc main_arg1)
abbrev A2 : (⟨2, ![256, 1024]⟩ : Shape).Idx → EReal := m ((c : Thread nD τ).loc main_arg2)
abbrev A3 : (⟨2, ![8192, 1024]⟩ : Shape).Idx → EReal := m ((c : Thread nD τ).loc main_arg3)

theorem hq_at (t : Fin cfg0.N) (h : Fin 4) (r : Fin 1024) (d : Fin 256) :
    headCols (F := Ideal) h (X0_0 m c t) (ix2 r d) = qRow (A0 m c) (rowAt t r) h d := blk0_at m c t r (col h d)
theorem hk_at (t : Fin cfg0.N) (h : Fin 4) (n d : Fin 256) :
    headCols (F := Ideal) h (iblk m c 1 t : Vec Ideal S256x1024 .bf16) (ix2 n d) = heads (A1 m c) h n d := blk1_at m c t (ix2 n (col h d))
theorem hv_at (t : Fin cfg0.N) (h : Fin 4) (n d : Fin 256) :
    headCols (F := Ideal) h (iblk m c 2 t : Vec Ideal S256x1024 .bf16) (ix2 n d) = heads (A2 m c) h n d := blk2_at m c t (ix2 n (col h d))
theorem hdy_at (t : Fin cfg0.N) (h : Fin 4) (r : Fin 1024) (d : Fin 256) :
    headCols (F := Ideal) h (iblk m c 3 t : Vec Ideal S1024x1024 .f32) (ix2 r d) = heads (A3 m c) h (rowAt t r) d := blk3_at m c t r (col h d)

/-- What point `t` adds to the gradient of the keys. -/
def dkTile (n : Fin 256) (h : Fin 4) (d : Fin 256) (t : Fin 8) : EReal :=
  ∑ r, dsAt (A0 m c) (A1 m c) (A2 m c) (A3 m c) (rowAt t r) h n * qRow (A0 m c) (rowAt t r) h d
/-- What point `t` adds to the gradient of the values. -/
def dvTile (n : Fin 256) (h : Fin 4) (d : Fin 256) (t : Fin 8) : EReal :=
  ∑ r, prob (qRow (A0 m c) (rowAt t r) h) (heads (A1 m c) h) n * heads (A3 m c) h (rowAt t r) d

theorem dq_block (t : Fin cfg0.N) (h : Fin 4) (r : Fin 1024) (d : Fin 256) :
    dqStep (F := Ideal) (headCols h (X0_0 m c t)) (headCols h (iblk m c 1 t : Vec Ideal S256x1024 .bf16)) (headCols h (iblk m c 3 t : Vec Ideal S1024x1024 .f32)) (headCols h (iblk m c 2 t : Vec Ideal S256x1024 .bf16)) (ix2 r d)
      = dqAt (A0 m c) (A1 m c) (A2 m c) (A3 m c) (rowAt t r) h d := by
  rw [dqStep_at]
  simp only [hq_at, hk_at, hv_at, hdy_at]; rfl

theorem dk_block (t : Fin cfg0.N) (h : Fin 4) (n d : Fin 256) (acc : Vec Ideal S256x256 .f32) :
    dkStep (F := Ideal) (headCols h (X0_0 m c t)) (headCols h (iblk m c 1 t : Vec Ideal S256x1024 .bf16)) (headCols h (iblk m c 3 t : Vec Ideal S1024x1024 .f32)) (headCols h (iblk m c 2 t : Vec Ideal S256x1024 .bf16)) acc (ix2 n d)
      = acc (ix2 n d) + dkTile m c n h d t := by
  rw [dkStep_at]
  simp only [hq_at, hk_at, hv_at, hdy_at]; rfl

theorem dv_block (t : Fin cfg0.N) (h : Fin 4) (n d : Fin 256) (acc : Vec Ideal S256x256 .f32) :
    dvStep (F := Ideal) (headCols h (X0_0 m c t)) (headCols h (iblk m c 1 t : Vec Ideal S256x1024 .bf16)) (headCols h (iblk m c 3 t : Vec Ideal S1024x1024 .f32)) acc (ix2 n d)
      = acc (ix2 n d) + dvTile m c n h d t := by
  rw [dvStep_at]
  simp only [hq_at, hk_at, hdy_at]; rfl

/-! The accumulation over the grid. -/

/-- A sum of the first points' tiles. -/
def upTo (f : Fin 8 → EReal) (n : ℕ) : EReal := ∑ i ∈ Finset.range (n + 1), if hi : i < 8 then f ⟨i, hi⟩ else 0

theorem upTo_zero (f : Fin 8 → EReal) : upTo f 0 = f 0 := by simp [upTo]
theorem upTo_succ (f : Fin 8 → EReal) (n : ℕ) (hn : n + 1 < 8) : upTo f (n + 1) = upTo f n + f ⟨n + 1, hn⟩ := by
  unfold upTo; rw [Finset.sum_range_succ, dif_pos hn]
theorem upTo_last (f : Fin 8 → EReal) : upTo f 7 = ∑ i, f i := by
  unfold upTo; rw [Finset.sum_range]; exact Finset.sum_congr rfl fun i _ => dif_pos i.isLt

theorem outs_at (h : Fin 4) (n d : Fin 256) : ∀ (t : ℕ) (ht : t < cfg0.N),
    (outsAt0 m c t ht).2.1 (ix2 n (col h d)) = upTo (dkTile m c n h d) t
      ∧ (outsAt0 m c t ht).2.2 (ix2 n (col h d)) = upTo (dvTile m c n h d) t
  | 0, ht => by
    rw [outsAt0_A m c ⟨0, ht⟩ rfl]
    dsimp only
    rw [out0_A_5_apply c _ _ _ _ _ _ _ _ _ _ _ _ _ _ _ _ _ _ _ _ h n d _ rfl, out0_A_6_apply c _ _ _ _ _ _ _ _ _ _ _ _ _ _ _ _ _ _ _ _ h n d _ rfl,
      dk_block, dv_block, upTo_zero, upTo_zero]
    simp only [headCols, pay2_at, pay3_at, zero_add]
    exact ⟨rfl, rfl⟩
  | t + 1, ht => by
    have ht8 : t + 1 < 8 := ht
    rw [outsAt0_B m c ⟨t + 1, ht⟩ (by show ¬(t + 1) % 8 = 0; omega)]
    dsimp only
    rw [out0_B_5_apply c _ _ _ _ _ _ _ _ _ _ _ _ _ _ _ _ _ _ _ _ _ _ h n d _ rfl, out0_B_6_apply c _ _ _ _ _ _ _ _ _ _ _ _ _ _ _ _ _ _ _ _ _ _ h n d _ rfl,
      dk_block, dv_block, upTo_succ _ _ ht8, upTo_succ _ _ ht8]
    have ih := outs_at h n d t (by omega)
    exact ⟨congrArg (· + _) ih.1, congrArg (· + _) ih.2⟩

theorem dk_total (n : Fin 256) (h : Fin 4) (d : Fin 256) : upTo (dkTile m c n h d) 7 = dkAt (A0 m c) (A1 m c) (A2 m c) (A3 m c) n h d := by
  rw [upTo_last]; exact (Fin.sum_univ_tiles 8 1024 rfl fun r => dsAt (A0 m c) (A1 m c) (A2 m c) (A3 m c) r h n * qRow (A0 m c) r h d).symm
theorem dv_total (n : Fin 256) (h : Fin 4) (d : Fin 256) : upTo (dvTile m c n h d) 7 = dvAt (A0 m c) (A1 m c) (A3 m c) n h d := by
  rw [upTo_last]; exact (Fin.sum_univ_tiles 8 1024 rfl fun r => prob (qRow (A0 m c) r h) (heads (A1 m c) h) n * heads (A3 m c) h r d).symm

theorem final5 (n : Fin 256) (h : Fin 4) (d : Fin 256) :
    (dats m 0 c).arrAt 5 cfg0.N (ix2 n (col h d)) = dkAt (A0 m c) (A1 m c) (A2 m c) (A3 m c) n h d := by
  refine ((dats m 0 c).arrAt_emb_eq_after_last 5 ⟨7, by decide⟩ (by decide +kernel) (ix2 n (col h d))).trans ?_
  exact (congrFun (after0_5 m c ⟨7, by decide⟩) _).trans ((outs_at m c h n d 7 (by decide)).1.trans (dk_total m c n h d))

theorem final6 (n : Fin 256) (h : Fin 4) (d : Fin 256) :
    (dats m 0 c).arrAt 6 cfg0.N (ix2 n (col h d)) = dvAt (A0 m c) (A1 m c) (A3 m c) n h d := by
  refine ((dats m 0 c).arrAt_emb_eq_after_last 6 ⟨7, by decide⟩ (by decide +kernel) (ix2 n (col h d))).trans ?_
  exact (congrFun (after0_6 m c ⟨7, by decide⟩) _).trans ((outs_at m c h n d 7 (by decide)).2.trans (dv_total m c n h d))

theorem outs_dq (h : Fin 4) (r : Fin 1024) (d : Fin 256) (t : Fin cfg0.N) :
    (outsAt0 m c t.val t.isLt).1 (ix2 r (col h d)) = dqAt (A0 m c) (A1 m c) (A2 m c) (A3 m c) (rowAt t r) h d := by
  by_cases h0 : t.val % 8 = 0
  · rw [outsAt0_A m c t h0]; dsimp only
    rw [out0_A_4_apply c _ _ _ _ _ _ _ _ _ _ _ _ _ _ _ _ _ _ _ _ h r d _ rfl]; exact dq_block m c t h r d
  · rw [outsAt0_B m c t h0]; dsimp only
    rw [out0_B_4_apply c _ _ _ _ _ _ _ _ _ _ _ _ _ _ _ _ _ _ _ _ _ _ h r d _ rfl]; exact dq_block m c t h r d

/-- No block of the first output is cut. -/
theorem cut4 : ∀ (t : Fin cfg0.N) (a : Fin 2), win0_4.xsize (grid0.coords t) a = 1024 := (by decide +kernel : ∀ (t : Fin grid0.N) (a : Fin 2), _)

theorem final4_out (r : Fin 8192) (y : Fin 12544) (hy : y.val < 8192 ∨ 9216 ≤ y.val) :
    (dats m 0 c).arrAt 4 cfg0.N (ix2 r y) = m ((c : Thread nD τ).loc main_arg4) (ix2 r y) := by
  refine (Cert.KernelIdeal.Value.entry4 m c (ix2 r y) fun t _ hm => ?_).trans rfl
  mem_blk [e4, cut4] at hm
  have h1 := hm.2
  have e : ((ix2 r y : S8192x12544.Idx) 1).val = y.val := rfl
  simp only [cut4, e] at h1
  omega

/-- An index of a point's block, by row and column. -/
def blkIdx (t : Fin cfg0.N) (r y : Fin 1024) : ((cfg0.win 4).xblock (cfg0.grid.coords t)).Idx :=
  fun a => ⟨((ix2 r y : S1024x1024.Idx) a).val, lt_of_lt_of_eq (by fin_cases a; exact r.isLt; exact y.isLt) (cut4 t a).symm⟩

theorem final4_in (r : Fin 8192) (h : Fin 4) (d : Fin 256) (y : Fin 12544) (hy : y.val = 8192 + (col h d).val) :
    (dats m 0 c).arrAt 4 cfg0.N (ix2 r y) = dqAt (A0 m c) (A1 m c) (A2 m c) (A3 m c) r h d := by
  have ht : r.val / 1024 < 8 := by omega
  have hr : r.val % 1024 < 1024 := by omega
  have hf : (cfg0.win 4).flush ⟨r.val / 1024, ht⟩ = true := (by decide +kernel : ∀ t : Fin grid0.N, (cfg0.win 4).flush t = true) _
  have := congrFun (Cert.KernelIdeal.Value.blocks4 m c ⟨r.val / 1024, ht⟩ hf) (blkIdx ⟨r.val / 1024, ht⟩ ⟨r.val % 1024, hr⟩ (col h d))
  rw [Cert.KernelIdeal.Value.flushed4] at this
  have e : ((cfg0.win 4).blk ⟨r.val / 1024, ht⟩).view.emb (blkIdx ⟨r.val / 1024, ht⟩ ⟨r.val % 1024, hr⟩ (col h d)) = (ix2 r y : S8192x12544.Idx) := by
    funext a; apply Fin.ext
    fin_cases a <;> blk_simp [e4]
    · show r.val / 1024 * 1024 + r.val % 1024 = r.val; omega
    · show 8 * 1024 + (col h d).val = y.val; omega
  have e2 : (dats m 0 c).arrAt 4 cfg0.N (((cfg0.win 4).blk ⟨r.val / 1024, ht⟩).view.emb (blkIdx ⟨r.val / 1024, ht⟩ ⟨r.val % 1024, hr⟩ (col h d)))
      = (outsAt0 m c (r.val / 1024) ht).1 (ix2 ⟨r.val % 1024, hr⟩ (col h d)) := this
  rw [e] at e2
  refine e2.trans ((outs_dq m c h ⟨r.val % 1024, hr⟩ d ⟨r.val / 1024, ht⟩).trans ?_)
  congr 1
  exact Fin.ext (by show r.val / 1024 * 1024 + r.val % 1024 = r.val; omega)

end Cert.KernelIdeal.Attn
end
-- ==== Proof.Attn.Ref.lean ====
module

public import proofs.«01_k».proof.Proof.Gen.ReferenceIdeal.Read
public import proofs.«01_k».proof.Proof.Attn.Math

/-! The reference's stages read at an index: each is the row formula of `Cert.Attn` at that head and row. -/

@[expose] public section

set_option maxRecDepth 16384
noncomputable section

namespace Cert.ReferenceIdeal.Attn

open Cert.ReferenceIdeal Cert.ReferenceIdeal.Gen Cert.ReferenceIdeal.Read Idealize.ShloMosaic Idealize.ShloMosaic.TcCoe Idealize.SL.Sem Idealize.ShloMosaic.Tactic
open Cert.Attn

variable (x0 : (⟨S8192x12544, .f32⟩ : BufTy).Contents (Elt Ideal)) (x1 x2 : (⟨S256x1024, .bf16⟩ : BufTy).Contents (Elt Ideal)) (x3 : (⟨S8192x1024, .f32⟩ : BufTy).Contents (Elt Ideal)) (x4 : (⟨S8192x12544, .bf16⟩ : BufTy).Contents (Elt Ideal))

theorem v3_at (r : Fin 8192) (h : Fin 4) (d : Fin 256) : val_main_v3 x0 (ix3 r h d) = qRow x0 r h d := by
  unfold val_main_v3 val_main_v0
  pointwise
  rfl

theorem v4_at (m : Fin 256) (h : Fin 4) (d : Fin 256) : val_main_v4 x1 (ix3 m h d) = heads (R := 256) x1 h m d := by
  unfold val_main_v4 val_main_v1
  pointwise
  rfl

theorem v5_at (m : Fin 256) (h : Fin 4) (d : Fin 256) : val_main_v5 x2 (ix3 m h d) = heads (R := 256) x2 h m d := by
  unfold val_main_v5 val_main_v2
  pointwise
  rfl

theorem v41_at (r : Fin 8192) (h : Fin 4) (d : Fin 256) : val_main_v41 x3 (ix3 h d r) = heads (R := 8192) x3 h r d := by
  unfold val_main_v41 val_main_v40
  pointwise
  rfl

theorem v8_at (r : Fin 8192) (h : Fin 4) (m : Fin 256) : val_main_v8 x0 x1 (ix3 h r m) = score (qRow x0 r h) (heads (R := 256) x1 h) m := by
  unfold val_main_v8 val_main_v7 val_main_v6 val_main_cst
  pointwise
  simp only [v3_at, v4_at]
  rfl

theorem v9_at (r : Fin 8192) (h : Fin 4) : val_main_v9 x0 x1 (ix2 h r) = top (qRow x0 r h) (heads (R := 256) x1 h) := by
  unfold val_main_v9 val_main_cst_0
  pointwise
  simp only [v8_at]
  rfl

theorem v16_at (r : Fin 8192) (h : Fin 4) : val_main_v16 x0 x1 (ix2 h r) = top (qRow x0 r h) (heads (R := 256) x1 h) := by
  rw [val_main_v16_apply, val_main_v15_apply, val_main_cst_2_apply, v9_at]
  exact max_low_top _ _

theorem v27_at (r : Fin 8192) (h : Fin 4) (m : Fin 256) : val_main_v27 x0 x1 (ix3 h r m) = top (qRow x0 r h) (heads (R := 256) x1 h) := by
  rw [val_main_v27_apply, val_main_v26_apply, ← v16_at]
  refine congrArg _ (funext fun a => ?_)
  fin_cases a <;> rfl

theorem v29_at (r : Fin 8192) (h : Fin 4) (m : Fin 256) : val_main_v29 x0 x1 (ix3 h r m) = expo (qRow x0 r h) (heads (R := 256) x1 h) m := by
  rw [val_main_v29_apply, val_main_v28_apply, v27_at, v8_at]
  rfl

theorem v30_at (r : Fin 8192) (h : Fin 4) : val_main_v30 x0 x1 (ix2 h r) = total (qRow x0 r h) (heads (R := 256) x1 h) := by
  unfold val_main_v30 val_main_cst_8
  pointwise
  simp only [v29_at]
  rfl

theorem v31_at (r : Fin 8192) (h : Fin 4) : val_main_v31 x0 x1 (ix3 h r 0) = total (qRow x0 r h) (heads (R := 256) x1 h) := by
  rw [val_main_v31_apply, ← v30_at]
  refine congrArg _ (funext fun a => ?_)
  fin_cases a <;> rfl

theorem v32_at (r : Fin 8192) (h : Fin 4) (m : Fin 256) : val_main_v32 x0 x1 (ix3 h r m) = total (qRow x0 r h) (heads (R := 256) x1 h) := by
  rw [val_main_v32_apply, ← v31_at]
  refine congrArg _ (funext fun a => ?_)
  fin_cases a <;> rfl

theorem v51_at (r : Fin 8192) (h : Fin 4) (m : Fin 256) : val_main_v51 x0 x1 (ix3 h r m) = total (qRow x0 r h) (heads (R := 256) x1 h) := by
  rw [val_main_v51_apply, ← v31_at]
  refine congrArg _ (funext fun a => ?_)
  fin_cases a <;> rfl

theorem v33_at (r : Fin 8192) (h : Fin 4) (m : Fin 256) : val_main_v33 x0 x1 (ix3 h r m) = prob (qRow x0 r h) (heads (R := 256) x1 h) m := by
  rw [val_main_v33_apply, v29_at, v32_at]
  rfl

theorem v36_at (r : Fin 8192) (h : Fin 4) : val_main_v36 x0 x1 (ix3 h r 0)
    = Ideal.div 1 (total (qRow x0 r h) (heads (R := 256) x1 h) * total (qRow x0 r h) (heads (R := 256) x1 h)) := by
  rw [val_main_v36_apply, val_main_v35_apply, val_main_cst_9_apply, val_main_v34_apply, v31_at]
  show Ideal.div (Ideal.ofBits .f32 0x3F800000#32) _ = _
  rw [Ideal.ofBits_one_f32]; rfl

theorem v45_at (r : Fin 8192) (h : Fin 4) (m : Fin 256) : val_main_v45 x0 x1 (ix3 h r m)
    = Ideal.div 1 (total (qRow x0 r h) (heads (R := 256) x1 h) * total (qRow x0 r h) (heads (R := 256) x1 h)) := by
  rw [val_main_v45_apply, ← v36_at]
  refine congrArg _ (funext fun a => ?_)
  fin_cases a <;> rfl

theorem v42_at (r : Fin 8192) (h : Fin 4) (m : Fin 256) : val_main_v42 x2 x3 (ix3 h r m)
    = dprob (heads (R := 8192) x3 h r) (heads (R := 256) x2 h) m := by
  unfold val_main_v42
  pointwise
  simp only [v41_at, v5_at]
  rfl

theorem v48_at (r : Fin 8192) (h : Fin 4) : val_main_v48 x0 x1 x2 x3 (ix2 h r)
    = ∑ n, dprob (heads (R := 8192) x3 h r) (heads (R := 256) x2 h) n
        * Ideal.div 1 (total (qRow x0 r h) (heads (R := 256) x1 h) * total (qRow x0 r h) (heads (R := 256) x1 h))
        * expo (qRow x0 r h) (heads (R := 256) x1 h) n := by
  unfold val_main_v48 val_main_cst_10
  pointwise
  refine Finset.sum_congr rfl fun n _ => ?_
  rw [val_main_v47_apply, val_main_v46_apply, v42_at, v45_at, v29_at]
  rfl

theorem v50_at (r : Fin 8192) (h : Fin 4) : val_main_v50 x0 x1 x2 x3 (ix3 h r 0) = -val_main_v48 x0 x1 x2 x3 (ix2 h r) := by
  rw [val_main_v50_apply]
  unfold val_main_v49
  pointwise

theorem v53_at (r : Fin 8192) (h : Fin 4) : val_main_v53 x0 x1 x2 x3 (ix2 h r) = -val_main_v48 x0 x1 x2 x3 (ix2 h r) := by
  rw [← v50_at]
  unfold val_main_v53 val_main_cst_11
  pointwise
  exact Fin.sum_univ_one _

theorem v54_at (r : Fin 8192) (h : Fin 4) (m : Fin 256) : val_main_v54 x0 x1 x2 x3 (ix3 h r m) = -val_main_v48 x0 x1 x2 x3 (ix2 h r) := by
  rw [val_main_v54_apply, ← v53_at]
  refine congrArg _ (funext fun a => ?_)
  fin_cases a <;> rfl

theorem v58_at (r : Fin 8192) (h : Fin 4) (m : Fin 256) : val_main_v58 x0 x1 x2 x3 (ix3 h r m)
    = dscoreQuot (qRow x0 r h) (heads (R := 8192) x3 h r) (heads (R := 256) x1 h) (heads (R := 256) x2 h) m := by
  rw [val_main_v58_apply, val_main_v57_apply, val_main_cst_12_apply, val_main_v56_apply, v29_at, val_main_v55_apply, v54_at, v48_at,
    val_main_v52_apply, v42_at, v51_at]
  rfl

/-- The queries and the keys are real. -/
def Real (x0 : (⟨2, ![8192, 12544]⟩ : Shape).Idx → EReal) (x1 : (⟨2, ![256, 1024]⟩ : Shape).Idx → EReal) : Prop :=
  (∀ r h d, ∃ a : ℝ, qRow x0 r h d = a) ∧ ∀ m h d, ∃ a : ℝ, heads x1 h m d = a

theorem v63_at (m : Fin 256) (h : Fin 4) (d : Fin 256) : val_main_v63 x0 x1 x3 (ix2 m (col h d)) = dvAt x0 x1 x3 m h d := by
  have : val_main_v44 x0 x1 x3 (ix3 m h d) = dvAt x0 x1 x3 m h d := by
    unfold val_main_v44 val_main_v43
    pointwise
    refine Finset.sum_congr rfl fun r _ => ?_
    rw [v41_at, v33_at, mul_comm]
  rw [← this, val_main_v63_apply]
  refine congrArg _ (funext fun a => Fin.ext ?_)
  have := h.isLt; have := d.isLt
  fin_cases a <;> simp [col] <;> omega

variable {x0 x1}

theorem v64_at (hr : Real x0 x1) (m : Fin 256) (h : Fin 4) (d : Fin 256) : val_main_v64 x0 x1 x2 x3 (ix2 m (col h d)) = dkAt x0 x1 x2 x3 m h d := by
  have : val_main_v60 x0 x1 x2 x3 (ix3 m h d) = dkAt x0 x1 x2 x3 m h d := by
    unfold val_main_v60 val_main_v59
    pointwise
    refine Finset.sum_congr rfl fun r _ => ?_
    rw [v58_at, v3_at, dscoreQuot_eq _ _ _ _ (hr.1 r h) (fun m => hr.2 m h)]
    rfl
  rw [← this, val_main_v64_apply]
  refine congrArg _ (funext fun a => Fin.ext ?_)
  have := h.isLt; have := d.isLt
  fin_cases a <;> simp [col] <;> omega

theorem v66_at (hr : Real x0 x1) (r : Fin 8192) (h : Fin 4) (d : Fin 256) : val_main_v66 x0 x1 x2 x3 (ix2 r (col h d)) = dqAt x0 x1 x2 x3 r h d := by
  have : val_main_v62 x0 x1 x2 x3 (ix3 r h d) = dqAt x0 x1 x2 x3 r h d := by
    unfold val_main_v62 val_main_v61
    pointwise
    refine Finset.sum_congr rfl fun m _ => ?_
    rw [v58_at, v4_at, dscoreQuot_eq _ _ _ _ (hr.1 r h) (fun m => hr.2 m h)]
    rfl
  rw [← this, val_main_v66_apply, val_main_v65_apply]
  refine congrArg (val_main_v62 x0 x1 x2 x3) (funext fun a => Fin.ext ?_)
  have := h.isLt; have := d.isLt
  fin_cases a <;> simp [col] <;> omega

theorem start0 : Host.clampedStart S8192x12544 S8192x1024 updateFits_S8192x12544_S8192x1024.1
    (fun k => (![val_main_c (F := Ideal), val_main_c_13 (F := Ideal)] k (Shape.Idx.first h_S_)).toInt) 0 = 0 := rfl

theorem start1 : Host.clampedStart S8192x12544 S8192x1024 updateFits_S8192x12544_S8192x1024.1
    (fun k => (![val_main_c (F := Ideal), val_main_c_13 (F := Ideal)] k (Shape.Idx.first h_S_)).toInt) 1 = 8192 := by
  decide +kernel

theorem v67_in (hr : Real x0 x1) (r : Fin 8192) (h : Fin 4) (d : Fin 256) (y : Fin 12544) (hy : y.val = 8192 + (col h d).val) :
    val_main_v67 x0 x1 x2 x3 x4 (ix2 r y) = dqAt x0 x1 x2 x3 r h d := by
  rw [← v66_at x2 x3 hr]
  unfold val_main_v67
  pointwise
  have := (col h d).isLt
  have e0 := start0
  have e1 := start1
  rw [dif_pos (by rw [e0, e1]; omega)]
  refine congrArg (val_main_v66 x0 x1 x2 x3) (funext fun a => Fin.ext ?_)
  fin_cases a
  · show r.val - _ = r.val; rw [e0]; rfl
  · show y.val - _ = (col h d).val; rw [e1]; omega

theorem v67_out (r : Fin 8192) (y : Fin 12544) (hy : y.val < 8192 ∨ 9216 ≤ y.val) :
    val_main_v67 x0 x1 x2 x3 x4 (ix2 r y) = x4 (ix2 r y) := by
  unfold val_main_v67
  pointwise
  have e0 := start0
  have e1 := start1
  rw [dif_neg (by rw [e0, e1]; omega)]

end Cert.ReferenceIdeal.Attn
end
-- ==== Proof.Attn.Pre.lean ====
module

public import proofs.«01_k».proof.Defs
public import Idealize.ShloMosaic.Lib.ReduceAll
public import proofs.«01_k».proof.Proof.Attn.Ref

/-! The precondition, read: every query column and every key is a real number. -/

@[expose] public section

set_option maxRecDepth 16384
noncomputable section

namespace Cert.Pre_finite_q_k

open Idealize.ShloMosaic Cert.Attn

theorem facts : Facts where
  slices_S8192x12544_S8192x1024_0_8192 := by decide
  bcast_S_S8192x1024 := by decide
  reducesTo_S8192x1024_S_d0_1 := by decide
  h_S_ := by decide
  bcast_S_S256x1024 := by decide
  reducesTo_S256x1024_S_d0_1 := by decide

/-- A value whose absolute value is below the infinite one is real. -/
theorem real_of_abs {x : EReal} (h : max x (-x) < ⊤) : ∃ a : ℝ, x = a := by
  induction x with
  | bot => simp at h
  | top => simp at h
  | coe a => exact ⟨a, rfl⟩

theorem inf32 : Ideal.ofBits .f32 0x7F800000#32 = ⊤ := by simp [Ideal.ofBits, Ideal.ieee]
theorem inf16 : Ideal.ofBits .bf16 0x7F80#16 = ⊤ := by simp [Ideal.ofBits, Ideal.ieee]

theorem lt_of_cmp {a b : EReal} (h : Ideal.cmp .olt a b = 1#1) : a < b := by
  by_contra hn
  simp [Ideal.cmp, hn] at h

theorem real (x0 : FVec Ideal S8192x12544 .f32) (x1 x2 : FVec Ideal S256x1024 .bf16) (x3 : FVec Ideal S8192x1024 .f32) (x4 : FVec Ideal S8192x12544 .bf16)
    [Facts] (h : fn (F := Ideal) x0 x1 x2 x3 x4 = fun _ => 1#1) : Cert.ReferenceIdeal.Attn.Real x0 x1 := by
  have h0 := congrFun h (Shape.Idx.first Facts.h_S_)
  unfold fn at h0
  obtain ⟨hq, hk⟩ := IntOp.andi_eq_one.1 h0
  refine ⟨fun r h d => ?_, fun m h d => ?_⟩
  · have := lt_of_cmp (Host.reduce_andi_all _ _ _ _ _ hq (ix2 r (col h d)))
    refine real_of_abs (lt_of_lt_of_eq (lt_of_eq_of_lt ?_ this) inf32)
    have e : extractStridedSlice S8192x1024 ![0, 8192] x0 Facts.slices_S8192x12544_S8192x1024_0_8192 (ix2 r (col h d)) = qRow x0 r h d := by
      refine congrArg x0 (funext fun a => Fin.ext ?_)
      fin_cases a
      · show 0 + r.val = r.val; omega
      · rfl
    show _ = max (extractStridedSlice S8192x1024 ![0, 8192] x0 _ _) (-(extractStridedSlice S8192x1024 ![0, 8192] x0 _ _))
    rw [e]
  · exact real_of_abs (lt_of_lt_of_eq (lt_of_cmp (Host.reduce_andi_all _ _ _ _ _ hk (ix2 m (col h d)))) inf16)

end Cert.Pre_finite_q_k
end
-- ==== Proof.Attn.Claim.lean ====
module

public import proofs.«01_k».proof.Proof.Attn.Kernel
public import proofs.«01_k».proof.Proof.Attn.Pre
public import Idealize.ShloMosaic.Lib.Quiescent

/-! The attention gradient's kernel and its reference end with the same arrays. -/

@[expose] public section

set_option maxRecDepth 16384
noncomputable section

open Idealize.ShloMosaic Idealize.SL.Sem

namespace Cert.ReferenceIdeal.Attn

open Cert.ReferenceIdeal Cert.ReferenceIdeal.Gen

/-- The reference runs, leaves its arguments as they were and ends quiet. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => (h c).2.2.2, sem_eq_zero_of_no_sems rfl r.2⟩) (Cert.ReferenceIdeal.Value.run m ρ)

end Cert.ReferenceIdeal.Attn

namespace Cert.Attn

theorem algebraic : algebraic_KernelIdeal_ReferenceIdeal_pre_finite_q_k (hKernelIdeal := Cert.KernelIdeal.Gen.facts)
    (hReferenceIdeal := Cert.ReferenceIdeal.Gen.facts) (hPre_finite_q_k := Cert.Pre_finite_q_k.facts) := by
  intro m g m' g' hp hargs
  haveI := Cert.Pre_finite_q_k.facts
  have hr := fun c => Cert.Pre_finite_q_k.real _ _ _ _ _ (hp c)
  refine ⟨fun c => (Cert.KernelIdeal.Gen.dats m 0 c).arrAt 4 Cert.KernelIdeal.cfg0.N, fun c => (Cert.KernelIdeal.Gen.dats m 0 c).arrAt 5 Cert.KernelIdeal.cfg0.N,
    fun c => (Cert.KernelIdeal.Gen.dats m 0 c).arrAt 6 Cert.KernelIdeal.cfg0.N, Cert.KernelIdeal.Value.run_blocks m g, ?_⟩
  refine (θ_run Cert.ReferenceIdeal.defs _ _).mono (fun r h c => ?_) (Cert.ReferenceIdeal.Value.run m' g')
  obtain ⟨h0, h1, h2, h3⟩ := h c
  obtain ⟨a0, a1, a2, a3, a4⟩ := hargs c
  refine ⟨h0.trans ?_, h1.trans ?_, h2.trans ?_, h3⟩
  · rw [Cert.ReferenceIdeal.Read.val_main_v67_eq, a0, a1, a2, a3, a4]
    funext i
    obtain ⟨r, y, rfl⟩ : ∃ r y, i = ix2 r y := ⟨i 0, i 1, eq_ix2 i⟩
    by_cases hy : 8192 ≤ y.val ∧ y.val < 9216
    · obtain ⟨h, d, e⟩ := exists_col ⟨y.val - 8192, by omega⟩
      have hy' : y.val = 8192 + (col h d).val := by rw [← e]; show _ = 8192 + (y.val - 8192); omega
      exact (Cert.ReferenceIdeal.Attn.v67_in _ _ _ (hr c) r h d y hy').trans (Cert.KernelIdeal.Attn.final4_in m c r h d y hy').symm
    · exact (Cert.ReferenceIdeal.Attn.v67_out _ _ _ r y (by omega)).trans (Cert.KernelIdeal.Attn.final4_out m c r y (by omega)).symm
  · rw [Cert.ReferenceIdeal.Read.val_main_v64_eq, a0, a1, a2, a3]
    funext i
    obtain ⟨n, y, rfl⟩ : ∃ n y, i = ix2 n y := ⟨i 0, i 1, eq_ix2 i⟩
    obtain ⟨h, d, rfl⟩ := exists_col y
    exact (Cert.ReferenceIdeal.Attn.v64_at _ _ (hr c) n h d).trans (Cert.KernelIdeal.Attn.final5 m c n h d).symm
  · rw [a0, a1, a3]
    funext i
    obtain ⟨n, y, rfl⟩ : ∃ n y, i = ix2 n y := ⟨i 0, i 1, eq_ix2 i⟩
    obtain ⟨h, d, rfl⟩ := exists_col y
    exact (Cert.ReferenceIdeal.Attn.v63_at _ _ _ n h d).trans (Cert.KernelIdeal.Attn.final6 m c n h d).symm

end Cert.Attn
end
-- ==== Proof.Prod.Fold.lean ====
module

public import Idealize.ShloMosaic.PureOps.Ideal
public import Idealize.ShloMosaic.Lib.Pointwise.Sums

/-! A running sum that starts anew at every multiple of `K`. -/

@[expose] public section

noncomputable section

namespace Cert.Prod

open Idealize.ShloMosaic

/-- A sequence that is `g n` at each multiple of `K` and adds `g n` to what it was at any other point holds, at a point,
the sum of `g` since the last multiple. -/
theorem fold_sum {N K : ℕ} (hK : 0 < K) (S : (n : ℕ) → n < N → EReal) (g : ℕ → EReal)
    (hA : ∀ n h, n % K = 0 → S n h = g n)
    (hB : ∀ n (h : n + 1 < N), (n + 1) % K ≠ 0 → S (n + 1) h = S n (by omega) + g (n + 1)) :
    ∀ n h, S n h = ∑ j ∈ Finset.range (n % K + 1), g (n - n % K + j)
  | 0, h => by rw [hA 0 h (by simp)]; simp
  | n + 1, h => by
    by_cases h0 : (n + 1) % K = 0
    · rw [hA _ h h0, h0]; simp
    · have hm : (n + 1) % K = n % K + 1 := by
        have h1 := Nat.div_add_mod n K
        have h2 := Nat.mod_lt n hK
        by_cases h3 : n % K + 1 = K
        · exfalso; apply h0
          have : n + 1 = K * (n / K + 1) := by rw [Nat.mul_add]; omega
          rw [this]; exact Nat.mul_mod_right _ _
        · have : n + 1 = K * (n / K) + (n % K + 1) := by omega
          rw [this, Nat.mul_add_mod]; exact Nat.mod_eq_of_lt (by omega)
      rw [hB n h h0, fold_sum hK S g hA hB n (by omega), hm, Finset.sum_range_succ _ (n % K + 1)]
      have e1 : n + 1 - (n % K + 1) = n - n % K := by omega
      have e2 : n - n % K + (n % K + 1) = n + 1 := by have := Nat.mod_le n K; omega
      rw [e1, e2]

/-- At the last point of a run the sum runs over the whole of it. -/
theorem fold_last {N K : ℕ} (hK : 0 < K) (S : (n : ℕ) → n < N → EReal) (g : ℕ → EReal)
    (hA : ∀ n h, n % K = 0 → S n h = g n)
    (hB : ∀ n (h : n + 1 < N), (n + 1) % K ≠ 0 → S (n + 1) h = S n (by omega) + g (n + 1))
    (q : ℕ) (h : K * q + (K - 1) < N) : S (K * q + (K - 1)) h = ∑ j : Fin K, g (K * q + j.val) := by
  rw [fold_sum hK S g hA hB]
  have e : (K * q + (K - 1)) % K = K - 1 := by rw [Nat.mul_add_mod]; exact Nat.mod_eq_of_lt (by omega)
  rw [e, show K - 1 + 1 = K by omega, Finset.sum_range]
  exact Finset.sum_congr rfl fun j _ => by congr 1; omega

/-- Place `k` of tile `n % K`, the tiles `T` long. -/
abbrev place {K T M : ℕ} (hK : 0 < K) (hM : M = K * T) (n : ℕ) (k : Fin T) : Fin M :=
  ⟨n % K * T + k.val, by
    have h1 : n % K + 1 ≤ K := Nat.mod_lt n hK
    have h2 := Nat.mul_le_mul_right T h1
    have h3 := k.isLt
    rw [hM]; rw [Nat.add_mul] at h2; omega⟩

/-- An accumulator that takes one tile of a sum at a time holds the whole sum at the last point of a run: `f q` is the
summand of run `q`. -/
theorem fold_tiles {N K T M : ℕ} (hK : 0 < K) (hM : M = K * T) (S : (n : ℕ) → n < N → EReal) (f : ℕ → Fin M → EReal)
    (hA : ∀ n h, n % K = 0 → S n h = ∑ k : Fin T, f (n / K) (place hK hM n k))
    (hB : ∀ n (h : n + 1 < N), (n + 1) % K ≠ 0 → S (n + 1) h = S n (by omega) + ∑ k : Fin T, f ((n + 1) / K) (place hK hM (n + 1) k))
    (n : ℕ) (h : n < N) (hn : n % K = K - 1) : S n h = ∑ k : Fin M, f (n / K) k := by
  have hd := Nat.div_add_mod n K
  have e : n = K * (n / K) + (K - 1) := by omega
  have key := fold_last hK S (fun n => ∑ k : Fin T, f (n / K) (place hK hM n k)) hA hB (n / K) (e ▸ h)
  have hc : ∀ a (ha : a < N), n = a → S n h = S a ha := by rintro a ha rfl; rfl
  rw [hc _ (e ▸ h) e, key, Fin.sum_univ_tiles K T hM.symm fun k => f (n / K) k]
  refine Finset.sum_congr rfl fun j _ => Finset.sum_congr rfl fun k _ => ?_
  have e1 : (K * (n / K) + j.val) / K = n / K := by
    rw [Nat.mul_add_div hK, Nat.div_eq_of_lt j.isLt]; rfl
  have e2 : (K * (n / K) + j.val) % K = j.val := by
    rw [Nat.mul_add_mod, Nat.mod_eq_of_lt j.isLt]
  have e3 : place hK hM (K * (n / K) + j.val) k = ⟨j.val * T + k.val, by
      have h2 := Nat.mul_le_mul_right T (show j.val + 1 ≤ K from j.isLt)
      have h3 := k.isLt
      rw [Nat.add_mul] at h2; rw [hM]; omega⟩ := Fin.ext (by show _ % K * T + _ = _; rw [e2])
  show f ((K * (n / K) + j.val) / K) _ = _
  rw [e1, e3]

end Cert.Prod
end
-- ==== Proof.Prod.DwIn.lean ====
module

public import proofs.«01_k».proof.Proof.Gen.Kernel2Ideal.Value
public import Idealize.ShloMosaic.Lib.Pointwise
public import Idealize.ShloMosaic.Lib.Pipeline.ValueKit
public import proofs.«01_k».proof.Proof.Prod.Fold

/-! The gradient of the input projection's weights: what the tiled product ends with. -/

@[expose] public section

set_option maxRecDepth 16384
noncomputable section

namespace Cert.Kernel2Ideal.Prod

open Cert.Kernel2Ideal Cert.Kernel2Ideal.Gen Idealize.ShloMosaic Idealize.ShloMosaic.TcCoe Idealize.SL.Sem Idealize.ShloMosaic.Tactic

theorem hz : (![0, 0] : Fin 2 → Nat) = fun _ => 0 := funext fun a => by fin_cases a <;> rfl

/-- One step of the accumulator: a tile's product is added. -/
theorem step_at (acc : Vec Ideal S1792x1024 .f32) (a : Vec Ideal S1024x1792 .bf16) (b : Vec Ideal S1024x1024 .bf16) (r : Fin 1792) (d : Fin 1024) :
    k0_pay2 acc a b (ix2 r d) = acc (ix2 r d) + ∑ k : Fin 1024, a (ix2 k r) * b (ix2 k d) := by
  unfold k0_pay2; pointwise

theorem zero_at (i : S1792x1024.Idx) : k0_pay1 (F := Ideal) i = 0 := by
  unfold k0_pay1; pointwise

theorem cast_at (v : Vec Ideal S1792x1024 .f32) (i : S1792x1024.Idx) : k0_pay3 v i = v i := by
  unfold k0_pay3; pointwise

variable {F : FTy → Type} [FloatOps F]
variable (c : Dev nD) (i : grid0.Coords) (a3 : Memref sig .tc .vmem S1024x1792 .bf16) (h3 : a3.IsWhole) (a4 : Memref sig .tc .vmem S1024x1024 .bf16) (h4 : a4.IsWhole)
  (a5 : Memref sig .tc .vmem S1792x1024 .bf16) (h5 : a5.IsWhole) (a6 : Memref sig .tc .vmem S1792x1024 .f32) (h6 : a6.IsWhole)
  (x0 : Vec F S1024x1792 .bf16) (x1 : Vec F S1024x1024 .bf16) (xs : Vec F S1792x1024 .f32)

theorem sout_A (hc0 : cond0_0 i) (hc1 : ¬cond0_1 i) : sout0_A_0 c i a3 h3 a4 h4 a5 h5 a6 h6 hc0 hc1 x0 x1 = k0_pay2 k0_pay1 x0 x1 := by
  unfold sout0_A_0
  rw [View.read_writes_junk_eq_canon]
  unfold kernelRun0_A
  dsimp only; sl_unfold_words
  rw [View.canon_cons_unit_zero (S := S1792x1024) hz, View.readCov_unit_zero (S := S1792x1024) _ hz]
  simp only [View.readAt_eq_ld, h3.read_unread, h4.read_unread, View.ld_unit_zero (S := S1024x1792) hz, View.ld_unit_zero (S := S1024x1024) hz]

theorem sout_B (hc0 : ¬cond0_0 i) (hc1 : ¬cond0_1 i) : sout0_B_0 c i a3 h3 a4 h4 a5 h5 a6 h6 hc0 hc1 x0 x1 xs = k0_pay2 xs x0 x1 := by
  unfold sout0_B_0
  rw [View.read_writes_junk_eq_canon]
  unfold kernelRun0_B
  dsimp only; sl_unfold_words
  rw [View.canon_unit_zero hz]
  simp only [View.readAt_eq_ld, h3.read_unread, h4.read_unread, h6.read_unread, View.ld_unit_zero (S := S1024x1792) hz, View.ld_unit_zero (S := S1024x1024) hz, View.ld_unit_zero (S := S1792x1024) hz]

theorem sout_C (hc0 : ¬cond0_0 i) (hc1 : cond0_1 i) : sout0_C_0 c i a3 h3 a4 h4 a5 h5 a6 h6 hc0 hc1 x0 x1 xs = k0_pay2 xs x0 x1 := by
  unfold sout0_C_0
  rw [View.read_writes_junk_eq_canon]
  unfold kernelRun0_C
  dsimp only; sl_unfold_words
  rw [View.canon_unit_zero hz]
  simp only [View.readAt_eq_ld, h3.read_unread, h4.read_unread, h6.read_unread, View.ld_unit_zero (S := S1024x1792) hz, View.ld_unit_zero (S := S1024x1024) hz, View.ld_unit_zero (S := S1792x1024) hz]

theorem out_C (hc0 : ¬cond0_0 i) (hc1 : cond0_1 i) : out0_C_2 c i a3 h3 a4 h4 a5 h5 a6 h6 hc0 hc1 x0 x1 xs = k0_pay3 (k0_pay2 xs x0 x1) := by
  unfold out0_C_2
  rw [View.read_writes_junk_eq_canon]
  unfold kernelRun0_C
  dsimp only; sl_unfold_words
  rw [View.canon_unit_zero hz, View.readCov_unit_zero (S := S1792x1024) _ hz]
  simp only [View.readAt_eq_ld, h3.read_unread, h4.read_unread, h6.read_unread, View.ld_unit_zero (S := S1024x1792) hz, View.ld_unit_zero (S := S1024x1024) hz, View.ld_unit_zero (S := S1792x1024) hz]

variable (m : (ℓ : Loc nD τ sig) → Buf (Elt Ideal) ℓ)

theorem e0 : ∀ t : Fin cfg0.N, win0_0.index t = ![t.val % 8, t.val / 8] := (by decide +kernel : ∀ t : Fin grid0.N, _)
theorem e1 : ∀ t : Fin cfg0.N, win0_1.index t = ![t.val % 8, 0] := (by decide +kernel : ∀ t : Fin grid0.N, _)

abbrev A0 : (⟨2, ![8192, 12544]⟩ : Shape).Idx → EReal := m ((c : Thread nD τ).loc main_arg0)
abbrev A1 : (⟨2, ![8192, 1024]⟩ : Shape).Idx → EReal := m ((c : Thread nD τ).loc main_arg1)

/-- The row of the array that row `r` of point `n`'s tile is. -/
abbrev rowOf (n : ℕ) (r : Fin 1792) : Fin 12544 := ⟨n / 8 % 7 * 1792 + r.val, by omega⟩
/-- The position in the sum that place `k` of point `n`'s tile is. -/
abbrev posOf (n : ℕ) (k : Fin 1024) : Fin 8192 := Cert.Prod.place (K := 8) (by decide) rfl n k

theorem blk0_at (t : Fin cfg0.N) (k : Fin 1024) (r : Fin 1792) :
    iblk m c 0 t (ix2 k r) = A0 c m (ix2 (posOf t.val k) (rowOf t.val r)) := by
  have ht : t.val < 56 := t.isLt
  blk_simp [iblk, V_main_arg0]
  congr 1
  funext a; apply Fin.ext
  fin_cases a <;> blk_simp [e0]
  · rfl
  · show t.val / 8 * 1792 + r.val = t.val / 8 % 7 * 1792 + r.val; omega

theorem blk1_at (t : Fin cfg0.N) (k : Fin 1024) (r : Fin 1024) :
    iblk m c 1 t (ix2 k r) = A1 c m (ix2 (posOf t.val k) r) := by
  blk_simp [iblk, V_main_arg1]
  congr 1
  funext a; apply Fin.ext
  fin_cases a <;> blk_simp [e1]
  · rfl
  · rfl

/-- A summand of row `r`, column `d` of the tile that run `q` of points makes. -/
def term (r : Fin 1792) (d : Fin 1024) (q : ℕ) (k : Fin 8192) : EReal :=
  A0 c m (ix2 k ⟨q % 7 * 1792 + r.val, by omega⟩) * A1 c m (ix2 k d)

theorem add_tile (r : Fin 1792) (d : Fin 1024) (t : Fin cfg0.N) (acc : Vec Ideal S1792x1024 .f32) :
    k0_pay2 acc (iblk m c 0 t) (iblk m c 1 t) (ix2 r d) = acc (ix2 r d) + ∑ k : Fin 1024, term c m r d (t.val / 8) (posOf t.val k) := by
  rw [step_at]
  simp only [blk0_at c m t, blk1_at]
  rfl

theorem acc_first (r : Fin 1792) (d : Fin 1024) (n : ℕ) (h : n < cfg0.N) (h0 : n % 8 = 0) :
    (outsAt0 m c n h).2 (ix2 r d) = ∑ k : Fin 1024, term c m r d (n / 8) (posOf n k) := by
  rw [outsAt0_A m c ⟨n, h⟩ h0 (by show ¬n % 8 = 7; omega)]
  dsimp only
  rw [sout_A, add_tile, zero_at, zero_add]

theorem acc_next (r : Fin 1792) (d : Fin 1024) (n : ℕ) (h : n + 1 < cfg0.N) (h0 : (n + 1) % 8 ≠ 0) :
    (outsAt0 m c (n + 1) h).2 (ix2 r d) = (outsAt0 m c n (by omega)).2 (ix2 r d) + ∑ k : Fin 1024, term c m r d ((n + 1) / 8) (posOf (n + 1) k) := by
  by_cases h1 : (n + 1) % 8 = 7
  · rw [outsAt0_C m c ⟨n + 1, h⟩ h0 h1]
    dsimp only
    rw [sout_C, add_tile]
    rfl
  · rw [outsAt0_B m c ⟨n + 1, h⟩ h0 h1]
    dsimp only
    rw [sout_B, add_tile]
    rfl

/-- The gradient's entry: the whole sum over the tokens. -/
def entry (y : Fin 12544) (d : Fin 1024) : EReal := ∑ k : Fin 8192, A0 c m (ix2 k y) * A1 c m (ix2 k d)

theorem out_last (r : Fin 1792) (d : Fin 1024) (t : Fin cfg0.N) (h : t.val % 8 = 7) :
    (outsAt0 m c t.val t.isLt).1 (ix2 r d) = entry c m (rowOf t.val r) d := by
  have hl : (outsAt0 m c t.val t.isLt).1 (ix2 r d) = (outsAt0 m c t.val t.isLt).2 (ix2 r d) := by
    rw [outsAt0_C m c t (by omega) h]
    dsimp only
    rw [out_C, sout_C, cast_at]
  exact hl.trans (Cert.Prod.fold_tiles (T := 1024) (M := 8192) (by decide) rfl (fun n h => (outsAt0 m c n h).2 (ix2 r d)) (term c m r d)
    (acc_first c m r d) (acc_next c m r d) t.val t.isLt h)

theorem e2 : ∀ t : Fin cfg0.N, win0_2.index t = ![t.val / 8, 0] := (by decide +kernel : ∀ t : Fin grid0.N, _)
theorem flush2 : ∀ t : Fin cfg0.N, (cfg0.win 2).flush t = true → t.val % 8 = 7 := (by decide +kernel : ∀ t : Fin grid0.N, _)

/-- The array the call leaves. -/
theorem final : (dats m 0 c).arrAt 2 cfg0.N = fun i => entry c m (i 0) (i 1) := by
  refine (dats m 0 c).arrAt_eq_of_covers 2 _ (by decide +kernel) fun t hf y => ?_
  obtain ⟨r, d, rfl⟩ : ∃ r d, y = (ix2 r d : S1792x1024.Idx) := ⟨y 0, y 1, eq_ix2 y⟩
  have h := out_last c m r d t (flush2 t hf)
  have ht : t.val < 56 := t.isLt
  blk_simp
  rw [after0_2]
  refine h.trans (congrArg₂ (entry c m) (Fin.ext ?_) (Fin.ext ?_))
  · blk_simp [e2]
    show t.val / 8 % 7 * 1792 + r.val = t.val / 8 * 1792 + r.val; omega
  · blk_simp [e2]

end Cert.Kernel2Ideal.Prod
end
-- ==== Proof.Prod.DwInClaim.lean ====
module

public import proofs.«01_k».proof.Defs
public import proofs.«01_k».proof.Proof.Gen.Kernel2Ideal
public import proofs.«01_k».proof.Proof.Gen.Reference2Ideal
public import proofs.«01_k».proof.Proof.Gen.Reference2Ideal.Run
public import proofs.«01_k».proof.Proof.Gen.Reference2Ideal.Read
public import proofs.«01_k».proof.Proof.Prod.DwIn
public import Idealize.ShloMosaic.Lib.Quiescent

/-! The tiled product of the input projection's weight gradient is the derivative of the plain projection. -/

@[expose] public section

set_option maxRecDepth 16384
noncomputable section

open Idealize.ShloMosaic Idealize.SL.Sem

namespace Cert.Reference2Ideal.Prod

open Cert.Reference2Ideal Cert.Reference2Ideal.Gen Cert.Reference2Ideal.Read

/-- The reference runs, leaves its arguments as they were and ends quiet. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2, sem_eq_zero_of_no_sems rfl r.2⟩) (Cert.Reference2Ideal.Value.run m ρ)

theorem val_at (x0 : S8192x12544.Idx → EReal) (x1 : S8192x1024.Idx → EReal) (y : Fin 12544) (d : Fin 1024) :
    val_main_v8 (F := Ideal) x0 x1 (ix2 y d) = ∑ k : Fin 8192, x0 (ix2 k y) * x1 (ix2 k d) := by
  rw [val_main_v8_apply, val_main_v7_apply, val_main_v6_apply, val_main_v5_apply]
  refine Finset.sum_congr rfl fun k _ => ?_
  rw [val_main_v1_apply, val_main_v0_apply]
  show x0 _ * x1 _ = _
  congr 2 <;> (funext a; fin_cases a <;> rfl)

end Cert.Reference2Ideal.Prod

namespace Cert.Prod

theorem algebraic2 : algebraic_Kernel2Ideal_Reference2Ideal (hKernel2Ideal := Cert.Kernel2Ideal.Gen.facts)
    (hReference2Ideal := Cert.Reference2Ideal.Gen.facts) := by
  intro m g m' g' hp hargs
  refine ⟨fun c => (Cert.Kernel2Ideal.Gen.dats m 0 c).arrAt 2 Cert.Kernel2Ideal.cfg0.N, Cert.Kernel2Ideal.Value.run_blocks m g, ?_⟩
  refine (θ_run Cert.Reference2Ideal.defs _ _).mono (fun r h c => ?_) (Cert.Reference2Ideal.Value.run m' g')
  obtain ⟨h0, h1⟩ := h c
  obtain ⟨a0, a1⟩ := hargs c
  refine ⟨h0.trans ?_, h1⟩
  rw [Cert.Reference2Ideal.Read.val_main_v8_eq, a0, a1]
  refine Eq.trans ?_ (Cert.Kernel2Ideal.Prod.final c m).symm
  funext i
  obtain ⟨y, d, rfl⟩ : ∃ y d, i = ix2 y d := ⟨i 0, i 1, eq_ix2 i⟩
  exact Cert.Reference2Ideal.Prod.val_at _ _ y d

end Cert.Prod
end
-- ==== Proof.Prod.Dh.lean ====
module

public import proofs.«01_k».proof.Proof.Gen.Kernel3Ideal.Value
public import Idealize.ShloMosaic.Lib.Pointwise
public import Idealize.ShloMosaic.Lib.Pipeline.ValueKit
public import proofs.«01_k».proof.Proof.Prod.Fold

/-! The gradient of the input projection's input: what the tiled product ends with. -/

@[expose] public section

set_option maxRecDepth 16384
noncomputable section

namespace Cert.Kernel3Ideal.Prod

open Cert.Kernel3Ideal Cert.Kernel3Ideal.Gen Idealize.ShloMosaic Idealize.ShloMosaic.TcCoe Idealize.SL.Sem Idealize.ShloMosaic.Tactic

theorem hz : (![0, 0] : Fin 2 → Nat) = fun _ => 0 := funext fun a => by fin_cases a <;> rfl

/-- One step of the accumulator: a tile's product is added. -/
theorem step_at (acc : Vec Ideal S1024x1024 .f32) (a : Vec Ideal S1024x1792 .bf16) (b : Vec Ideal S1792x1024 .bf16) (r d : Fin 1024) :
    k0_pay2 acc a b (ix2 r d) = acc (ix2 r d) + ∑ k : Fin 1792, a (ix2 r k) * b (ix2 k d) := by
  unfold k0_pay2; pointwise

theorem zero_at (i : S1024x1024.Idx) : k0_pay1 (F := Ideal) i = 0 := by
  unfold k0_pay1; pointwise

variable {F : FTy → Type} [FloatOps F]
variable (c : Dev nD) (i : grid0.Coords) (a3 : Memref sig .tc .vmem S1024x1792 .bf16) (h3 : a3.IsWhole) (a4 : Memref sig .tc .vmem S1792x1024 .bf16) (h4 : a4.IsWhole)
  (a5 : Memref sig .tc .vmem S1024x1024 .f32) (h5 : a5.IsWhole) (a6 : Memref sig .tc .vmem S1024x1024 .f32) (h6 : a6.IsWhole)
  (x0 : Vec F S1024x1792 .bf16) (x1 : Vec F S1792x1024 .bf16) (xs : Vec F S1024x1024 .f32)

theorem sout_A (hc0 : cond0_0 i) (hc1 : ¬cond0_1 i) : sout0_A_0 c i a3 h3 a4 h4 a5 h5 a6 h6 hc0 hc1 x0 x1 = k0_pay2 k0_pay1 x0 x1 := by
  unfold sout0_A_0
  rw [View.read_writes_junk_eq_canon]
  unfold kernelRun0_A
  dsimp only; sl_unfold_words
  rw [View.canon_cons_unit_zero (S := S1024x1024) hz, View.readCov_unit_zero (S := S1024x1024) _ hz]
  simp only [View.readAt_eq_ld, h3.read_unread, h4.read_unread, View.ld_unit_zero (S := S1024x1792) hz, View.ld_unit_zero (S := S1792x1024) hz]

theorem sout_B (hc0 : ¬cond0_0 i) (hc1 : ¬cond0_1 i) : sout0_B_0 c i a3 h3 a4 h4 a5 h5 a6 h6 hc0 hc1 x0 x1 xs = k0_pay2 xs x0 x1 := by
  unfold sout0_B_0
  rw [View.read_writes_junk_eq_canon]
  unfold kernelRun0_B
  dsimp only; sl_unfold_words
  rw [View.canon_unit_zero hz]
  simp only [View.readAt_eq_ld, h3.read_unread, h4.read_unread, h6.read_unread, View.ld_unit_zero (S := S1024x1792) hz, View.ld_unit_zero (S := S1792x1024) hz, View.ld_unit_zero (S := S1024x1024) hz]

theorem sout_C (hc0 : ¬cond0_0 i) (hc1 : cond0_1 i) : sout0_C_0 c i a3 h3 a4 h4 a5 h5 a6 h6 hc0 hc1 x0 x1 xs = k0_pay2 xs x0 x1 := by
  unfold sout0_C_0
  rw [View.read_writes_junk_eq_canon]
  unfold kernelRun0_C
  dsimp only; sl_unfold_words
  rw [View.canon_unit_zero hz]
  simp only [View.readAt_eq_ld, h3.read_unread, h4.read_unread, h6.read_unread, View.ld_unit_zero (S := S1024x1792) hz, View.ld_unit_zero (S := S1792x1024) hz, View.ld_unit_zero (S := S1024x1024) hz]

theorem out_C (hc0 : ¬cond0_0 i) (hc1 : cond0_1 i) : out0_C_2 c i a3 h3 a4 h4 a5 h5 a6 h6 hc0 hc1 x0 x1 xs = k0_pay2 xs x0 x1 := by
  unfold out0_C_2
  rw [View.read_writes_junk_eq_canon]
  unfold kernelRun0_C
  dsimp only; sl_unfold_words
  rw [View.canon_unit_zero hz, View.readCov_unit_zero (S := S1024x1024) _ hz]
  simp only [View.readAt_eq_ld, h3.read_unread, h4.read_unread, h6.read_unread, View.ld_unit_zero (S := S1024x1792) hz, View.ld_unit_zero (S := S1792x1024) hz, View.ld_unit_zero (S := S1024x1024) hz]

variable (m : (ℓ : Loc nD τ sig) → Buf (Elt Ideal) ℓ)

theorem e0 : ∀ t : Fin cfg0.N, win0_0.index t = ![t.val / 7, t.val % 7] := (by decide +kernel : ∀ t : Fin grid0.N, _)
theorem e1 : ∀ t : Fin cfg0.N, win0_1.index t = ![t.val % 7, 0] := (by decide +kernel : ∀ t : Fin grid0.N, _)

abbrev A0 : (⟨2, ![8192, 12544]⟩ : Shape).Idx → EReal := m ((c : Thread nD τ).loc main_arg0)
abbrev A1 : (⟨2, ![12544, 1024]⟩ : Shape).Idx → EReal := m ((c : Thread nD τ).loc main_arg1)

/-- The row of the array that row `r` of point `n`'s tile is. -/
abbrev rowOf (n : ℕ) (r : Fin 1024) : Fin 8192 := ⟨n / 7 % 8 * 1024 + r.val, by omega⟩
/-- The position in the sum that place `k` of point `n`'s tile is. -/
abbrev posOf (n : ℕ) (k : Fin 1792) : Fin 12544 := Cert.Prod.place (K := 7) (by decide) rfl n k

theorem blk0_at (t : Fin cfg0.N) (r : Fin 1024) (k : Fin 1792) :
    iblk m c 0 t (ix2 r k) = A0 c m (ix2 (rowOf t.val r) (posOf t.val k)) := by
  have ht : t.val < 56 := t.isLt
  blk_simp [iblk, V_main_arg0]
  congr 1
  funext a; apply Fin.ext
  fin_cases a <;> blk_simp [e0]
  · show t.val / 7 * 1024 + r.val = t.val / 7 % 8 * 1024 + r.val; omega
  · rfl

theorem blk1_at (t : Fin cfg0.N) (k : Fin 1792) (d : Fin 1024) :
    iblk m c 1 t (ix2 k d) = A1 c m (ix2 (posOf t.val k) d) := by
  blk_simp [iblk, V_main_arg1]
  congr 1
  funext a; apply Fin.ext
  fin_cases a <;> blk_simp [e1]
  · rfl
  · rfl

/-- A summand of row `r`, column `d` of the tile that run `q` of points makes. -/
def term (r d : Fin 1024) (q : ℕ) (k : Fin 12544) : EReal :=
  A0 c m (ix2 ⟨q % 8 * 1024 + r.val, by omega⟩ k) * A1 c m (ix2 k d)

theorem add_tile (r d : Fin 1024) (t : Fin cfg0.N) (acc : Vec Ideal S1024x1024 .f32) :
    k0_pay2 acc (iblk m c 0 t) (iblk m c 1 t) (ix2 r d) = acc (ix2 r d) + ∑ k : Fin 1792, term c m r d (t.val / 7) (posOf t.val k) := by
  rw [step_at]
  simp only [blk0_at c m t, blk1_at]
  rfl

theorem acc_first (r d : Fin 1024) (n : ℕ) (h : n < cfg0.N) (h0 : n % 7 = 0) :
    (outsAt0 m c n h).2 (ix2 r d) = ∑ k : Fin 1792, term c m r d (n / 7) (posOf n k) := by
  rw [outsAt0_A m c ⟨n, h⟩ h0 (by show ¬n % 7 = 6; omega)]
  dsimp only
  rw [sout_A, add_tile, zero_at, zero_add]

theorem acc_next (r d : Fin 1024) (n : ℕ) (h : n + 1 < cfg0.N) (h0 : (n + 1) % 7 ≠ 0) :
    (outsAt0 m c (n + 1) h).2 (ix2 r d) = (outsAt0 m c n (by omega)).2 (ix2 r d) + ∑ k : Fin 1792, term c m r d ((n + 1) / 7) (posOf (n + 1) k) := by
  by_cases h1 : (n + 1) % 7 = 6
  · rw [outsAt0_C m c ⟨n + 1, h⟩ h0 h1]
    dsimp only
    rw [sout_C, add_tile]
    rfl
  · rw [outsAt0_B m c ⟨n + 1, h⟩ h0 h1]
    dsimp only
    rw [sout_B, add_tile]
    rfl

/-- The gradient's entry: the whole sum over the projected columns. -/
def entry (y : Fin 8192) (d : Fin 1024) : EReal := ∑ k : Fin 12544, A0 c m (ix2 y k) * A1 c m (ix2 k d)

theorem out_last (r d : Fin 1024) (t : Fin cfg0.N) (h : t.val % 7 = 6) :
    (outsAt0 m c t.val t.isLt).1 (ix2 r d) = entry c m (rowOf t.val r) d := by
  have hl : (outsAt0 m c t.val t.isLt).1 (ix2 r d) = (outsAt0 m c t.val t.isLt).2 (ix2 r d) := by
    rw [outsAt0_C m c t (by omega) h]
    dsimp only
    rw [out_C, sout_C]
  exact hl.trans (Cert.Prod.fold_tiles (T := 1792) (M := 12544) (by decide) rfl (fun n h => (outsAt0 m c n h).2 (ix2 r d)) (term c m r d)
    (acc_first c m r d) (acc_next c m r d) t.val t.isLt h)

theorem e2 : ∀ t : Fin cfg0.N, win0_2.index t = ![t.val / 7, 0] := (by decide +kernel : ∀ t : Fin grid0.N, _)
theorem flush2 : ∀ t : Fin cfg0.N, (cfg0.win 2).flush t = true → t.val % 7 = 6 := (by decide +kernel : ∀ t : Fin grid0.N, _)

/-- The array the call leaves. -/
theorem final : (dats m 0 c).arrAt 2 cfg0.N = fun i => entry c m (i 0) (i 1) := by
  refine (dats m 0 c).arrAt_eq_of_covers 2 _ (by decide +kernel) fun t hf y => ?_
  obtain ⟨r, d, rfl⟩ : ∃ r d, y = (ix2 r d : S1024x1024.Idx) := ⟨y 0, y 1, eq_ix2 y⟩
  have h := out_last c m r d t (flush2 t hf)
  have ht : t.val < 56 := t.isLt
  blk_simp
  rw [after0_2]
  refine h.trans (congrArg₂ (entry c m) (Fin.ext ?_) (Fin.ext ?_))
  · blk_simp [e2]
    show t.val / 7 % 8 * 1024 + r.val = t.val / 7 * 1024 + r.val; omega
  · blk_simp [e2]

end Cert.Kernel3Ideal.Prod
end
-- ==== Proof.Prod.DhClaim.lean ====
module

public import proofs.«01_k».proof.Defs
public import proofs.«01_k».proof.Proof.Gen.Kernel3Ideal
public import proofs.«01_k».proof.Proof.Gen.Reference3Ideal
public import proofs.«01_k».proof.Proof.Gen.Reference3Ideal.Run
public import proofs.«01_k».proof.Proof.Gen.Reference3Ideal.Read
public import proofs.«01_k».proof.Proof.Prod.Dh
public import Idealize.ShloMosaic.Lib.Quiescent

/-! The tiled product of the gradient of the input projection's input is the derivative of the plain projection. -/

@[expose] public section

set_option maxRecDepth 16384
noncomputable section

open Idealize.ShloMosaic Idealize.SL.Sem

namespace Cert.Reference3Ideal.Prod

open Cert.Reference3Ideal Cert.Reference3Ideal.Gen Cert.Reference3Ideal.Read

/-- The reference runs, leaves its arguments as they were and ends quiet. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2, sem_eq_zero_of_no_sems rfl r.2⟩) (Cert.Reference3Ideal.Value.run m ρ)

theorem val_at (x0 : S8192x12544.Idx → EReal) (x1 : S12544x1024.Idx → EReal) (y : Fin 8192) (d : Fin 1024) :
    val_main_v5 (F := Ideal) x0 x1 (ix2 y d) = ∑ k : Fin 12544, x0 (ix2 y k) * x1 (ix2 k d) := by
  rw [val_main_v5_apply]
  refine Finset.sum_congr rfl fun k _ => ?_
  rw [val_main_v1_apply, val_main_v3_apply, val_main_v0_apply]
  show x0 _ * x1 _ = _
  congr 2 <;> (funext a; fin_cases a <;> rfl)

end Cert.Reference3Ideal.Prod

namespace Cert.Prod

theorem algebraic3 : algebraic_Kernel3Ideal_Reference3Ideal (hKernel3Ideal := Cert.Kernel3Ideal.Gen.facts)
    (hReference3Ideal := Cert.Reference3Ideal.Gen.facts) := by
  intro m g m' g' hp hargs
  refine ⟨fun c => (Cert.Kernel3Ideal.Gen.dats m 0 c).arrAt 2 Cert.Kernel3Ideal.cfg0.N, Cert.Kernel3Ideal.Value.run_blocks m g, ?_⟩
  refine (θ_run Cert.Reference3Ideal.defs _ _).mono (fun r h c => ?_) (Cert.Reference3Ideal.Value.run m' g')
  obtain ⟨h0, h1⟩ := h c
  obtain ⟨a0, a1⟩ := hargs c
  refine ⟨h0.trans ?_, h1⟩
  rw [Cert.Reference3Ideal.Read.val_main_v5_eq, a0, a1]
  refine Eq.trans ?_ (Cert.Kernel3Ideal.Prod.final c m).symm
  funext i
  obtain ⟨y, d, rfl⟩ : ∃ y d, i = ix2 y d := ⟨i 0, i 1, eq_ix2 i⟩
  exact Cert.Reference3Ideal.Prod.val_at _ _ y d

end Cert.Prod
end
-- ==== Proof.Prod.Rms.lean ====
module

public import Idealize.ShloMosaic.Lib.Pointwise
public import Idealize.ShloMosaic.Lib.IdealHost
public import Idealize.ShloMosaic.PureOps.Ideal.Laws
public import proofs.«01_k».proof.Proof.Attn.Math

/-! The gradient of one row's root-mean-square norm, on extended reals: as the norm's derivative is written, and as differentiating
    the norm line by line gives it. The two agree on all rows. -/

@[expose] public section

noncomputable section

namespace Cert.Rms

open Idealize.ShloMosaic

/-- A row's number of entries, as the programs spell it. -/
def width : EReal := Ideal.ofBits .f32 0x44800000#32
/-- What is added to the mean square. -/
def eps : EReal := Ideal.ofBits .f32 0x358637BD#32
/-- Minus one half, the exponent of the mean square. -/
def expn : EReal := Ideal.ofBits .f32 0xBF000000#32

theorem width_eq : width = ((1024 : ℝ) : EReal) := by
  unfold width; simp [Ideal.ofBits, Ideal.ieee, -EReal.coe_mul]; norm_num

theorem eps_eq : ∃ e : ℝ, 0 < e ∧ eps = (e : EReal) := by
  unfold eps; simp [Ideal.ofBits, Ideal.ieee, -EReal.coe_mul]

theorem expn_eq : expn = ((-(1 / 2) : ℝ) : EReal) := by
  unfold expn; simp [Ideal.ofBits, Ideal.ieee, -EReal.coe_mul]; norm_num

variable (x w : Fin 1024 → EReal)

/-- The row's mean square, a little added. -/
def var : EReal := Ideal.div (∑ j, x j * x j) width + eps
/-- The reciprocal of its root. -/
def rinv : EReal := Ideal.rsqrt (var x)
/-- The normed row. -/
def hat (d : Fin 1024) : EReal := x d * rinv x
/-- The gradient by the row, where `w` is the gradient by the normed row. -/
def grad (d : Fin 1024) : EReal := rinv x * (w d - hat x d * Ideal.div (∑ j, w j * hat x j) width)
/-- The gradient by each square of the row, line by line. -/
def gradSq : EReal := Ideal.div ((∑ j, x j * w j) * (expn * Ideal.div (rinv x) (var x))) width
/-- The gradient by the row, line by line. -/
def gradLines (d : Fin 1024) : EReal := w d * rinv x + (x d * gradSq x w + gradSq x w * x d)

theorem double (c : ℝ) (s : EReal) : (c : EReal) * s + (c : EReal) * s = ((2 * c : ℝ) : EReal) * s := by
  rcases lt_trichotomy c 0 with h | rfl | h
  · induction s with
    | bot => rw [EReal.coe_mul_bot_of_neg h, EReal.coe_mul_bot_of_neg (by linarith)]; rfl
    | top => rw [EReal.coe_mul_top_of_neg h, EReal.coe_mul_top_of_neg (by linarith)]; rfl
    | coe s => norm_cast; ring
  · simp
  · induction s with
    | bot => rw [EReal.coe_mul_bot_of_pos h, EReal.coe_mul_bot_of_pos (by linarith)]; rfl
    | top => rw [EReal.coe_mul_top_of_pos h, EReal.coe_mul_top_of_pos (by linarith)]; rfl
    | coe s => norm_cast; ring

theorem sq_nonneg (a : EReal) : 0 ≤ a * a := by
  induction a with
  | bot => simp
  | top => simp
  | coe a => exact_mod_cast mul_self_nonneg a

/-- The sum of a row's squares is infinite, or the row is real. -/
theorem real_or_top : (∑ j, x j * x j) = ⊤ ∨ ∃ ξ : Fin 1024 → ℝ, x = fun j => (ξ j : EReal) := by
  by_cases h : ∀ j, x j ≠ ⊤ ∧ x j ≠ ⊥
  · exact .inr ⟨fun j => (x j).toReal, funext fun j => (EReal.coe_toReal (h j).1 (h j).2).symm⟩
  · left
    push Not at h
    obtain ⟨j, hj⟩ := h
    have hs : x j * x j = ⊤ := by
      by_cases ht : x j = ⊤
      · rw [ht]; rfl
      · rw [hj ht]; rfl
    exact top_le_iff.1 (hs ▸ Finset.single_le_sum (f := fun j => x j * x j) (fun i _ => sq_nonneg (x i)) (Finset.mem_univ j))

theorem div_width (a : EReal) : Ideal.div a width = a * ((1 / 1024 : ℝ) : EReal) := by
  rw [width_eq, Ideal.div_coe (by norm_num)]

/-- The two ways to write the gradient agree. -/
theorem grad_eq (d : Fin 1024) : grad x w d = gradLines x w d := by
  rcases real_or_top x with h | ⟨ξ, rfl⟩
  · obtain ⟨e, he, hee⟩ := eps_eq
    have hv : var x = ⊤ := by
      rw [var, h, div_width, EReal.top_mul_coe_of_pos (by norm_num), hee]; rfl
    have hr : rinv x = 0 := by rw [rinv, hv]; rfl
    have hg : gradSq x w = 0 := by
      rw [gradSq, hr, hv, div_width]; simp [Ideal.div]
    simp [grad, gradLines, hr, hg]
  · obtain ⟨e, he, hee⟩ := eps_eq
    set ν : ℝ := (∑ j, ξ j * ξ j) * (1 / 1024) + e with hν
    have hpos : 0 < ν := by
      have : 0 ≤ ∑ j, ξ j * ξ j := Finset.sum_nonneg fun j _ => mul_self_nonneg _
      positivity
    have hv : var (fun j => (ξ j : EReal)) = (ν : EReal) := by
      rw [var, div_width, hee, hν, EReal.coe_add, EReal.coe_mul, Cert.Attn.coe_sum]
      simp only [EReal.coe_mul]
    set ρ : ℝ := (Real.sqrt ν)⁻¹ with hρ
    have hρ0 : 0 ≤ ρ := by positivity
    have hr : rinv (fun j => (ξ j : EReal)) = (ρ : EReal) := by
      rw [rinv, hv, Ideal.rsqrt_coe, if_neg (not_lt.2 hpos.le), if_neg hpos.ne']
    have hρν : ρ * (1 / ν) = ρ * ρ * ρ := by
      have : ρ * ρ = 1 / ν := by rw [hρ, ← mul_inv, Real.mul_self_sqrt hpos.le, one_div]
      rw [← this, mul_assoc]
    set s : EReal := ∑ j, (ξ j : EReal) * w j with hs
    have hm : (∑ j, w j * hat (fun j => (ξ j : EReal)) j) = (ρ : EReal) * s := by
      rw [hs, Cert.Attn.mul_sum_real ρ hρ0]
      refine Finset.sum_congr rfl fun j _ => ?_
      rw [hat, hr]; ac_rfl
    have hg : gradSq (fun j => (ξ j : EReal)) w = ((-(ρ * ρ * ρ) / 2048 : ℝ) : EReal) * s := by
      rw [gradSq, hr, hv, div_width, Ideal.div_coe hpos.ne', expn_eq, ← EReal.coe_mul, hρν, ← EReal.coe_mul, ← hs, mul_assoc,
        ← EReal.coe_mul, mul_comm]
      congr 2; ring
    have hl : grad (fun j => (ξ j : EReal)) w d = w d * (ρ : EReal) + ((2 * (ξ d * (-(ρ * ρ * ρ) / 2048)) : ℝ) : EReal) * s := by
      rw [grad, hm, hat, hr, div_width, sub_eq_add_neg, EReal.left_distrib_of_nonneg_of_ne_top (by exact_mod_cast hρ0) (EReal.coe_ne_top _),
        mul_comm (w d)]
      congr 1
      rw [← EReal.neg_mul, mul_comm (ρ : EReal) s, mul_assoc s, mul_comm s, ← mul_assoc, ← mul_assoc, ← EReal.coe_mul, ← EReal.coe_mul, ← EReal.coe_neg,
        ← EReal.coe_mul, ← EReal.coe_mul]
      congr 2; ring
    set γ : ℝ := -(ρ * ρ * ρ) / 2048
    have h1 : (ξ d : EReal) * ((γ : EReal) * s) = ((ξ d * γ : ℝ) : EReal) * s := by rw [EReal.coe_mul, mul_assoc]
    rw [hl, gradLines, hr, hg, mul_comm (_ * s), h1, double]

end Cert.Rms
end
-- ==== Proof.Prod.NormBwd.lean ====
module

public import proofs.«01_k».proof.Proof.Gen.Kernel4Ideal.Value
public import Idealize.ShloMosaic.Lib.Pointwise
public import Idealize.ShloMosaic.Lib.Pipeline.ValueKit
public import proofs.«01_k».proof.Proof.Prod.Fold
public import proofs.«01_k».proof.Proof.Prod.Rms

/-! The backward pass of the input norm: what the call ends with. -/

@[expose] public section

set_option maxRecDepth 16384
noncomputable section

namespace Cert.Kernel4Ideal.Prod

open Cert.Kernel4Ideal Cert.Kernel4Ideal.Gen Idealize.ShloMosaic Idealize.ShloMosaic.TcCoe Idealize.SL.Sem Idealize.ShloMosaic.Tactic
open Cert.Rms (rinv hat grad)

theorem pay1_at (i : S1x1024.Idx) : k0_pay1 (F := Ideal) i = 0 := by
  unfold k0_pay1; pointwise

theorem pay2_at (x : Vec Ideal S1024x1024 .f32) (r : Fin 1024) : k0_pay2 x (ix2 r (0 : Fin 1)) = rinv (fun j => x (ix2 r j)) := by
  unfold k0_pay2; pointwise; rfl

theorem pay3_at (x : Vec Ideal S1024x1024 .f32) (r d : Fin 1024) : k0_pay3 x (ix2 r d) = hat (fun j => x (ix2 r j)) d := by
  unfold k0_pay3; pointwise
  rw [pay2_at]; rfl

/-- A block's rows added to the gain's gradient. -/
theorem pay4_at (x dh : Vec Ideal S1024x1024 .f32) (acc : Vec Ideal S1x1024 .f32) (d : Fin 1024) :
    k0_pay4 x dh acc (ix2 (0 : Fin 1) d) = acc (ix2 0 d) + ∑ r : Fin 1024, dh (ix2 r d) * hat (fun j => x (ix2 r j)) d := by
  unfold k0_pay4; pointwise
  simp only [pay3_at]

/-- The gradient by the input, of a block. -/
theorem pay5_at (x dh : Vec Ideal S1024x1024 .f32) (g : Vec Ideal S1x1024 .f32) (y : Vec Ideal S1024x1024 .f32) (r d : Fin 1024) :
    k0_pay5 x dh g y (ix2 r d) = y (ix2 r d) + grad (fun j => x (ix2 r j)) (fun j => dh (ix2 r j) * g (ix2 (0 : Fin 1) j)) d := by
  unfold k0_pay5; pointwise
  simp only [pay3_at, pay2_at]; rfl

variable (c : Dev nD) (m : (ℓ : Loc nD τ sig) → Buf (Elt Ideal) ℓ)

theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![t.val, 0] := (by decide +kernel : ∀ t : Fin grid0.N, _)
theorem e4 : ∀ t : Fin cfg0.N, win0_4.index t = ![t.val, 0] := (by decide +kernel : ∀ t : Fin grid0.N, _)
theorem e5 : ∀ t : Fin cfg0.N, win0_5.index t = ![0, 0] := (by decide +kernel : ∀ t : Fin grid0.N, _)

abbrev X : (⟨2, ![8192, 1024]⟩ : Shape).Idx → EReal := m ((c : Thread nD τ).loc main_arg0)
abbrev G : (⟨2, ![1, 1024]⟩ : Shape).Idx → EReal := m ((c : Thread nD τ).loc main_arg1)
abbrev DH : (⟨2, ![8192, 1024]⟩ : Shape).Idx → EReal := m ((c : Thread nD τ).loc main_arg2)
abbrev DX : (⟨2, ![8192, 1024]⟩ : Shape).Idx → EReal := m ((c : Thread nD τ).loc main_arg3)

/-- The row of the whole array that row `r` of point `n`'s block is. -/
abbrev rowOf (n : ℕ) (r : Fin 1024) : Fin 8192 := Cert.Prod.place (K := 8) (by decide) rfl n r

theorem blk0_at (t : Fin cfg0.N) (r d : Fin 1024) : iblk m c 0 t (ix2 r d) = X c m (ix2 (rowOf t.val r) d) := by
  have ht : t.val < 8 := t.isLt
  blk_simp [iblk, V_main_arg0]
  congr 1
  funext a; apply Fin.ext
  fin_cases a <;> blk_simp [e0]
  · show t.val * 1024 + r.val = t.val % 8 * 1024 + r.val; omega
  · rfl

theorem blk1_at (t : Fin cfg0.N) (d : Fin 1024) : iblk m c 1 t (ix2 (0 : Fin 1) d) = G c m (ix2 0 d) := by
  blk_simp [iblk, V_main_arg1]
  congr 1
  funext a; apply Fin.ext
  fin_cases a <;> blk_simp [e1] <;> rfl

theorem blk2_at (t : Fin cfg0.N) (r d : Fin 1024) : iblk m c 2 t (ix2 r d) = DH c m (ix2 (rowOf t.val r) d) := by
  have ht : t.val < 8 := t.isLt
  blk_simp [iblk, V_main_arg2]
  congr 1
  funext a; apply Fin.ext
  fin_cases a <;> blk_simp [e2]
  · show t.val * 1024 + r.val = t.val % 8 * 1024 + r.val; omega
  · rfl

theorem blk3_at (t : Fin cfg0.N) (r d : Fin 1024) : iblk m c 3 t (ix2 r d) = DX c m (ix2 (rowOf t.val r) d) := by
  have ht : t.val < 8 := t.isLt
  blk_simp [iblk, V_main_arg3]
  congr 1
  funext a; apply Fin.ext
  fin_cases a <;> blk_simp [e3]
  · show t.val * 1024 + r.val = t.val % 8 * 1024 + r.val; omega
  · rfl

/-- The gradient by the norm's input, the residual's gradient added. -/
def dxAt (y : Fin 8192) (d : Fin 1024) : EReal :=
  DX c m (ix2 y d) + grad (fun j => X c m (ix2 y j)) (fun j => DH c m (ix2 y j) * G c m (ix2 0 j)) d

/-- A row's part of the gradient by the gain. -/
def dgTerm (d : Fin 1024) (y : Fin 8192) : EReal := DH c m (ix2 y d) * hat (fun j => X c m (ix2 y j)) d

theorem dx_block (t : Fin cfg0.N) (r d : Fin 1024) :
    k0_pay5 (F := Ideal) (iblk m c 0 t) (iblk m c 2 t) (iblk m c 1 t) (iblk m c 3 t) (ix2 r d) = dxAt c m (rowOf t.val r) d := by
  rw [pay5_at]
  simp only [blk0_at, blk1_at, blk2_at, blk3_at]
  rfl

theorem dg_block (t : Fin cfg0.N) (acc : Vec Ideal S1x1024 .f32) (d : Fin 1024) :
    k0_pay4 (iblk m c 0 t) (iblk m c 2 t) acc (ix2 (0 : Fin 1) d) = acc (ix2 0 d) + ∑ r : Fin 1024, dgTerm c m d (rowOf t.val r) := by
  rw [pay4_at]
  simp only [blk0_at, blk2_at]
  rfl

theorem out_dx (t : Fin cfg0.N) (r d : Fin 1024) : (outsAt0 m c t.val t.isLt).1 (ix2 r d) = dxAt c m (rowOf t.val r) d := by
  by_cases h0 : t.val % 8 = 0
  · rw [outsAt0_A m c t h0]
    frame_out
    exact dx_block c m t r d
  · rw [outsAt0_B m c t h0]
    frame_out
    exact dx_block c m t r d

theorem dg_first (d : Fin 1024) (n : ℕ) (h : n < cfg0.N) (h0 : n % 8 = 0) :
    (outsAt0 m c n h).2 (ix2 0 d) = ∑ r : Fin 1024, dgTerm c m d (rowOf n r) := by
  rw [outsAt0_A m c ⟨n, h⟩ h0]
  frame_out
  rw [dg_block, pay1_at, zero_add]

theorem dg_next (d : Fin 1024) (n : ℕ) (h : n + 1 < cfg0.N) (h0 : (n + 1) % 8 ≠ 0) :
    (outsAt0 m c (n + 1) h).2 (ix2 0 d) = (outsAt0 m c n (by omega)).2 (ix2 0 d) + ∑ r : Fin 1024, dgTerm c m d (rowOf (n + 1) r) := by
  rw [outsAt0_B m c ⟨n + 1, h⟩ h0]
  frame_out
  rw [dg_block]
  rfl

theorem out_dg (d : Fin 1024) (t : Fin cfg0.N) (h : t.val % 8 = 7) :
    (outsAt0 m c t.val t.isLt).2 (ix2 0 d) = ∑ y, dgTerm c m d y :=
  Cert.Prod.fold_tiles (T := 1024) (M := 8192) (by decide) rfl (fun n h => (outsAt0 m c n h).2 (ix2 0 d)) (fun _ => dgTerm c m d)
    (dg_first c m d) (dg_next c m d) t.val t.isLt h

theorem flush5 : ∀ t : Fin cfg0.N, (cfg0.win 5).flush t = true → t.val % 8 = 7 := (by decide +kernel : ∀ t : Fin grid0.N, _)

/-- The first array the call leaves. -/
theorem final4 : (dats m 0 c).arrAt 4 cfg0.N = fun i => dxAt c m (i 0) (i 1) := by
  refine (dats m 0 c).arrAt_eq_of_covers 4 _ (by decide +kernel) fun t hf y => ?_
  obtain ⟨r, d, rfl⟩ : ∃ r d, y = (ix2 r d : S1024x1024.Idx) := ⟨y 0, y 1, eq_ix2 y⟩
  have h := out_dx c m t r d
  have ht : t.val < 8 := t.isLt
  blk_simp
  rw [after0_4]
  refine h.trans (congrArg₂ (dxAt c m) (Fin.ext ?_) (Fin.ext ?_))
  · blk_simp [e4]
    show t.val % 8 * 1024 + r.val = t.val * 1024 + r.val; omega
  · blk_simp [e4]

/-- The second array the call leaves. -/
theorem final5 : (dats m 0 c).arrAt 5 cfg0.N = fun i => ∑ y, dgTerm c m (i 1) y := by
  refine (dats m 0 c).arrAt_eq_of_covers 5 _ (by decide +kernel) fun t hf y => ?_
  obtain ⟨r, d, rfl⟩ : ∃ r d, y = (ix2 r d : S1x1024.Idx) := ⟨y 0, y 1, eq_ix2 y⟩
  obtain rfl : r = 0 := Subsingleton.elim _ _
  have h := out_dg c m d t (flush5 t hf)
  blk_simp
  rw [after0_5]
  refine h.trans (congrArg (fun d => ∑ y, dgTerm c m d y) (Fin.ext ?_))
  blk_simp [e5]

end Cert.Kernel4Ideal.Prod
end
-- ==== Proof.Prod.NormBwdClaim.lean ====
module

public import proofs.«01_k».proof.Defs
public import proofs.«01_k».proof.Proof.Gen.Kernel4Ideal
public import proofs.«01_k».proof.Proof.Gen.Reference4Ideal
public import proofs.«01_k».proof.Proof.Gen.Reference4Ideal.Run
public import proofs.«01_k».proof.Proof.Gen.Reference4Ideal.Read
public import proofs.«01_k».proof.Proof.Prod.NormBwd
public import Idealize.ShloMosaic.Lib.Quiescent

/-! The backward pass of the input norm is the derivative of the plain norm. -/

@[expose] public section

set_option maxRecDepth 16384
noncomputable section

open Idealize.ShloMosaic Idealize.SL.Sem

namespace Cert.Reference4Ideal.Prod

open Cert.Reference4Ideal Cert.Reference4Ideal.Gen Cert.Reference4Ideal.Read
open Cert.Rms

/-- The reference runs, leaves its arguments as they were and ends quiet. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => (h c).2.2, sem_eq_zero_of_no_sems rfl r.2⟩) (Cert.Reference4Ideal.Value.run m ρ)

variable (x : S8192x1024.Idx → EReal) (g : S1x1024.Idx → EReal) (dh dx : S8192x1024.Idx → EReal)

theorem i1 (y : Fin 8192) (j : Fin 1024) : idx_main_v1 (idx_main_v2 (ix2 y (0 : Fin 1))) j = ix2 y j := by
  funext a; fin_cases a <;> rfl

theorem i11 (y : Fin 8192) (d : Fin 1024) : idx_main_v11 (ix2 y d) = ix2 y (0 : Fin 1) := by
  funext a; fin_cases a <;> rfl

theorem i16 (d : Fin 1024) (y : Fin 8192) : idx_main_v16 (idx_main_v17 (ix2 (0 : Fin 1) d)) y = ix2 y d := by
  funext a; apply Fin.ext; fin_cases a
  · rfl
  · show 0 * 1024 + d.val = d.val; omega

theorem i18 (y : Fin 8192) (d : Fin 1024) : idx_main_v18 (ix2 y d) = ix2 (0 : Fin 1) d := by
  funext a; fin_cases a <;> rfl

theorem i21 (y : Fin 8192) (j : Fin 1024) : idx_main_v21 (idx_main_v22 (ix2 y (0 : Fin 1))) j = ix2 y j := by
  funext a; apply Fin.ext; fin_cases a
  · show y.val * 1 + 0 = y.val; omega
  · rfl

theorem i28 (y : Fin 8192) (d : Fin 1024) : idx_main_v28 (idx_main_v29 (ix2 y d)) 0 = ix2 y (0 : Fin 1) := by
  funext a; fin_cases a <;> rfl

theorem i23 (y : Fin 8192) (d : Fin 1024) : idx_main_v23 (ix2 y d) = ix2 y (0 : Fin 1) := by
  funext a; fin_cases a <;> rfl

theorem v6_at (y : Fin 8192) : val_main_v6 (F := Ideal) x (ix2 y (0 : Fin 1)) = var (fun j => x (ix2 y j)) := by
  rw [val_main_v6_apply, val_main_v4_apply, val_main_v2_apply, val_main_v1_apply, val_main_v3_apply, val_main_v5_apply,
    val_main_cst_0_apply, val_main_cst_1_apply, val_main_cst_apply]
  simp only [val_main_v0_apply]
  show Ideal.div (Ideal.ofBits .f32 0x00000000#32 + ∑ k : Fin 1024, x _ * x _) width + eps = _
  rw [Ideal.ofBits_zero, zero_add]
  simp only [i1]
  rfl

theorem v7_at (y : Fin 8192) : val_main_v7 (F := Ideal) x (ix2 y (0 : Fin 1)) = rinv (fun j => x (ix2 y j)) := by
  rw [val_main_v7_apply, v6_at]; rfl

theorem v12_at (y : Fin 8192) (d : Fin 1024) : val_main_v12 (F := Ideal) x (ix2 y d) = hat (fun j => x (ix2 y j)) d := by
  rw [val_main_v12_apply, val_main_v11_apply, i11, v7_at]; rfl

theorem v17_at (d : Fin 1024) : val_main_v17 (F := Ideal) x dh (ix2 (0 : Fin 1) d) = ∑ y, dh (ix2 y d) * hat (fun j => x (ix2 y j)) d := by
  rw [val_main_v17_apply, val_main_v16_apply, val_main_cst_3_apply]
  show Ideal.ofBits .f32 0x00000000#32 + _ = _
  rw [Ideal.ofBits_zero, zero_add]
  refine Finset.sum_congr rfl fun y _ => ?_
  rw [val_main_v15_apply, i16]
  exact (congrArg (· * dh (ix2 y d)) (v12_at x y d)).trans (mul_comm _ _)

theorem v19_at (y : Fin 8192) (d : Fin 1024) : val_main_v19 (F := Ideal) g dh (ix2 y d) = dh (ix2 y d) * g (ix2 (0 : Fin 1) d) := by
  rw [val_main_v19_apply, val_main_v18_apply, i18]; rfl

theorem v10_at (y : Fin 8192) : val_main_v10 (F := Ideal) x (ix2 y (0 : Fin 1)) = expn * Ideal.div (rinv (fun j => x (ix2 y j))) (var (fun j => x (ix2 y j))) := by
  rw [val_main_v10_apply, val_main_v9_apply, val_main_v8_apply, val_main_cst_2_apply, v6_at, v7_at]; rfl

theorem v27_at (y : Fin 8192) : val_main_v27 (F := Ideal) x g dh (ix2 y (0 : Fin 1)) = gradSq (fun j => x (ix2 y j)) (fun j => dh (ix2 y j) * g (ix2 (0 : Fin 1) j)) := by
  rw [val_main_v27_apply, val_main_v25_apply, val_main_v22_apply, val_main_v21_apply, val_main_v26_apply, v10_at, val_main_cst_4_apply, val_main_cst_5_apply]
  show Ideal.div ((Ideal.ofBits .f32 0x00000000#32 + _) * _) width = _
  rw [Ideal.ofBits_zero, zero_add, gradSq]
  congr 2
  refine Finset.sum_congr rfl fun j _ => ?_
  rw [val_main_v20_apply, i21]
  exact congrArg (x (ix2 y j) * ·) (v19_at g dh y j)

theorem v29_at (y : Fin 8192) (d : Fin 1024) : val_main_v29 (F := Ideal) x g dh (ix2 y d) = gradSq (fun j => x (ix2 y j)) (fun j => dh (ix2 y j) * g (ix2 (0 : Fin 1) j)) := by
  rw [val_main_v29_apply, val_main_v28_apply, val_main_cst_6_apply]
  show Ideal.ofBits .f32 0x00000000#32 + _ = _
  rw [Ideal.ofBits_zero, zero_add, Fin.sum_univ_one, i28, v27_at]

theorem v34_at (y : Fin 8192) (d : Fin 1024) : val_main_v34 (F := Ideal) x g dh dx (ix2 y d)
    = dx (ix2 y d) + grad (fun j => x (ix2 y j)) (fun j => dh (ix2 y j) * g (ix2 (0 : Fin 1) j)) d := by
  rw [val_main_v34_apply, val_main_v33_apply, val_main_v31_apply, val_main_v24_apply, val_main_v30_apply, val_main_v32_apply, v29_at, v19_at,
    val_main_v23_apply, i23, v7_at, grad_eq, gradLines]
  generalize gradSq _ _ = q
  generalize rinv _ = r
  exact congrArg (dx (ix2 y d) + ·) (add_assoc (dh (ix2 y d) * g (ix2 0 d) * r) (x (ix2 y d) * q) (q * x (ix2 y d)))

end Cert.Reference4Ideal.Prod

namespace Cert.Prod

theorem algebraic4 : algebraic_Kernel4Ideal_Reference4Ideal (hKernel4Ideal := Cert.Kernel4Ideal.Gen.facts)
    (hReference4Ideal := Cert.Reference4Ideal.Gen.facts) := by
  intro m g m' g' hp hargs
  refine ⟨fun c => (Cert.Kernel4Ideal.Gen.dats m 0 c).arrAt 4 Cert.Kernel4Ideal.cfg0.N, fun c => (Cert.Kernel4Ideal.Gen.dats m 0 c).arrAt 5 Cert.Kernel4Ideal.cfg0.N,
    Cert.Kernel4Ideal.Value.run_blocks m g, ?_⟩
  refine (θ_run Cert.Reference4Ideal.defs _ _).mono (fun r h c => ?_) (Cert.Reference4Ideal.Value.run m' g')
  obtain ⟨h0, h1, h2⟩ := h c
  obtain ⟨a0, a1, a2, a3⟩ := hargs c
  refine ⟨h0.trans ?_, h1.trans ?_, h2⟩
  · rw [Cert.Reference4Ideal.Read.val_main_v34_eq, a0, a1, a2, a3]
    refine Eq.trans ?_ (Cert.Kernel4Ideal.Prod.final4 c m).symm
    funext i
    obtain ⟨y, d, rfl⟩ : ∃ y d, i = ix2 y d := ⟨i 0, i 1, eq_ix2 i⟩
    exact Cert.Reference4Ideal.Prod.v34_at _ _ _ _ y d
  · rw [Cert.Reference4Ideal.Read.val_main_v17_eq, a0, a2]
    refine Eq.trans ?_ (Cert.Kernel4Ideal.Prod.final5 c m).symm
    funext i
    obtain ⟨y, d, rfl⟩ : ∃ y d, i = ix2 y d := ⟨i 0, i 1, eq_ix2 i⟩
    obtain rfl : y = 0 := Subsingleton.elim _ _
    exact Cert.Reference4Ideal.Prod.v17_at _ _ d

end Cert.Prod
end
-- ==== Proof.Prod.InProj.lean ====
module

public import proofs.«01_k».proof.Proof.Gen.Kernel5Ideal.Value
public import Idealize.ShloMosaic.Lib.Pointwise
public import Idealize.ShloMosaic.Lib.Pipeline.ValueKit

/-! The input projection of the forward pass: what the tiled product ends with. -/

@[expose] public section

set_option maxRecDepth 16384
noncomputable section

namespace Cert.Kernel5Ideal.Prod

open Cert.Kernel5Ideal Cert.Kernel5Ideal.Gen Idealize.ShloMosaic Idealize.ShloMosaic.TcCoe Idealize.SL.Sem Idealize.ShloMosaic.Tactic

/-- A tile's product onto zeros. -/
theorem tile_at (a : Vec Ideal S1024x1024 .bf16) (b : Vec Ideal S1792x1024 .bf16) (r : Fin 1024) (d : Fin 1792) :
    k0_pay2 (k0_pay1 (F := Ideal)) a b (ix2 r d) = ∑ k : Fin 1024, a (ix2 r k) * b (ix2 d k) := by
  have h0 : k0_pay1 (F := Ideal) (ix2 r d) = 0 := by unfold k0_pay1; pointwise
  have h1 : ∀ v : Vec Ideal S1024x1792 .f32, k0_pay2 v a b (ix2 r d) = v (ix2 r d) + ∑ k : Fin 1024, a (ix2 r k) * b (ix2 d k) := by
    intro v; unfold k0_pay2; pointwise
  rw [h1, h0, zero_add]

variable (c : Dev nD) (m : (ℓ : Loc nD τ sig) → Buf (Elt Ideal) ℓ)

theorem e0 : ∀ t : Fin cfg0.N, win0_0.index t = ![t.val / 7, 0] := (by decide +kernel : ∀ t : Fin grid0.N, _)
theorem e1 : ∀ t : Fin cfg0.N, win0_1.index t = ![t.val % 7, 0] := (by decide +kernel : ∀ t : Fin grid0.N, _)
theorem e2 : ∀ t : Fin cfg0.N, win0_2.index t = ![t.val / 7, t.val % 7] := (by decide +kernel : ∀ t : Fin grid0.N, _)

abbrev A0 : (⟨2, ![8192, 1024]⟩ : Shape).Idx → EReal := m ((c : Thread nD τ).loc main_arg0)
abbrev A1 : (⟨2, ![12544, 1024]⟩ : Shape).Idx → EReal := m ((c : Thread nD τ).loc main_arg1)

/-- The projection's entry. -/
def entry (y : Fin 8192) (d : Fin 12544) : EReal := ∑ k : Fin 1024, A0 c m (ix2 y k) * A1 c m (ix2 d k)

/-- The array's row and column of place `r`, `d` of point `t`'s tile. -/
abbrev rowOf (t : Fin cfg0.N) (r : Fin 1024) : Fin 8192 := ⟨t.val / 7 * 1024 + r.val, by have : t.val < 56 := t.isLt; omega⟩
abbrev colOf (t : Fin cfg0.N) (d : Fin 1792) : Fin 12544 := ⟨t.val % 7 * 1792 + d.val, by omega⟩

theorem blk0_at (t : Fin cfg0.N) (r : Fin 1024) (k : Fin 1024) : iblk m c 0 t (ix2 r k) = A0 c m (ix2 (rowOf t r) k) := by
  blk_simp [iblk, V_main_arg0]
  congr 1
  funext a; apply Fin.ext
  fin_cases a <;> blk_simp [e0] <;> rfl

theorem blk1_at (t : Fin cfg0.N) (d : Fin 1792) (k : Fin 1024) : iblk m c 1 t (ix2 d k) = A1 c m (ix2 (colOf t d) k) := by
  blk_simp [iblk, V_main_arg1]
  congr 1
  funext a; apply Fin.ext
  fin_cases a <;> blk_simp [e1] <;> rfl

theorem out_at (t : Fin cfg0.N) (r : Fin 1024) (d : Fin 1792) : outsAt0 m c t (ix2 r d) = entry c m (rowOf t r) (colOf t d) := by
  unfold outsAt0
  frame_out
  rw [tile_at]
  simp only [blk0_at, blk1_at]
  rfl

/-- The array the call leaves. -/
theorem final : (dats m 0 c).arrAt 2 cfg0.N = fun i => entry c m (i 0) (i 1) := by
  refine (dats m 0 c).arrAt_eq_of_covers 2 _ (by decide +kernel) fun t hf y => ?_
  obtain ⟨r, d, rfl⟩ : ∃ r d, y = (ix2 r d : S1024x1792.Idx) := ⟨y 0, y 1, eq_ix2 y⟩
  have h := out_at c m t r d
  blk_simp
  rw [after0_2]
  refine h.trans (congrArg₂ (entry c m) (Fin.ext ?_) (Fin.ext ?_)) <;> blk_simp [e2]

end Cert.Kernel5Ideal.Prod
end
-- ==== Proof.Prod.InProjClaim.lean ====
module

public import proofs.«01_k».proof.Defs
public import proofs.«01_k».proof.Proof.Gen.Kernel5Ideal
public import proofs.«01_k».proof.Proof.Gen.Reference5Ideal
public import proofs.«01_k».proof.Proof.Gen.Reference5Ideal.Run
public import proofs.«01_k».proof.Proof.Gen.Reference5Ideal.Read
public import proofs.«01_k».proof.Proof.Prod.InProj
public import Idealize.ShloMosaic.Lib.Quiescent

/-! The tiled input projection of the forward pass is the plain product. -/

@[expose] public section

set_option maxRecDepth 16384
noncomputable section

open Idealize.ShloMosaic Idealize.SL.Sem

namespace Cert.Reference5Ideal.Prod

open Cert.Reference5Ideal Cert.Reference5Ideal.Gen Cert.Reference5Ideal.Read

/-- The reference runs, leaves its arguments as they were and ends quiet. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2, sem_eq_zero_of_no_sems rfl r.2⟩) (Cert.Reference5Ideal.Value.run m ρ)

theorem val_at (x0 : S8192x1024.Idx → EReal) (x1 : S12544x1024.Idx → EReal) (y : Fin 8192) (d : Fin 12544) :
    val_main_v3 (F := Ideal) x0 x1 (ix2 y d) = ∑ k : Fin 1024, x0 (ix2 y k) * x1 (ix2 d k) := by
  rw [val_main_v3_apply]
  refine Finset.sum_congr rfl fun k _ => ?_
  rw [val_main_v0_apply, val_main_v2_apply, val_main_v1_apply]
  show x0 _ * x1 _ = _
  congr 2 <;> (funext a; fin_cases a <;> rfl)

end Cert.Reference5Ideal.Prod

namespace Cert.Prod

theorem algebraic5 : algebraic_Kernel5Ideal_Reference5Ideal (hKernel5Ideal := Cert.Kernel5Ideal.Gen.facts)
    (hReference5Ideal := Cert.Reference5Ideal.Gen.facts) := by
  intro m g m' g' hp hargs
  refine ⟨fun c => (Cert.Kernel5Ideal.Gen.dats m 0 c).arrAt 2 Cert.Kernel5Ideal.cfg0.N, Cert.Kernel5Ideal.Value.run_blocks m g, ?_⟩
  refine (θ_run Cert.Reference5Ideal.defs _ _).mono (fun r h c => ?_) (Cert.Reference5Ideal.Value.run m' g')
  obtain ⟨h0, h1⟩ := h c
  obtain ⟨a0, a1⟩ := hargs c
  refine ⟨h0.trans ?_, h1⟩
  rw [Cert.Reference5Ideal.Read.val_main_v3_eq, a0, a1]
  refine Eq.trans ?_ (Cert.Kernel5Ideal.Prod.final c m).symm
  funext i
  obtain ⟨y, d, rfl⟩ : ∃ y d, i = ix2 y d := ⟨i 0, i 1, eq_ix2 i⟩
  exact Cert.Reference5Ideal.Prod.val_at _ _ y d

end Cert.Prod
end
-- ==== Proof.Prod.DySsd.lean ====
module

public import proofs.«01_k».proof.Proof.Gen.Kernel6Ideal.Value
public import Idealize.ShloMosaic.Lib.Pointwise
public import Idealize.ShloMosaic.Lib.Pipeline.ValueKit

/-! The gradient of the state-space branch's output: what the tiled product ends with. -/

@[expose] public section

set_option maxRecDepth 16384
noncomputable section

namespace Cert.Kernel6Ideal.Prod

open Cert.Kernel6Ideal Cert.Kernel6Ideal.Gen Idealize.ShloMosaic Idealize.ShloMosaic.TcCoe Idealize.SL.Sem Idealize.ShloMosaic.Tactic

/-- A tile's product onto zeros. -/
theorem tile_at (a : Vec Ideal S1024x1024 .bf16) (b : Vec Ideal S1024x1024 .bf16) (r : Fin 1024) (d : Fin 1024) :
    k0_pay2 (k0_pay1 (F := Ideal)) a b (ix2 r d) = ∑ k : Fin 1024, a (ix2 r k) * b (ix2 d k) := by
  have h0 : k0_pay1 (F := Ideal) (ix2 r d) = 0 := by unfold k0_pay1; pointwise
  have h1 : ∀ v : Vec Ideal S1024x1024 .f32, k0_pay2 v a b (ix2 r d) = v (ix2 r d) + ∑ k : Fin 1024, a (ix2 r k) * b (ix2 d k) := by
    intro v; unfold k0_pay2; pointwise
  rw [h1, h0, zero_add]

variable (c : Dev nD) (m : (ℓ : Loc nD τ sig) → Buf (Elt Ideal) ℓ)

theorem e0 : ∀ t : Fin cfg0.N, win0_0.index t = ![t.val / 2, 0] := (by decide +kernel : ∀ t : Fin grid0.N, _)
theorem e1 : ∀ t : Fin cfg0.N, win0_1.index t = ![t.val % 2, 0] := (by decide +kernel : ∀ t : Fin grid0.N, _)
theorem e2 : ∀ t : Fin cfg0.N, win0_2.index t = ![t.val / 2, t.val % 2] := (by decide +kernel : ∀ t : Fin grid0.N, _)

abbrev A0 : (⟨2, ![8192, 1024]⟩ : Shape).Idx → EReal := m ((c : Thread nD τ).loc main_arg0)
abbrev A1 : (⟨2, ![2048, 1024]⟩ : Shape).Idx → EReal := m ((c : Thread nD τ).loc main_arg1)

/-- The gradient's entry. -/
def entry (y : Fin 8192) (d : Fin 2048) : EReal := ∑ k : Fin 1024, A0 c m (ix2 y k) * A1 c m (ix2 d k)

/-- The array's row and column of place `r`, `d` of point `t`'s tile. -/
abbrev rowOf (t : Fin cfg0.N) (r : Fin 1024) : Fin 8192 := ⟨t.val / 2 * 1024 + r.val, by have : t.val < 16 := t.isLt; omega⟩
abbrev colOf (t : Fin cfg0.N) (d : Fin 1024) : Fin 2048 := ⟨t.val % 2 * 1024 + d.val, by omega⟩

theorem blk0_at (t : Fin cfg0.N) (r : Fin 1024) (k : Fin 1024) : iblk m c 0 t (ix2 r k) = A0 c m (ix2 (rowOf t r) k) := by
  blk_simp [iblk, V_main_arg0]
  congr 1
  funext a; apply Fin.ext
  fin_cases a <;> blk_simp [e0] <;> rfl

theorem blk1_at (t : Fin cfg0.N) (d : Fin 1024) (k : Fin 1024) : iblk m c 1 t (ix2 d k) = A1 c m (ix2 (colOf t d) k) := by
  blk_simp [iblk, V_main_arg1]
  congr 1
  funext a; apply Fin.ext
  fin_cases a <;> blk_simp [e1] <;> rfl

theorem out_at (t : Fin cfg0.N) (r : Fin 1024) (d : Fin 1024) : outsAt0 m c t (ix2 r d) = entry c m (rowOf t r) (colOf t d) := by
  unfold outsAt0
  frame_out
  rw [tile_at]
  simp only [blk0_at, blk1_at]
  rfl

/-- The array the call leaves. -/
theorem final : (dats m 0 c).arrAt 2 cfg0.N = fun i => entry c m (i 0) (i 1) := by
  refine (dats m 0 c).arrAt_eq_of_covers 2 _ (by decide +kernel) fun t hf y => ?_
  obtain ⟨r, d, rfl⟩ : ∃ r d, y = (ix2 r d : S1024x1024.Idx) := ⟨y 0, y 1, eq_ix2 y⟩
  have h := out_at c m t r d
  blk_simp
  rw [after0_2]
  refine h.trans (congrArg₂ (entry c m) (Fin.ext ?_) (Fin.ext ?_)) <;> blk_simp [e2]

end Cert.Kernel6Ideal.Prod
end
-- ==== Proof.Prod.DySsdClaim.lean ====
module

public import proofs.«01_k».proof.Defs
public import proofs.«01_k».proof.Proof.Gen.Kernel6Ideal
public import proofs.«01_k».proof.Proof.Gen.Reference6Ideal
public import proofs.«01_k».proof.Proof.Gen.Reference6Ideal.Run
public import proofs.«01_k».proof.Proof.Gen.Reference6Ideal.Read
public import proofs.«01_k».proof.Proof.Prod.DySsd
public import Idealize.ShloMosaic.Lib.Quiescent

/-! The tiled gradient of the state-space branch's output is the derivative of the plain product. -/

@[expose] public section

set_option maxRecDepth 16384
noncomputable section

open Idealize.ShloMosaic Idealize.SL.Sem

namespace Cert.Reference6Ideal.Prod

open Cert.Reference6Ideal Cert.Reference6Ideal.Gen Cert.Reference6Ideal.Read

/-- The reference runs, leaves its arguments as they were and ends quiet. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2, sem_eq_zero_of_no_sems rfl r.2⟩) (Cert.Reference6Ideal.Value.run m ρ)

theorem val_at (x0 : S8192x1024.Idx → EReal) (x1 : S2048x1024.Idx → EReal) (y : Fin 8192) (d : Fin 2048) :
    val_main_v4 (F := Ideal) x0 x1 (ix2 y d) = ∑ k : Fin 1024, x0 (ix2 y k) * x1 (ix2 d k) := by
  rw [val_main_v4_apply]
  refine Finset.sum_congr rfl fun k _ => ?_
  rw [val_main_v0_apply, val_main_v1_apply]
  show x0 _ * x1 _ = _
  congr 2 <;> (funext a; fin_cases a <;> rfl)

end Cert.Reference6Ideal.Prod

namespace Cert.Prod

theorem algebraic6 : algebraic_Kernel6Ideal_Reference6Ideal (hKernel6Ideal := Cert.Kernel6Ideal.Gen.facts)
    (hReference6Ideal := Cert.Reference6Ideal.Gen.facts) := by
  intro m g m' g' hp hargs
  refine ⟨fun c => (Cert.Kernel6Ideal.Gen.dats m 0 c).arrAt 2 Cert.Kernel6Ideal.cfg0.N, Cert.Kernel6Ideal.Value.run_blocks m g, ?_⟩
  refine (θ_run Cert.Reference6Ideal.defs _ _).mono (fun r h c => ?_) (Cert.Reference6Ideal.Value.run m' g')
  obtain ⟨h0, h1⟩ := h c
  obtain ⟨a0, a1⟩ := hargs c
  refine ⟨h0.trans ?_, h1⟩
  rw [Cert.Reference6Ideal.Read.val_main_v4_eq, a0, a1]
  refine Eq.trans ?_ (Cert.Kernel6Ideal.Prod.final c m).symm
  funext i
  obtain ⟨y, d, rfl⟩ : ∃ y d, i = ix2 y d := ⟨i 0, i 1, eq_ix2 i⟩
  exact Cert.Reference6Ideal.Prod.val_at _ _ y d

end Cert.Prod
end
-- ==== Proof.Prod.DyLru.lean ====
module

public import proofs.«01_k».proof.Proof.Gen.Kernel7Ideal.Value
public import Idealize.ShloMosaic.Lib.Pointwise
public import Idealize.ShloMosaic.Lib.Pipeline.ValueKit

/-! The gradient of the recurrent branch's output: what the tiled product ends with. -/

@[expose] public section

set_option maxRecDepth 16384
noncomputable section

namespace Cert.Kernel7Ideal.Prod

open Cert.Kernel7Ideal Cert.Kernel7Ideal.Gen Idealize.ShloMosaic Idealize.ShloMosaic.TcCoe Idealize.SL.Sem Idealize.ShloMosaic.Tactic

/-- A tile's product onto zeros. -/
theorem tile_at (a : Vec Ideal S1024x1024 .bf16) (b : Vec Ideal S768x1024 .bf16) (r : Fin 1024) (d : Fin 768) :
    k0_pay2 (k0_pay1 (F := Ideal)) a b (ix2 r d) = ∑ k : Fin 1024, a (ix2 r k) * b (ix2 d k) := by
  have h0 : k0_pay1 (F := Ideal) (ix2 r d) = 0 := by unfold k0_pay1; pointwise
  have h1 : ∀ v : Vec Ideal S1024x768 .f32, k0_pay2 v a b (ix2 r d) = v (ix2 r d) + ∑ k : Fin 1024, a (ix2 r k) * b (ix2 d k) := by
    intro v; unfold k0_pay2; pointwise
  rw [h1, h0, zero_add]

variable (c : Dev nD) (m : (ℓ : Loc nD τ sig) → Buf (Elt Ideal) ℓ)

theorem e0 : ∀ t : Fin cfg0.N, win0_0.index t = ![t.val / 2, 0] := (by decide +kernel : ∀ t : Fin grid0.N, _)
theorem e1 : ∀ t : Fin cfg0.N, win0_1.index t = ![t.val % 2, 0] := (by decide +kernel : ∀ t : Fin grid0.N, _)
theorem e2 : ∀ t : Fin cfg0.N, win0_2.index t = ![t.val / 2, t.val % 2] := (by decide +kernel : ∀ t : Fin grid0.N, _)

abbrev A0 : (⟨2, ![8192, 1024]⟩ : Shape).Idx → EReal := m ((c : Thread nD τ).loc main_arg0)
abbrev A1 : (⟨2, ![1536, 1024]⟩ : Shape).Idx → EReal := m ((c : Thread nD τ).loc main_arg1)

/-- The gradient's entry. -/
def entry (y : Fin 8192) (d : Fin 1536) : EReal := ∑ k : Fin 1024, A0 c m (ix2 y k) * A1 c m (ix2 d k)

/-- The array's row and column of place `r`, `d` of point `t`'s tile. -/
abbrev rowOf (t : Fin cfg0.N) (r : Fin 1024) : Fin 8192 := ⟨t.val / 2 * 1024 + r.val, by have : t.val < 16 := t.isLt; omega⟩
abbrev colOf (t : Fin cfg0.N) (d : Fin 768) : Fin 1536 := ⟨t.val % 2 * 768 + d.val, by omega⟩

theorem blk0_at (t : Fin cfg0.N) (r : Fin 1024) (k : Fin 1024) : iblk m c 0 t (ix2 r k) = A0 c m (ix2 (rowOf t r) k) := by
  blk_simp [iblk, V_main_arg0]
  congr 1
  funext a; apply Fin.ext
  fin_cases a <;> blk_simp [e0] <;> rfl

theorem blk1_at (t : Fin cfg0.N) (d : Fin 768) (k : Fin 1024) : iblk m c 1 t (ix2 d k) = A1 c m (ix2 (colOf t d) k) := by
  blk_simp [iblk, V_main_arg1]
  congr 1
  funext a; apply Fin.ext
  fin_cases a <;> blk_simp [e1] <;> rfl

theorem out_at (t : Fin cfg0.N) (r : Fin 1024) (d : Fin 768) : outsAt0 m c t (ix2 r d) = entry c m (rowOf t r) (colOf t d) := by
  unfold outsAt0
  frame_out
  rw [tile_at]
  simp only [blk0_at, blk1_at]
  rfl

/-- The array the call leaves. -/
theorem final : (dats m 0 c).arrAt 2 cfg0.N = fun i => entry c m (i 0) (i 1) := by
  refine (dats m 0 c).arrAt_eq_of_covers 2 _ (by decide +kernel) fun t hf y => ?_
  obtain ⟨r, d, rfl⟩ : ∃ r d, y = (ix2 r d : S1024x768.Idx) := ⟨y 0, y 1, eq_ix2 y⟩
  have h := out_at c m t r d
  blk_simp
  rw [after0_2]
  refine h.trans (congrArg₂ (entry c m) (Fin.ext ?_) (Fin.ext ?_)) <;> blk_simp [e2]

end Cert.Kernel7Ideal.Prod
end
-- ==== Proof.Prod.DyLruClaim.lean ====
module

public import proofs.«01_k».proof.Defs
public import proofs.«01_k».proof.Proof.Gen.Kernel7Ideal
public import proofs.«01_k».proof.Proof.Gen.Reference7Ideal
public import proofs.«01_k».proof.Proof.Gen.Reference7Ideal.Run
public import proofs.«01_k».proof.Proof.Gen.Reference7Ideal.Read
public import proofs.«01_k».proof.Proof.Prod.DyLru
public import Idealize.ShloMosaic.Lib.Quiescent

/-! The tiled gradient of the recurrent branch's output is the derivative of the plain product. -/

@[expose] public section

set_option maxRecDepth 16384
noncomputable section

open Idealize.ShloMosaic Idealize.SL.Sem

namespace Cert.Reference7Ideal.Prod

open Cert.Reference7Ideal Cert.Reference7Ideal.Gen Cert.Reference7Ideal.Read

/-- The reference runs, leaves its arguments as they were and ends quiet. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2, sem_eq_zero_of_no_sems rfl r.2⟩) (Cert.Reference7Ideal.Value.run m ρ)

theorem val_at (x0 : S8192x1024.Idx → EReal) (x1 : S1536x1024.Idx → EReal) (y : Fin 8192) (d : Fin 1536) :
    val_main_v4 (F := Ideal) x0 x1 (ix2 y d) = ∑ k : Fin 1024, x0 (ix2 y k) * x1 (ix2 d k) := by
  rw [val_main_v4_apply]
  refine Finset.sum_congr rfl fun k _ => ?_
  rw [val_main_v0_apply, val_main_v1_apply]
  show x0 _ * x1 _ = _
  congr 2 <;> (funext a; fin_cases a <;> rfl)

end Cert.Reference7Ideal.Prod

namespace Cert.Prod

theorem algebraic7 : algebraic_Kernel7Ideal_Reference7Ideal (hKernel7Ideal := Cert.Kernel7Ideal.Gen.facts)
    (hReference7Ideal := Cert.Reference7Ideal.Gen.facts) := by
  intro m g m' g' hp hargs
  refine ⟨fun c => (Cert.Kernel7Ideal.Gen.dats m 0 c).arrAt 2 Cert.Kernel7Ideal.cfg0.N, Cert.Kernel7Ideal.Value.run_blocks m g, ?_⟩
  refine (θ_run Cert.Reference7Ideal.defs _ _).mono (fun r h c => ?_) (Cert.Reference7Ideal.Value.run m' g')
  obtain ⟨h0, h1⟩ := h c
  obtain ⟨a0, a1⟩ := hargs c
  refine ⟨h0.trans ?_, h1⟩
  rw [Cert.Reference7Ideal.Read.val_main_v4_eq, a0, a1]
  refine Eq.trans ?_ (Cert.Kernel7Ideal.Prod.final c m).symm
  funext i
  obtain ⟨y, d, rfl⟩ : ∃ y d, i = ix2 y d := ⟨i 0, i 1, eq_ix2 i⟩
  exact Cert.Reference7Ideal.Prod.val_at _ _ y d

end Cert.Prod
end
-- ==== Proof.Prod.DyMem.lean ====
module

public import proofs.«01_k».proof.Proof.Gen.Kernel8Ideal.Value
public import Idealize.ShloMosaic.Lib.Pointwise
public import Idealize.ShloMosaic.Lib.Pipeline.ValueKit

/-! The gradient of the memory branch's output: what the tiled product ends with. -/

@[expose] public section

set_option maxRecDepth 16384
noncomputable section

namespace Cert.Kernel8Ideal.Prod

open Cert.Kernel8Ideal Cert.Kernel8Ideal.Gen Idealize.ShloMosaic Idealize.ShloMosaic.TcCoe Idealize.SL.Sem Idealize.ShloMosaic.Tactic

/-- A tile's product onto zeros. -/
theorem tile_at (a : Vec Ideal S1024x1024 .bf16) (b : Vec Ideal S1024x1024 .bf16) (r : Fin 1024) (d : Fin 1024) :
    k0_pay2 (k0_pay1 (F := Ideal)) a b (ix2 r d) = ∑ k : Fin 1024, a (ix2 r k) * b (ix2 d k) := by
  have h0 : k0_pay1 (F := Ideal) (ix2 r d) = 0 := by unfold k0_pay1; pointwise
  have h1 : ∀ v : Vec Ideal S1024x1024 .f32, k0_pay2 v a b (ix2 r d) = v (ix2 r d) + ∑ k : Fin 1024, a (ix2 r k) * b (ix2 d k) := by
    intro v; unfold k0_pay2; pointwise
  rw [h1, h0, zero_add]

variable (c : Dev nD) (m : (ℓ : Loc nD τ sig) → Buf (Elt Ideal) ℓ)

theorem e0 : ∀ t : Fin cfg0.N, win0_0.index t = ![t.val / 1, 0] := (by decide +kernel : ∀ t : Fin grid0.N, _)
theorem e1 : ∀ t : Fin cfg0.N, win0_1.index t = ![t.val % 1, 0] := (by decide +kernel : ∀ t : Fin grid0.N, _)
theorem e2 : ∀ t : Fin cfg0.N, win0_2.index t = ![t.val / 1, t.val % 1] := (by decide +kernel : ∀ t : Fin grid0.N, _)

abbrev A0 : (⟨2, ![8192, 1024]⟩ : Shape).Idx → EReal := m ((c : Thread nD τ).loc main_arg0)
abbrev A1 : (⟨2, ![1024, 1024]⟩ : Shape).Idx → EReal := m ((c : Thread nD τ).loc main_arg1)

/-- The gradient's entry. -/
def entry (y : Fin 8192) (d : Fin 1024) : EReal := ∑ k : Fin 1024, A0 c m (ix2 y k) * A1 c m (ix2 d k)

/-- The array's row and column of place `r`, `d` of point `t`'s tile. -/
abbrev rowOf (t : Fin cfg0.N) (r : Fin 1024) : Fin 8192 := ⟨t.val / 1 * 1024 + r.val, by have : t.val < 8 := t.isLt; omega⟩
abbrev colOf (t : Fin cfg0.N) (d : Fin 1024) : Fin 1024 := ⟨t.val % 1 * 1024 + d.val, by omega⟩

theorem blk0_at (t : Fin cfg0.N) (r : Fin 1024) (k : Fin 1024) : iblk m c 0 t (ix2 r k) = A0 c m (ix2 (rowOf t r) k) := by
  blk_simp [iblk, V_main_arg0]
  congr 1
  funext a; apply Fin.ext
  fin_cases a <;> blk_simp [e0] <;> rfl

theorem blk1_at (t : Fin cfg0.N) (d : Fin 1024) (k : Fin 1024) : iblk m c 1 t (ix2 d k) = A1 c m (ix2 (colOf t d) k) := by
  blk_simp [iblk, V_main_arg1]
  congr 1
  funext a; apply Fin.ext
  fin_cases a <;> blk_simp [e1] <;> rfl

theorem out_at (t : Fin cfg0.N) (r : Fin 1024) (d : Fin 1024) : outsAt0 m c t (ix2 r d) = entry c m (rowOf t r) (colOf t d) := by
  unfold outsAt0
  frame_out
  rw [tile_at]
  simp only [blk0_at, blk1_at]
  rfl

/-- The array the call leaves. -/
theorem final : (dats m 0 c).arrAt 2 cfg0.N = fun i => entry c m (i 0) (i 1) := by
  refine (dats m 0 c).arrAt_eq_of_covers 2 _ (by decide +kernel) fun t hf y => ?_
  obtain ⟨r, d, rfl⟩ : ∃ r d, y = (ix2 r d : S1024x1024.Idx) := ⟨y 0, y 1, eq_ix2 y⟩
  have h := out_at c m t r d
  blk_simp
  rw [after0_2]
  refine h.trans (congrArg₂ (entry c m) (Fin.ext ?_) (Fin.ext ?_)) <;> blk_simp [e2]

end Cert.Kernel8Ideal.Prod
end
-- ==== Proof.Prod.DyMemClaim.lean ====
module

public import proofs.«01_k».proof.Defs
public import proofs.«01_k».proof.Proof.Gen.Kernel8Ideal
public import proofs.«01_k».proof.Proof.Gen.Reference8Ideal
public import proofs.«01_k».proof.Proof.Gen.Reference8Ideal.Run
public import proofs.«01_k».proof.Proof.Gen.Reference8Ideal.Read
public import proofs.«01_k».proof.Proof.Prod.DyMem
public import Idealize.ShloMosaic.Lib.Quiescent

/-! The tiled gradient of the memory branch's output is the derivative of the plain product. -/

@[expose] public section

set_option maxRecDepth 16384
noncomputable section

open Idealize.ShloMosaic Idealize.SL.Sem

namespace Cert.Reference8Ideal.Prod

open Cert.Reference8Ideal Cert.Reference8Ideal.Gen Cert.Reference8Ideal.Read

/-- The reference runs, leaves its arguments as they were and ends quiet. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2, sem_eq_zero_of_no_sems rfl r.2⟩) (Cert.Reference8Ideal.Value.run m ρ)

theorem val_at (x0 : S8192x1024.Idx → EReal) (x1 : S1024x1024.Idx → EReal) (y : Fin 8192) (d : Fin 1024) :
    val_main_v4 (F := Ideal) x0 x1 (ix2 y d) = ∑ k : Fin 1024, x0 (ix2 y k) * x1 (ix2 d k) := by
  rw [val_main_v4_apply]
  refine Finset.sum_congr rfl fun k _ => ?_
  rw [val_main_v0_apply, val_main_v1_apply]
  show x0 _ * x1 _ = _
  congr 2 <;> (funext a; fin_cases a <;> rfl)

end Cert.Reference8Ideal.Prod

namespace Cert.Prod

theorem algebraic8 : algebraic_Kernel8Ideal_Reference8Ideal (hKernel8Ideal := Cert.Kernel8Ideal.Gen.facts)
    (hReference8Ideal := Cert.Reference8Ideal.Gen.facts) := by
  intro m g m' g' hp hargs
  refine ⟨fun c => (Cert.Kernel8Ideal.Gen.dats m 0 c).arrAt 2 Cert.Kernel8Ideal.cfg0.N, Cert.Kernel8Ideal.Value.run_blocks m g, ?_⟩
  refine (θ_run Cert.Reference8Ideal.defs _ _).mono (fun r h c => ?_) (Cert.Reference8Ideal.Value.run m' g')
  obtain ⟨h0, h1⟩ := h c
  obtain ⟨a0, a1⟩ := hargs c
  refine ⟨h0.trans ?_, h1⟩
  rw [Cert.Reference8Ideal.Read.val_main_v4_eq, a0, a1]
  refine Eq.trans ?_ (Cert.Kernel8Ideal.Prod.final c m).symm
  funext i
  obtain ⟨y, d, rfl⟩ : ∃ y d, i = ix2 y d := ⟨i 0, i 1, eq_ix2 i⟩
  exact Cert.Reference8Ideal.Prod.val_at _ _ y d

end Cert.Prod
end
-- ==== Proof.Prod.DwSsd.lean ====
module

public import proofs.«01_k».proof.Proof.Gen.Kernel9Ideal.Value
public import Idealize.ShloMosaic.Lib.Pointwise
public import Idealize.ShloMosaic.Lib.Pipeline.ValueKit
public import proofs.«01_k».proof.Proof.Prod.Fold

/-! The gradient of the state-space branch's output matrix: what the tiled product ends with. -/

@[expose] public section

set_option maxRecDepth 16384
noncomputable section

namespace Cert.Kernel9Ideal.Prod

open Cert.Kernel9Ideal Cert.Kernel9Ideal.Gen Idealize.ShloMosaic Idealize.ShloMosaic.TcCoe Idealize.SL.Sem Idealize.ShloMosaic.Tactic

/-- One step of the accumulator: a tile's product is added. -/
theorem step_at (acc : Vec Ideal S1024x1024 .f32) (a : Vec Ideal S1024x1024 .bf16) (b : Vec Ideal S1024x1024 .bf16) (r : Fin 1024) (d : Fin 1024) :
    k0_pay2 acc a b (ix2 r d) = acc (ix2 r d) + ∑ k : Fin 1024, a (ix2 k r) * b (ix2 k d) := by
  unfold k0_pay2; pointwise

theorem zero_at (i : S1024x1024.Idx) : k0_pay1 (F := Ideal) i = 0 := by
  unfold k0_pay1; pointwise

theorem cast_at (v : Vec Ideal S1024x1024 .f32) (i : S1024x1024.Idx) : k0_pay3 v i = v i := by
  unfold k0_pay3; pointwise

variable (c : Dev nD) (m : (ℓ : Loc nD τ sig) → Buf (Elt Ideal) ℓ)

theorem e0 : ∀ t : Fin cfg0.N, win0_0.index t = ![t.val % 8, t.val / 8] := (by decide +kernel : ∀ t : Fin grid0.N, _)
theorem e1 : ∀ t : Fin cfg0.N, win0_1.index t = ![t.val % 8, 0] := (by decide +kernel : ∀ t : Fin grid0.N, _)

abbrev A0 : (⟨2, ![8192, 2048]⟩ : Shape).Idx → EReal := m ((c : Thread nD τ).loc main_arg0)
abbrev A1 : (⟨2, ![8192, 1024]⟩ : Shape).Idx → EReal := m ((c : Thread nD τ).loc main_arg1)

/-- The row of the array that row `r` of point `n`'s tile is. -/
abbrev rowOf (n : ℕ) (r : Fin 1024) : Fin 2048 := ⟨n / 8 % 2 * 1024 + r.val, by omega⟩
/-- The position in the sum that place `k` of point `n`'s tile is. -/
abbrev posOf (n : ℕ) (k : Fin 1024) : Fin 8192 := Cert.Prod.place (K := 8) (by decide) rfl n k

theorem blk0_at (t : Fin cfg0.N) (k : Fin 1024) (r : Fin 1024) :
    iblk m c 0 t (ix2 k r) = A0 c m (ix2 (posOf t.val k) (rowOf t.val r)) := by
  have ht : t.val < 16 := t.isLt
  blk_simp [iblk, V_main_arg0]
  congr 1
  funext a; apply Fin.ext
  fin_cases a <;> blk_simp [e0]
  · rfl
  · show t.val / 8 * 1024 + r.val = t.val / 8 % 2 * 1024 + r.val; omega

theorem blk1_at (t : Fin cfg0.N) (k : Fin 1024) (r : Fin 1024) :
    iblk m c 1 t (ix2 k r) = A1 c m (ix2 (posOf t.val k) r) := by
  blk_simp [iblk, V_main_arg1]
  congr 1
  funext a; apply Fin.ext
  fin_cases a <;> blk_simp [e1]
  · rfl
  · rfl

/-- A summand of row `r`, column `d` of the tile that run `q` of points makes. -/
def term (r : Fin 1024) (d : Fin 1024) (q : ℕ) (k : Fin 8192) : EReal :=
  A0 c m (ix2 k ⟨q % 2 * 1024 + r.val, by omega⟩) * A1 c m (ix2 k d)

theorem add_tile (r : Fin 1024) (d : Fin 1024) (t : Fin cfg0.N) (acc : Vec Ideal S1024x1024 .f32) :
    k0_pay2 acc (iblk m c 0 t) (iblk m c 1 t) (ix2 r d) = acc (ix2 r d) + ∑ k : Fin 1024, term c m r d (t.val / 8) (posOf t.val k) := by
  rw [step_at]
  simp only [blk0_at c m t, blk1_at]
  rfl

theorem acc_first (r : Fin 1024) (d : Fin 1024) (n : ℕ) (h : n < cfg0.N) (h0 : n % 8 = 0) :
    (outsAt0 m c n h).2 (ix2 r d) = ∑ k : Fin 1024, term c m r d (n / 8) (posOf n k) := by
  rw [outsAt0_A m c ⟨n, h⟩ h0 (by show ¬n % 8 = 7; omega)]
  frame_out
  rw [add_tile, zero_at, zero_add]

theorem acc_next (r : Fin 1024) (d : Fin 1024) (n : ℕ) (h : n + 1 < cfg0.N) (h0 : (n + 1) % 8 ≠ 0) :
    (outsAt0 m c (n + 1) h).2 (ix2 r d) = (outsAt0 m c n (by omega)).2 (ix2 r d) + ∑ k : Fin 1024, term c m r d ((n + 1) / 8) (posOf (n + 1) k) := by
  by_cases h1 : (n + 1) % 8 = 7
  · rw [outsAt0_C m c ⟨n + 1, h⟩ h0 h1]
    frame_out
    rw [add_tile]
    exact congrArg (· + _) (congrFun ((Memref.isWhole_whole cc0_scratch0).read_unread _) _)
  · rw [outsAt0_B m c ⟨n + 1, h⟩ h0 h1]
    frame_out
    rw [add_tile]
    exact congrArg (· + _) (congrFun ((Memref.isWhole_whole cc0_scratch0).read_unread _) _)

/-- The gradient's entry: the whole sum over the tokens. -/
def entry (y : Fin 2048) (d : Fin 1024) : EReal := ∑ k : Fin 8192, A0 c m (ix2 k y) * A1 c m (ix2 k d)

theorem out_last (r : Fin 1024) (d : Fin 1024) (t : Fin cfg0.N) (h : t.val % 8 = 7) :
    (outsAt0 m c t.val t.isLt).1 (ix2 r d) = entry c m (rowOf t.val r) d := by
  have hl : (outsAt0 m c t.val t.isLt).1 (ix2 r d) = (outsAt0 m c t.val t.isLt).2 (ix2 r d) := by
    rw [outsAt0_C m c t (by omega) h]
    frame_out
    rw [cast_at]
  exact hl.trans (Cert.Prod.fold_tiles (T := 1024) (M := 8192) (by decide) rfl (fun n h => (outsAt0 m c n h).2 (ix2 r d)) (term c m r d)
    (acc_first c m r d) (acc_next c m r d) t.val t.isLt h)

theorem e2 : ∀ t : Fin cfg0.N, win0_2.index t = ![t.val / 8, 0] := (by decide +kernel : ∀ t : Fin grid0.N, _)
theorem flush2 : ∀ t : Fin cfg0.N, (cfg0.win 2).flush t = true → t.val % 8 = 7 := (by decide +kernel : ∀ t : Fin grid0.N, _)

/-- The array the call leaves. -/
theorem final : (dats m 0 c).arrAt 2 cfg0.N = fun i => entry c m (i 0) (i 1) := by
  refine (dats m 0 c).arrAt_eq_of_covers 2 _ (by decide +kernel) fun t hf y => ?_
  obtain ⟨r, d, rfl⟩ : ∃ r d, y = (ix2 r d : S1024x1024.Idx) := ⟨y 0, y 1, eq_ix2 y⟩
  have h := out_last c m r d t (flush2 t hf)
  have ht : t.val < 16 := t.isLt
  blk_simp
  rw [after0_2]
  refine h.trans (congrArg₂ (entry c m) (Fin.ext ?_) (Fin.ext ?_))
  · blk_simp [e2]
    show t.val / 8 % 2 * 1024 + r.val = t.val / 8 * 1024 + r.val; omega
  · blk_simp [e2]

end Cert.Kernel9Ideal.Prod
end
-- ==== Proof.Prod.DwSsdClaim.lean ====
module

public import proofs.«01_k».proof.Defs
public import proofs.«01_k».proof.Proof.Gen.Kernel9Ideal
public import proofs.«01_k».proof.Proof.Gen.Reference9Ideal
public import proofs.«01_k».proof.Proof.Gen.Reference9Ideal.Run
public import proofs.«01_k».proof.Proof.Gen.Reference9Ideal.Read
public import proofs.«01_k».proof.Proof.Prod.DwSsd
public import Idealize.ShloMosaic.Lib.Quiescent

/-! The tiled gradient of the state-space branch's output matrix is the derivative of the plain product. -/

@[expose] public section

set_option maxRecDepth 16384
noncomputable section

open Idealize.ShloMosaic Idealize.SL.Sem

namespace Cert.Reference9Ideal.Prod

open Cert.Reference9Ideal Cert.Reference9Ideal.Gen Cert.Reference9Ideal.Read

/-- The reference runs, leaves its arguments as they were and ends quiet. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2, sem_eq_zero_of_no_sems rfl r.2⟩) (Cert.Reference9Ideal.Value.run m ρ)

theorem val_at (x0 : S8192x2048.Idx → EReal) (x1 : S8192x1024.Idx → EReal) (y : Fin 2048) (d : Fin 1024) :
    val_main_v6 (F := Ideal) x0 x1 (ix2 y d) = ∑ k : Fin 8192, x0 (ix2 k y) * x1 (ix2 k d) := by
  rw [val_main_v6_apply]
  show val_main_v5 (F := Ideal) x0 x1 (ix2 y d) = _
  rw [val_main_v5_apply, val_main_v4_apply]
  refine Finset.sum_congr rfl fun k _ => (mul_comm _ _).trans ?_
  rw [val_main_v1_apply, val_main_v0_apply]
  show x0 _ * x1 _ = _
  congr 2 <;> (funext a; fin_cases a <;> rfl)

end Cert.Reference9Ideal.Prod

namespace Cert.Prod

theorem algebraic9 : algebraic_Kernel9Ideal_Reference9Ideal (hKernel9Ideal := Cert.Kernel9Ideal.Gen.facts)
    (hReference9Ideal := Cert.Reference9Ideal.Gen.facts) := by
  intro m g m' g' hp hargs
  refine ⟨fun c => (Cert.Kernel9Ideal.Gen.dats m 0 c).arrAt 2 Cert.Kernel9Ideal.cfg0.N, Cert.Kernel9Ideal.Value.run_blocks m g, ?_⟩
  refine (θ_run Cert.Reference9Ideal.defs _ _).mono (fun r h c => ?_) (Cert.Reference9Ideal.Value.run m' g')
  obtain ⟨h0, h1⟩ := h c
  obtain ⟨a0, a1⟩ := hargs c
  refine ⟨h0.trans ?_, h1⟩
  rw [Cert.Reference9Ideal.Read.val_main_v6_eq, a0, a1]
  refine Eq.trans ?_ (Cert.Kernel9Ideal.Prod.final c m).symm
  funext i
  obtain ⟨y, d, rfl⟩ : ∃ y d, i = ix2 y d := ⟨i 0, i 1, eq_ix2 i⟩
  exact Cert.Reference9Ideal.Prod.val_at _ _ y d

end Cert.Prod
end
-- ==== Proof.Prod.DwLru.lean ====
module

public import proofs.«01_k».proof.Proof.Gen.Kernel10Ideal.Value
public import Idealize.ShloMosaic.Lib.Pointwise
public import Idealize.ShloMosaic.Lib.Pipeline.ValueKit
public import proofs.«01_k».proof.Proof.Prod.Fold

/-! The gradient of the recurrent branch's output matrix: what the tiled product ends with. -/

@[expose] public section

set_option maxRecDepth 16384
noncomputable section

namespace Cert.Kernel10Ideal.Prod

open Cert.Kernel10Ideal Cert.Kernel10Ideal.Gen Idealize.ShloMosaic Idealize.ShloMosaic.TcCoe Idealize.SL.Sem Idealize.ShloMosaic.Tactic

/-- One step of the accumulator: a tile's product is added. -/
theorem step_at (acc : Vec Ideal S768x1024 .f32) (a : Vec Ideal S1024x768 .bf16) (b : Vec Ideal S1024x1024 .bf16) (r : Fin 768) (d : Fin 1024) :
    k0_pay2 acc a b (ix2 r d) = acc (ix2 r d) + ∑ k : Fin 1024, a (ix2 k r) * b (ix2 k d) := by
  unfold k0_pay2; pointwise

theorem zero_at (i : S768x1024.Idx) : k0_pay1 (F := Ideal) i = 0 := by
  unfold k0_pay1; pointwise

theorem cast_at (v : Vec Ideal S768x1024 .f32) (i : S768x1024.Idx) : k0_pay3 v i = v i := by
  unfold k0_pay3; pointwise

variable (c : Dev nD) (m : (ℓ : Loc nD τ sig) → Buf (Elt Ideal) ℓ)

theorem e0 : ∀ t : Fin cfg0.N, win0_0.index t = ![t.val % 8, t.val / 8] := (by decide +kernel : ∀ t : Fin grid0.N, _)
theorem e1 : ∀ t : Fin cfg0.N, win0_1.index t = ![t.val % 8, 0] := (by decide +kernel : ∀ t : Fin grid0.N, _)

abbrev A0 : (⟨2, ![8192, 1536]⟩ : Shape).Idx → EReal := m ((c : Thread nD τ).loc main_arg0)
abbrev A1 : (⟨2, ![8192, 1024]⟩ : Shape).Idx → EReal := m ((c : Thread nD τ).loc main_arg1)

/-- The row of the array that row `r` of point `n`'s tile is. -/
abbrev rowOf (n : ℕ) (r : Fin 768) : Fin 1536 := ⟨n / 8 % 2 * 768 + r.val, by omega⟩
/-- The position in the sum that place `k` of point `n`'s tile is. -/
abbrev posOf (n : ℕ) (k : Fin 1024) : Fin 8192 := Cert.Prod.place (K := 8) (by decide) rfl n k

theorem blk0_at (t : Fin cfg0.N) (k : Fin 1024) (r : Fin 768) :
    iblk m c 0 t (ix2 k r) = A0 c m (ix2 (posOf t.val k) (rowOf t.val r)) := by
  have ht : t.val < 16 := t.isLt
  blk_simp [iblk, V_main_arg0]
  congr 1
  funext a; apply Fin.ext
  fin_cases a <;> blk_simp [e0]
  · rfl
  · show t.val / 8 * 768 + r.val = t.val / 8 % 2 * 768 + r.val; omega

theorem blk1_at (t : Fin cfg0.N) (k : Fin 1024) (r : Fin 1024) :
    iblk m c 1 t (ix2 k r) = A1 c m (ix2 (posOf t.val k) r) := by
  blk_simp [iblk, V_main_arg1]
  congr 1
  funext a; apply Fin.ext
  fin_cases a <;> blk_simp [e1]
  · rfl
  · rfl

/-- A summand of row `r`, column `d` of the tile that run `q` of points makes. -/
def term (r : Fin 768) (d : Fin 1024) (q : ℕ) (k : Fin 8192) : EReal :=
  A0 c m (ix2 k ⟨q % 2 * 768 + r.val, by omega⟩) * A1 c m (ix2 k d)

theorem add_tile (r : Fin 768) (d : Fin 1024) (t : Fin cfg0.N) (acc : Vec Ideal S768x1024 .f32) :
    k0_pay2 acc (iblk m c 0 t) (iblk m c 1 t) (ix2 r d) = acc (ix2 r d) + ∑ k : Fin 1024, term c m r d (t.val / 8) (posOf t.val k) := by
  rw [step_at]
  simp only [blk0_at c m t, blk1_at]
  rfl

theorem acc_first (r : Fin 768) (d : Fin 1024) (n : ℕ) (h : n < cfg0.N) (h0 : n % 8 = 0) :
    (outsAt0 m c n h).2 (ix2 r d) = ∑ k : Fin 1024, term c m r d (n / 8) (posOf n k) := by
  rw [outsAt0_A m c ⟨n, h⟩ h0 (by show ¬n % 8 = 7; omega)]
  frame_out
  rw [add_tile, zero_at, zero_add]

theorem acc_next (r : Fin 768) (d : Fin 1024) (n : ℕ) (h : n + 1 < cfg0.N) (h0 : (n + 1) % 8 ≠ 0) :
    (outsAt0 m c (n + 1) h).2 (ix2 r d) = (outsAt0 m c n (by omega)).2 (ix2 r d) + ∑ k : Fin 1024, term c m r d ((n + 1) / 8) (posOf (n + 1) k) := by
  by_cases h1 : (n + 1) % 8 = 7
  · rw [outsAt0_C m c ⟨n + 1, h⟩ h0 h1]
    frame_out
    rw [add_tile]
    exact congrArg (· + _) (congrFun ((Memref.isWhole_whole cc0_scratch0).read_unread _) _)
  · rw [outsAt0_B m c ⟨n + 1, h⟩ h0 h1]
    frame_out
    rw [add_tile]
    exact congrArg (· + _) (congrFun ((Memref.isWhole_whole cc0_scratch0).read_unread _) _)

/-- The gradient's entry: the whole sum over the tokens. -/
def entry (y : Fin 1536) (d : Fin 1024) : EReal := ∑ k : Fin 8192, A0 c m (ix2 k y) * A1 c m (ix2 k d)

theorem out_last (r : Fin 768) (d : Fin 1024) (t : Fin cfg0.N) (h : t.val % 8 = 7) :
    (outsAt0 m c t.val t.isLt).1 (ix2 r d) = entry c m (rowOf t.val r) d := by
  have hl : (outsAt0 m c t.val t.isLt).1 (ix2 r d) = (outsAt0 m c t.val t.isLt).2 (ix2 r d) := by
    rw [outsAt0_C m c t (by omega) h]
    frame_out
    rw [cast_at]
  exact hl.trans (Cert.Prod.fold_tiles (T := 1024) (M := 8192) (by decide) rfl (fun n h => (outsAt0 m c n h).2 (ix2 r d)) (term c m r d)
    (acc_first c m r d) (acc_next c m r d) t.val t.isLt h)

theorem e2 : ∀ t : Fin cfg0.N, win0_2.index t = ![t.val / 8, 0] := (by decide +kernel : ∀ t : Fin grid0.N, _)
theorem flush2 : ∀ t : Fin cfg0.N, (cfg0.win 2).flush t = true → t.val % 8 = 7 := (by decide +kernel : ∀ t : Fin grid0.N, _)

/-- The array the call leaves. -/
theorem final : (dats m 0 c).arrAt 2 cfg0.N = fun i => entry c m (i 0) (i 1) := by
  refine (dats m 0 c).arrAt_eq_of_covers 2 _ (by decide +kernel) fun t hf y => ?_
  obtain ⟨r, d, rfl⟩ : ∃ r d, y = (ix2 r d : S768x1024.Idx) := ⟨y 0, y 1, eq_ix2 y⟩
  have h := out_last c m r d t (flush2 t hf)
  have ht : t.val < 16 := t.isLt
  blk_simp
  rw [after0_2]
  refine h.trans (congrArg₂ (entry c m) (Fin.ext ?_) (Fin.ext ?_))
  · blk_simp [e2]
    show t.val / 8 % 2 * 768 + r.val = t.val / 8 * 768 + r.val; omega
  · blk_simp [e2]

end Cert.Kernel10Ideal.Prod
end
-- ==== Proof.Prod.DwLruClaim.lean ====
module

public import proofs.«01_k».proof.Defs
public import proofs.«01_k».proof.Proof.Gen.Kernel10Ideal
public import proofs.«01_k».proof.Proof.Gen.Reference10Ideal
public import proofs.«01_k».proof.Proof.Gen.Reference10Ideal.Run
public import proofs.«01_k».proof.Proof.Gen.Reference10Ideal.Read
public import proofs.«01_k».proof.Proof.Prod.DwLru
public import Idealize.ShloMosaic.Lib.Quiescent

/-! The tiled gradient of the recurrent branch's output matrix is the derivative of the plain product. -/

@[expose] public section

set_option maxRecDepth 16384
noncomputable section

open Idealize.ShloMosaic Idealize.SL.Sem

namespace Cert.Reference10Ideal.Prod

open Cert.Reference10Ideal Cert.Reference10Ideal.Gen Cert.Reference10Ideal.Read

/-- The reference runs, leaves its arguments as they were and ends quiet. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2, sem_eq_zero_of_no_sems rfl r.2⟩) (Cert.Reference10Ideal.Value.run m ρ)

theorem val_at (x0 : S8192x1536.Idx → EReal) (x1 : S8192x1024.Idx → EReal) (y : Fin 1536) (d : Fin 1024) :
    val_main_v6 (F := Ideal) x0 x1 (ix2 y d) = ∑ k : Fin 8192, x0 (ix2 k y) * x1 (ix2 k d) := by
  rw [val_main_v6_apply]
  show val_main_v5 (F := Ideal) x0 x1 (ix2 y d) = _
  rw [val_main_v5_apply, val_main_v4_apply]
  refine Finset.sum_congr rfl fun k _ => (mul_comm _ _).trans ?_
  rw [val_main_v1_apply, val_main_v0_apply]
  show x0 _ * x1 _ = _
  congr 2 <;> (funext a; fin_cases a <;> rfl)

end Cert.Reference10Ideal.Prod

namespace Cert.Prod

theorem algebraic10 : algebraic_Kernel10Ideal_Reference10Ideal (hKernel10Ideal := Cert.Kernel10Ideal.Gen.facts)
    (hReference10Ideal := Cert.Reference10Ideal.Gen.facts) := by
  intro m g m' g' hp hargs
  refine ⟨fun c => (Cert.Kernel10Ideal.Gen.dats m 0 c).arrAt 2 Cert.Kernel10Ideal.cfg0.N, Cert.Kernel10Ideal.Value.run_blocks m g, ?_⟩
  refine (θ_run Cert.Reference10Ideal.defs _ _).mono (fun r h c => ?_) (Cert.Reference10Ideal.Value.run m' g')
  obtain ⟨h0, h1⟩ := h c
  obtain ⟨a0, a1⟩ := hargs c
  refine ⟨h0.trans ?_, h1⟩
  rw [Cert.Reference10Ideal.Read.val_main_v6_eq, a0, a1]
  refine Eq.trans ?_ (Cert.Kernel10Ideal.Prod.final c m).symm
  funext i
  obtain ⟨y, d, rfl⟩ : ∃ y d, i = ix2 y d := ⟨i 0, i 1, eq_ix2 i⟩
  exact Cert.Reference10Ideal.Prod.val_at _ _ y d

end Cert.Prod
end
-- ==== Proof.Prod.DwOut.lean ====
module

public import proofs.«01_k».proof.Proof.Gen.Kernel11Ideal.Value
public import Idealize.ShloMosaic.Lib.Pointwise
public import Idealize.ShloMosaic.Lib.Pipeline.ValueKit
public import proofs.«01_k».proof.Proof.Prod.Fold

/-! The gradient of the output matrix: what the tiled product ends with. -/

@[expose] public section

set_option maxRecDepth 16384
noncomputable section

namespace Cert.Kernel11Ideal.Prod

open Cert.Kernel11Ideal Cert.Kernel11Ideal.Gen Idealize.ShloMosaic Idealize.ShloMosaic.TcCoe Idealize.SL.Sem Idealize.ShloMosaic.Tactic

/-- One step of the accumulator: a tile's product is added. -/
theorem step_at (acc : Vec Ideal S1024x1024 .f32) (a : Vec Ideal S1024x1024 .bf16) (b : Vec Ideal S1024x1024 .bf16) (r : Fin 1024) (d : Fin 1024) :
    k0_pay2 acc a b (ix2 r d) = acc (ix2 r d) + ∑ k : Fin 1024, a (ix2 k r) * b (ix2 k d) := by
  unfold k0_pay2; pointwise

theorem zero_at (i : S1024x1024.Idx) : k0_pay1 (F := Ideal) i = 0 := by
  unfold k0_pay1; pointwise

theorem cast_at (v : Vec Ideal S1024x1024 .f32) (i : S1024x1024.Idx) : k0_pay3 v i = v i := by
  unfold k0_pay3; pointwise

variable (c : Dev nD) (m : (ℓ : Loc nD τ sig) → Buf (Elt Ideal) ℓ)

theorem e0 : ∀ t : Fin cfg0.N, win0_0.index t = ![t.val % 8, t.val / 8] := (by decide +kernel : ∀ t : Fin grid0.N, _)
theorem e1 : ∀ t : Fin cfg0.N, win0_1.index t = ![t.val % 8, 0] := (by decide +kernel : ∀ t : Fin grid0.N, _)

abbrev A0 : (⟨2, ![8192, 1024]⟩ : Shape).Idx → EReal := m ((c : Thread nD τ).loc main_arg0)
abbrev A1 : (⟨2, ![8192, 1024]⟩ : Shape).Idx → EReal := m ((c : Thread nD τ).loc main_arg1)

/-- The row of the array that row `r` of point `n`'s tile is. -/
abbrev rowOf (n : ℕ) (r : Fin 1024) : Fin 1024 := ⟨n / 8 % 1 * 1024 + r.val, by omega⟩
/-- The position in the sum that place `k` of point `n`'s tile is. -/
abbrev posOf (n : ℕ) (k : Fin 1024) : Fin 8192 := Cert.Prod.place (K := 8) (by decide) rfl n k

theorem blk0_at (t : Fin cfg0.N) (k : Fin 1024) (r : Fin 1024) :
    iblk m c 0 t (ix2 k r) = A0 c m (ix2 (posOf t.val k) (rowOf t.val r)) := by
  have ht : t.val < 8 := t.isLt
  blk_simp [iblk, V_main_arg0]
  congr 1
  funext a; apply Fin.ext
  fin_cases a <;> blk_simp [e0]
  · rfl
  · show t.val / 8 * 1024 + r.val = t.val / 8 % 1 * 1024 + r.val; omega

theorem blk1_at (t : Fin cfg0.N) (k : Fin 1024) (r : Fin 1024) :
    iblk m c 1 t (ix2 k r) = A1 c m (ix2 (posOf t.val k) r) := by
  blk_simp [iblk, V_main_arg1]
  congr 1
  funext a; apply Fin.ext
  fin_cases a <;> blk_simp [e1]
  · rfl
  · rfl

/-- A summand of row `r`, column `d` of the tile that run `q` of points makes. -/
def term (r : Fin 1024) (d : Fin 1024) (q : ℕ) (k : Fin 8192) : EReal :=
  A0 c m (ix2 k ⟨q % 1 * 1024 + r.val, by omega⟩) * A1 c m (ix2 k d)

theorem add_tile (r : Fin 1024) (d : Fin 1024) (t : Fin cfg0.N) (acc : Vec Ideal S1024x1024 .f32) :
    k0_pay2 acc (iblk m c 0 t) (iblk m c 1 t) (ix2 r d) = acc (ix2 r d) + ∑ k : Fin 1024, term c m r d (t.val / 8) (posOf t.val k) := by
  rw [step_at]
  simp only [blk0_at c m t, blk1_at]
  rfl

theorem acc_first (r : Fin 1024) (d : Fin 1024) (n : ℕ) (h : n < cfg0.N) (h0 : n % 8 = 0) :
    (outsAt0 m c n h).2 (ix2 r d) = ∑ k : Fin 1024, term c m r d (n / 8) (posOf n k) := by
  rw [outsAt0_A m c ⟨n, h⟩ h0 (by show ¬n % 8 = 7; omega)]
  frame_out
  rw [add_tile, zero_at, zero_add]

theorem acc_next (r : Fin 1024) (d : Fin 1024) (n : ℕ) (h : n + 1 < cfg0.N) (h0 : (n + 1) % 8 ≠ 0) :
    (outsAt0 m c (n + 1) h).2 (ix2 r d) = (outsAt0 m c n (by omega)).2 (ix2 r d) + ∑ k : Fin 1024, term c m r d ((n + 1) / 8) (posOf (n + 1) k) := by
  by_cases h1 : (n + 1) % 8 = 7
  · rw [outsAt0_C m c ⟨n + 1, h⟩ h0 h1]
    frame_out
    rw [add_tile]
    exact congrArg (· + _) (congrFun ((Memref.isWhole_whole cc0_scratch0).read_unread _) _)
  · rw [outsAt0_B m c ⟨n + 1, h⟩ h0 h1]
    frame_out
    rw [add_tile]
    exact congrArg (· + _) (congrFun ((Memref.isWhole_whole cc0_scratch0).read_unread _) _)

/-- The gradient's entry: the whole sum over the tokens. -/
def entry (y : Fin 1024) (d : Fin 1024) : EReal := ∑ k : Fin 8192, A0 c m (ix2 k y) * A1 c m (ix2 k d)

theorem out_last (r : Fin 1024) (d : Fin 1024) (t : Fin cfg0.N) (h : t.val % 8 = 7) :
    (outsAt0 m c t.val t.isLt).1 (ix2 r d) = entry c m (rowOf t.val r) d := by
  have hl : (outsAt0 m c t.val t.isLt).1 (ix2 r d) = (outsAt0 m c t.val t.isLt).2 (ix2 r d) := by
    rw [outsAt0_C m c t (by omega) h]
    frame_out
    rw [cast_at]
  exact hl.trans (Cert.Prod.fold_tiles (T := 1024) (M := 8192) (by decide) rfl (fun n h => (outsAt0 m c n h).2 (ix2 r d)) (term c m r d)
    (acc_first c m r d) (acc_next c m r d) t.val t.isLt h)

theorem e2 : ∀ t : Fin cfg0.N, win0_2.index t = ![t.val / 8, 0] := (by decide +kernel : ∀ t : Fin grid0.N, _)
theorem flush2 : ∀ t : Fin cfg0.N, (cfg0.win 2).flush t = true → t.val % 8 = 7 := (by decide +kernel : ∀ t : Fin grid0.N, _)

/-- The array the call leaves. -/
theorem final : (dats m 0 c).arrAt 2 cfg0.N = fun i => entry c m (i 0) (i 1) := by
  refine (dats m 0 c).arrAt_eq_of_covers 2 _ (by decide +kernel) fun t hf y => ?_
  obtain ⟨r, d, rfl⟩ : ∃ r d, y = (ix2 r d : S1024x1024.Idx) := ⟨y 0, y 1, eq_ix2 y⟩
  have h := out_last c m r d t (flush2 t hf)
  have ht : t.val < 8 := t.isLt
  blk_simp
  rw [after0_2]
  refine h.trans (congrArg₂ (entry c m) (Fin.ext ?_) (Fin.ext ?_))
  · blk_simp [e2]
    show t.val / 8 % 1 * 1024 + r.val = t.val / 8 * 1024 + r.val; omega
  · blk_simp [e2]

end Cert.Kernel11Ideal.Prod
end
-- ==== Proof.Prod.DwOutClaim.lean ====
module

public import proofs.«01_k».proof.Defs
public import proofs.«01_k».proof.Proof.Gen.Kernel11Ideal
public import proofs.«01_k».proof.Proof.Gen.Reference11Ideal
public import proofs.«01_k».proof.Proof.Gen.Reference11Ideal.Run
public import proofs.«01_k».proof.Proof.Gen.Reference11Ideal.Read
public import proofs.«01_k».proof.Proof.Prod.DwOut
public import Idealize.ShloMosaic.Lib.Quiescent

/-! The tiled gradient of the output matrix is the derivative of the plain product. -/

@[expose] public section

set_option maxRecDepth 16384
noncomputable section

open Idealize.ShloMosaic Idealize.SL.Sem

namespace Cert.Reference11Ideal.Prod

open Cert.Reference11Ideal Cert.Reference11Ideal.Gen Cert.Reference11Ideal.Read

/-- The reference runs, leaves its arguments as they were and ends quiet. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2, sem_eq_zero_of_no_sems rfl r.2⟩) (Cert.Reference11Ideal.Value.run m ρ)

theorem val_at (x0 : S8192x1024.Idx → EReal) (x1 : S8192x1024.Idx → EReal) (y : Fin 1024) (d : Fin 1024) :
    val_main_v6 (F := Ideal) x0 x1 (ix2 y d) = ∑ k : Fin 8192, x0 (ix2 k y) * x1 (ix2 k d) := by
  rw [val_main_v6_apply]
  show val_main_v5 (F := Ideal) x0 x1 (ix2 y d) = _
  rw [val_main_v5_apply, val_main_v4_apply]
  refine Finset.sum_congr rfl fun k _ => (mul_comm _ _).trans ?_
  rw [val_main_v1_apply, val_main_v0_apply]
  show x0 _ * x1 _ = _
  congr 2 <;> (funext a; fin_cases a <;> rfl)

end Cert.Reference11Ideal.Prod

namespace Cert.Prod

theorem algebraic11 : algebraic_Kernel11Ideal_Reference11Ideal (hKernel11Ideal := Cert.Kernel11Ideal.Gen.facts)
    (hReference11Ideal := Cert.Reference11Ideal.Gen.facts) := by
  intro m g m' g' hp hargs
  refine ⟨fun c => (Cert.Kernel11Ideal.Gen.dats m 0 c).arrAt 2 Cert.Kernel11Ideal.cfg0.N, Cert.Kernel11Ideal.Value.run_blocks m g, ?_⟩
  refine (θ_run Cert.Reference11Ideal.defs _ _).mono (fun r h c => ?_) (Cert.Reference11Ideal.Value.run m' g')
  obtain ⟨h0, h1⟩ := h c
  obtain ⟨a0, a1⟩ := hargs c
  refine ⟨h0.trans ?_, h1⟩
  rw [Cert.Reference11Ideal.Read.val_main_v6_eq, a0, a1]
  refine Eq.trans ?_ (Cert.Kernel11Ideal.Prod.final c m).symm
  funext i
  obtain ⟨y, d, rfl⟩ : ∃ y d, i = ix2 y d := ⟨i 0, i 1, eq_ix2 i⟩
  exact Cert.Reference11Ideal.Prod.val_at _ _ y d

end Cert.Prod
end
-- ==== Proof.Prod.MergeMath.lean ====
module

public import Idealize.ShloMosaic.Lib.Pointwise
public import Idealize.ShloMosaic.Lib.IdealHost
public import Idealize.ShloMosaic.PureOps.Ideal.Laws
public import proofs.«01_k».proof.Proof.Attn.Math
public import proofs.«01_k».proof.Proof.Prod.Rms

/-! One row of the gated merge with its loss and gradients, on extended reals. -/

@[expose] public section

noncomputable section

namespace Cert.Merge

open Idealize.ShloMosaic

/-- One half, as the programs spell it. -/
def half : EReal := Ideal.ofBits .f32 0x3F000000#32
/-- One. -/
def one : EReal := Ideal.ofBits .f32 0x3F800000#32
/-- Two. -/
def two : EReal := Ideal.ofBits .f32 0x40000000#32
/-- One part in a row's width. -/
def part : EReal := Ideal.ofBits .f32 0x3A800000#32
/-- Half of one part in a row's width. -/
def halfPart : EReal := Ideal.ofBits .f32 0x3A000000#32

theorem half_eq : half = ((1 / 2 : ℝ) : EReal) := by
  unfold half; simp [Ideal.ofBits, Ideal.ieee, -EReal.coe_mul]; norm_num

theorem one_eq : one = ((1 : ℝ) : EReal) := by
  unfold one; simp [Ideal.ofBits, Ideal.ieee, -EReal.coe_mul]; norm_num

theorem two_eq : two = ((2 : ℝ) : EReal) := by
  unfold two; simp [Ideal.ofBits, Ideal.ieee, -EReal.coe_mul]; norm_num

theorem part_eq : part = ((1 / 1024 : ℝ) : EReal) := by
  unfold part; simp [Ideal.ofBits, Ideal.ieee, -EReal.coe_mul]; norm_num

theorem halfPart_eq : halfPart = ((1 / 2048 : ℝ) : EReal) := by
  unfold halfPart; simp [Ideal.ofBits, Ideal.ieee, -EReal.coe_mul]; norm_num

/-- A gate. -/
def gate (l : EReal) : EReal := Ideal.div 1 (1 + Ideal.exp (-l))

/-- The gate by the hyperbolic tangent of half the logit. -/
theorem gate_tanh (l : EReal) : half * Ideal.tanh (half * l) + half = gate l := by
  have hg : gate l = Ideal.logistic l := rfl
  rw [hg, half_eq]
  induction l with
  | bot =>
    rw [EReal.coe_mul_bot_of_pos (by norm_num), Ideal.tanh_bot, Ideal.logistic_bot, ← EReal.coe_one, ← EReal.coe_neg, ← EReal.coe_mul,
      ← EReal.coe_add, ← EReal.coe_zero]
    congr 1; norm_num
  | top =>
    rw [EReal.coe_mul_top_of_pos (by norm_num), Ideal.tanh_top, Ideal.logistic_top, ← EReal.coe_one, ← EReal.coe_mul, ← EReal.coe_add]
    congr 1; norm_num
  | coe r =>
    rw [← EReal.coe_mul, Ideal.tanh_coe, Ideal.logistic_coe, ← EReal.coe_mul, ← EReal.coe_add]
    congr 1
    have h1 : Real.exp (-r) = Real.exp (-(1 / 2 * r)) * Real.exp (-(1 / 2 * r)) := by rw [← Real.exp_add]; congr 1; ring
    have h2 : Real.exp (1 / 2 * r) * Real.exp (-(1 / 2 * r)) = 1 := by rw [← Real.exp_add]; simp
    have h3 := Real.exp_pos (1 / 2 * r)
    have h4 := Real.exp_pos (-(1 / 2 * r))
    rw [Real.tanh_eq_sinh_div_cosh, Real.sinh_eq, Real.cosh_eq, h1]
    generalize Real.exp (1 / 2 * r) = a at *
    generalize Real.exp (-(1 / 2 * r)) = b at *
    have h5 : a + b ≠ 0 := by positivity
    have h6 : (1 : ℝ) + b * b ≠ 0 := by positivity
    field_simp
    nlinarith [h2]

/-- What a row of the merge reads: its input and target, the three branch products and the three logits. -/
structure Row where
  x : Fin 1024 → EReal
  t : Fin 1024 → EReal
  b : Fin 3 → Fin 1024 → EReal
  l : Fin 3 → Fin 1024 → EReal

namespace Row

variable (R : Row) (wo : Fin 1024 → Fin 1024 → EReal) (fg : Fin 1024 → EReal)

/-- The gated sum of the branches. -/
def merged (d : Fin 1024) : EReal := gate (R.l 0 d) * R.b 0 d + gate (R.l 1 d) * R.b 1 d + gate (R.l 2 d) * R.b 2 d
/-- The residual stream after the layer. -/
def x2 (d : Fin 1024) : EReal := R.x d + ∑ k, R.merged k * wo k d
/-- The prediction's error. -/
def err (d : Fin 1024) : EReal := Rms.hat (R.x2 wo) d * fg d - R.t d
/-- The gradient by the prediction. -/
def dy (d : Fin 1024) : EReal := R.err wo fg d * part
/-- The row's part of the gradient by the gain. -/
def dfg (d : Fin 1024) : EReal := R.dy wo fg d * Rms.hat (R.x2 wo) d
/-- The gradient by the residual stream. -/
def dx2 (d : Fin 1024) : EReal := Rms.grad (R.x2 wo) (fun j => R.dy wo fg j * fg j) d
/-- The gradient by the gated sum. -/
def dmg (d : Fin 1024) : EReal := ∑ k, R.dx2 wo fg k * wo d k
/-- The gradient by a branch. -/
def db (n : Fin 3) (d : Fin 1024) : EReal := R.dmg wo fg d * gate (R.l n d)
/-- The gradient by a logit. -/
def dl (n : Fin 3) (d : Fin 1024) : EReal := R.dmg wo fg d * R.b n d * gate (R.l n d) * (1 - gate (R.l n d))

end Row

/-- Column `d` of part `n` of an array of three parts. -/
def col (n : Fin 3) (d : Fin 1024) : Fin 3072 := ⟨n.val * 1024 + d.val, by omega⟩

/-- The gradient by the prediction, line by line: the mean's share of one half of the cotangent, times twice the error. -/
theorem dy_eq (e : EReal) : Ideal.div (half * one) Rms.width * (two * e) = e * part := by
  rw [Rms.div_width, half_eq, one_eq, two_eq, part_eq, ← EReal.coe_mul, ← EReal.coe_mul, ← mul_assoc, ← EReal.coe_mul, mul_comm]
  congr 2; norm_num

theorem sq_nonneg (a : EReal) : 0 ≤ a * a := Rms.sq_nonneg a

/-- The loss, the halved mean taken of each block or of the whole. -/
theorem loss_eq {ι : Type} [Fintype ι] (f : ι → EReal) :
    half * ∑ y, Ideal.div (f y) Rms.width = ∑ y, f y * halfPart := by
  rw [half_eq, Cert.Attn.mul_sum_real _ (by norm_num), halfPart_eq]
  refine Finset.sum_congr rfl fun y _ => ?_
  rw [Rms.div_width, mul_comm, mul_assoc, ← EReal.coe_mul]
  congr 2; norm_num

/-- A block's part of the loss. -/
theorem part_sum {ι : Type} [Fintype ι] (f : ι → EReal) : (∑ y, f y) * halfPart = ∑ y, f y * halfPart := by
  rw [mul_comm, halfPart_eq, Cert.Attn.mul_sum_real _ (by norm_num)]
  exact Finset.sum_congr rfl fun y _ => mul_comm _ _

end Cert.Merge
end
-- ==== Proof.Prod.MergeTile.lean ====
module

public import proofs.«01_k».proof.Proof.Gen.Kernel12Ideal.Frame
public import Idealize.ShloMosaic.Lib.Pointwise
public import Idealize.ShloMosaic.Lib.Pipeline.ValueKit
public import proofs.«01_k».proof.Proof.Prod.Fold
public import proofs.«01_k».proof.Proof.Prod.MergeMath

/-! The gated merge of the branches with the loss and its gradients: what each block of rows ends with. -/

@[expose] public section

set_option maxRecDepth 16384
noncomputable section

namespace Cert.Kernel12Ideal.Prod

open Cert.Kernel12Ideal Cert.Kernel12Ideal.Gen Idealize.ShloMosaic Idealize.ShloMosaic.TcCoe Idealize.SL.Sem Idealize.ShloMosaic.Tactic
open Cert.Rms (rinv hat)
open Cert.Merge (Row gate col)

/-! The arithmetic of one block of rows. -/

theorem pay7_at (i : S1x1024.Idx) : k0_pay7 (F := Ideal) i = 0 := by
  unfold k0_pay7; pointwise

theorem pay8_at (i : S1x1024.Idx) : k0_pay8 (F := Ideal) i = 0 := by
  unfold k0_pay8; pointwise

section
variable (p0 p1 p2 l0 l1 l2 x u : Vec Ideal S256x1024 .f32) (w : Vec Ideal S1024x1024 .bf16) (g : Vec Ideal S1x1024 .f32)
  (acc : Vec Ideal S1x1024 .f32) (r : Fin 256) (d : Fin 1024)

/-- What row `r` of a block reads. -/
def vrow : Row where
  x d := x (ix2 r d)
  t d := u (ix2 r d)
  b := ![fun d => p0 (ix2 r d), fun d => p1 (ix2 r d), fun d => p2 (ix2 r d)]
  l := ![fun d => l0 (ix2 r d), fun d => l1 (ix2 r d), fun d => l2 (ix2 r d)]

/-- The output projection and the gain, by their places. -/
abbrev woV : Fin 1024 → Fin 1024 → EReal := fun k d => w (ix2 k d)
abbrev fgV : Fin 1024 → EReal := fun d => g (ix2 (0 : Fin 1) d)

theorem pay12_at (i) : k0_pay12 l0 i = gate (l0 i) := by
  rw [← Cert.Merge.gate_tanh]; unfold k0_pay12; pointwise; rfl
theorem pay13_at (i) : k0_pay13 l1 i = gate (l1 i) := by
  rw [← Cert.Merge.gate_tanh]; unfold k0_pay13; pointwise; rfl
theorem pay14_at (i) : k0_pay14 l2 i = gate (l2 i) := by
  rw [← Cert.Merge.gate_tanh]; unfold k0_pay14; pointwise; rfl

theorem mg_at : k0_pay15 p0 p1 p2 (k0_pay12 l0) (k0_pay13 l1) l2 (ix2 r d) = (vrow p0 p1 p2 l0 l1 l2 x u r).merged d := by
  unfold k0_pay15; pointwise
  simp only [pay12_at, pay13_at, pay14_at]; rfl

theorem x2_at : k0_pay16 p0 p1 p2 (k0_pay12 l0) (k0_pay13 l1) l2 x w (ix2 r d) = (vrow p0 p1 p2 l0 l1 l2 x u r).x2 (woV w) d := by
  unfold k0_pay16; pointwise
  simp only [mg_at p0 p1 p2 l0 l1 l2 x u]; rfl

/-- The reciprocal root of the block's rows' mean squares, the normed rows and the errors. -/
abbrev invV : FVec Ideal S256x1 .f32 := k0_pay17 p0 p1 p2 (k0_pay12 l0) (k0_pay13 l1) l2 x w
abbrev hatV : FVec Ideal S256x1024 .f32 := k0_pay18 p0 p1 p2 (k0_pay12 l0) (k0_pay13 l1) l2 x w
abbrev errV : FVec Ideal S256x1024 .f32 := k0_pay19 p0 p1 p2 (k0_pay12 l0) (k0_pay13 l1) l2 x w g u

theorem inv_at : invV p0 p1 p2 l0 l1 l2 x w (ix2 r (0 : Fin 1)) = rinv ((vrow p0 p1 p2 l0 l1 l2 x u r).x2 (woV w)) := by
  unfold invV k0_pay17; pointwise
  simp only [x2_at p0 p1 p2 l0 l1 l2 x u]; rfl

theorem hat_at : hatV p0 p1 p2 l0 l1 l2 x w (ix2 r d) = hat ((vrow p0 p1 p2 l0 l1 l2 x u r).x2 (woV w)) d := by
  unfold hatV k0_pay18; pointwise
  simp only [inv_at p0 p1 p2 l0 l1 l2 x u, x2_at p0 p1 p2 l0 l1 l2 x u]; rfl

theorem err_at : errV p0 p1 p2 l0 l1 l2 x u w g (ix2 r d) = (vrow p0 p1 p2 l0 l1 l2 x u r).err (woV w) (fgV g) d := by
  unfold errV k0_pay19; pointwise
  simp only [hat_at p0 p1 p2 l0 l1 l2 x u]; rfl

theorem loss_at : k0_pay22 (k0_pay20 acc) (k0_pay21 p0 p1 p2 (k0_pay12 l0) (k0_pay13 l1) l2 x w g u) (Scalar.ofBits .f32 0x3A000000#32) (ix2 (0 : Fin 1) d)
    = acc (ix2 0 d) + ∑ r : Fin 256, (vrow p0 p1 p2 l0 l1 l2 x u r).err (woV w) (fgV g) d * (vrow p0 p1 p2 l0 l1 l2 x u r).err (woV w) (fgV g) d * Cert.Merge.halfPart := by
  rw [← Cert.Merge.part_sum]
  unfold k0_pay22 k0_pay20 k0_pay21; pointwise
  simp only [err_at]; rfl

theorem dy_at (e : FVec Ideal S256x1024 .f32) (i) : k0_pay23 e i = e i * Cert.Merge.part := by
  unfold k0_pay23; pointwise; rfl

theorem dfg_at : k0_pay24 (hatV p0 p1 p2 l0 l1 l2 x w) (errV p0 p1 p2 l0 l1 l2 x u w g) acc (ix2 (0 : Fin 1) d)
    = acc (ix2 0 d) + ∑ r : Fin 256, (vrow p0 p1 p2 l0 l1 l2 x u r).dfg (woV w) (fgV g) d := by
  unfold k0_pay24; pointwise
  simp only [dy_at, err_at, hat_at p0 p1 p2 l0 l1 l2 x u]; rfl

theorem dx2_at : k0_pay25 (invV p0 p1 p2 l0 l1 l2 x w) (hatV p0 p1 p2 l0 l1 l2 x w) (errV p0 p1 p2 l0 l1 l2 x u w g) g (ix2 r d)
    = (vrow p0 p1 p2 l0 l1 l2 x u r).dx2 (woV w) (fgV g) d := by
  unfold k0_pay25; pointwise
  simp only [dy_at, err_at, hat_at p0 p1 p2 l0 l1 l2 x u, inv_at p0 p1 p2 l0 l1 l2 x u]; rfl

theorem dx2c_at : k0_pay26 (invV p0 p1 p2 l0 l1 l2 x w) (hatV p0 p1 p2 l0 l1 l2 x w) (errV p0 p1 p2 l0 l1 l2 x u w g) g (ix2 r d)
    = (vrow p0 p1 p2 l0 l1 l2 x u r).dx2 (woV w) (fgV g) d := by
  unfold k0_pay26; pointwise
  exact dx2_at ..

/-- The gradient by the gated sum, of a block. -/
abbrev dmgV : FVec Ideal S256x1024 .f32 :=
  k0_pay27 (invV p0 p1 p2 l0 l1 l2 x w) (hatV p0 p1 p2 l0 l1 l2 x w) (errV p0 p1 p2 l0 l1 l2 x u w g) g w

theorem dmg_at : dmgV p0 p1 p2 l0 l1 l2 x u w g (ix2 r d) = (vrow p0 p1 p2 l0 l1 l2 x u r).dmg (woV w) (fgV g) d := by
  unfold dmgV k0_pay27; pointwise
  simp only [dx2c_at]; rfl

theorem db0_at : k0_pay2 (k0_pay12 l0) (dmgV p0 p1 p2 l0 l1 l2 x u w g) (ix2 r d) = (vrow p0 p1 p2 l0 l1 l2 x u r).db (woV w) (fgV g) 0 d := by
  unfold k0_pay2; pointwise
  simp only [dmg_at, pay12_at]; rfl
theorem db1_at : k0_pay4 (k0_pay13 l1) (dmgV p0 p1 p2 l0 l1 l2 x u w g) (ix2 r d) = (vrow p0 p1 p2 l0 l1 l2 x u r).db (woV w) (fgV g) 1 d := by
  unfold k0_pay4; pointwise
  simp only [dmg_at, pay13_at]; rfl
theorem db2_at : k0_pay6 (k0_pay14 l2) (dmgV p0 p1 p2 l0 l1 l2 x u w g) (ix2 r d) = (vrow p0 p1 p2 l0 l1 l2 x u r).db (woV w) (fgV g) 2 d := by
  unfold k0_pay6; pointwise
  simp only [dmg_at, pay14_at]; rfl

theorem dl0_at : k0_pay1 (k0_pay28 p0 (k0_pay12 l0) (invV p0 p1 p2 l0 l1 l2 x w) (hatV p0 p1 p2 l0 l1 l2 x w) (errV p0 p1 p2 l0 l1 l2 x u w g) g w) (ix2 r d)
    = (vrow p0 p1 p2 l0 l1 l2 x u r).dl (woV w) (fgV g) 0 d := by
  unfold k0_pay1 k0_pay28; pointwise
  simp only [dmg_at, pay12_at]; rfl
theorem dl1_at : k0_pay3 p1 (k0_pay13 l1) (dmgV p0 p1 p2 l0 l1 l2 x u w g) (ix2 r d) = (vrow p0 p1 p2 l0 l1 l2 x u r).dl (woV w) (fgV g) 1 d := by
  unfold k0_pay3; pointwise
  simp only [dmg_at, pay13_at]; rfl
theorem dl2_at : k0_pay5 p2 (k0_pay14 l2) (dmgV p0 p1 p2 l0 l1 l2 x u w g) (ix2 r d) = (vrow p0 p1 p2 l0 l1 l2 x u r).dl (woV w) (fgV g) 2 d := by
  unfold k0_pay5; pointwise
  simp only [dmg_at, pay14_at]; rfl
end

end Cert.Kernel12Ideal.Prod
end
-- ==== Proof.Prod.MergeOut.lean ====
module

public import proofs.«01_k».proof.Proof.Prod.MergeTile
public import Idealize.ShloMosaic.Lib.WritesUnit

/-! The gated merge of the branches with the loss and its gradients: what the call ends with. -/

@[expose] public section

set_option maxRecDepth 16384
noncomputable section

namespace Cert.Kernel12Ideal.Prod

open Cert.Kernel12Ideal Cert.Kernel12Ideal.Gen Idealize.ShloMosaic Idealize.ShloMosaic.TcCoe Idealize.SL.Sem Idealize.ShloMosaic.Tactic
open Cert.Merge (Row gate col)

/-! Arrays of three parts, a part at a time. -/

/-- The columns of part `n`. -/
def partCols {R : ℕ} {e : EltTy} (n : Fin 3) (X : Vec Ideal ⟨2, ![R, 3072]⟩ e) : Vec Ideal ⟨2, ![R, 1024]⟩ e :=
  fun j => X (ix2 (j 0) (col n (j 1)))

/-- A load of 1024 columns from column `1024 n` on is the columns of part `n`. -/
theorem ld_part {R : ℕ} {e : EltTy} (n : Fin 3) (o : ℕ) (ho : o = n.val * 1024) (X : Vec Ideal ⟨2, ![R, 3072]⟩ e)
    (inb : ∀ a, (![0, o] : Fin 2 → ℕ) a + (![R, 1024] : Fin 2 → ℕ) a ≤ (⟨2, ![R, 3072]⟩ : Shape).size a) :
    View.ld X (Rect.unit (s := ⟨2, ![R, 3072]⟩) ![0, o] ![R, 1024] inb) = partCols n X := by
  subst ho
  funext j
  refine congrArg X (funext fun a => Fin.ext ?_)
  show (![0, n.val * 1024] : Fin 2 → ℕ) a + 1 * (j a).val = _
  fin_cases a
  · show 0 + 1 * (j 0).val = (j 0).val; omega
  · show n.val * 1024 + 1 * (j 1).val = n.val * 1024 + (j 1).val; omega

/-- A write over the columns of part `n` is read there as what it wrote. -/
theorem part_hit {R : ℕ} {e : EltTy} (n : Fin 3) (o : ℕ) (ho : o = n.val * 1024)
    (inb : ∀ a, (![0, o] : Fin 2 → ℕ) a + (![R, 1024] : Fin 2 → ℕ) a ≤ (⟨2, ![R, 3072]⟩ : Shape).size a)
    (w : Vec Ideal ⟨2, ![R, 1024]⟩ e) (L : List (View.Piece (Elt Ideal) ⟨2, ![R, 3072]⟩ e)) (r : Fin R) (d : Fin 1024) :
    View.canon (⟨Rect.unit (s := ⟨2, ![R, 3072]⟩) ![0, o] ![R, 1024] inb, w⟩ :: L) (ix2 r (col n d)) = w (ix2 r d) := by
  subst ho
  have : (ix2 r (col n d) : (⟨2, ![R, 3072]⟩ : Shape).Idx) = (Rect.unit (s := ⟨2, ![R, 3072]⟩) ![0, n.val * 1024] ![R, 1024] inb).emb (ix2 r d) := by
    funext a; apply Fin.ext
    show _ = (![0, n.val * 1024] : Fin 2 → ℕ) a + 1 * ((ix2 r d : (⟨2, ![R, 1024]⟩ : Shape).Idx) a).val
    fin_cases a
    · show r.val = 0 + 1 * r.val; omega
    · show n.val * 1024 + d.val = n.val * 1024 + 1 * d.val; omega
  rw [this]
  exact View.canon_cons_emb (Rect.unit (s := ⟨2, ![R, 3072]⟩) ![0, n.val * 1024] ![R, 1024] inb) w L (ix2 r d)

/-- A write over the columns of another part is not met. -/
theorem part_miss {R : ℕ} {e : EltTy} (n n' : Fin 3) (h : n ≠ n') (o : ℕ) (ho : o = n'.val * 1024)
    (inb : ∀ a, (![0, o] : Fin 2 → ℕ) a + (![R, 1024] : Fin 2 → ℕ) a ≤ (⟨2, ![R, 3072]⟩ : Shape).size a)
    (w : Vec Ideal ⟨2, ![R, 1024]⟩ e) (L : List (View.Piece (Elt Ideal) ⟨2, ![R, 3072]⟩ e)) (r : Fin R) (d : Fin 1024) :
    View.canon (⟨Rect.unit (s := ⟨2, ![R, 3072]⟩) ![0, o] ![R, 1024] inb, w⟩ :: L) (ix2 r (col n d)) = View.canon L (ix2 r (col n d)) := by
  refine View.canon_cons_of_not_mem _ L ?_
  rw [Rect.mem_set_unit]
  intro hm
  have h1 : o ≤ n.val * 1024 + d.val := (hm 1).1
  have h2 : n.val * 1024 + d.val < o + 1024 := (hm 1).2
  have h3 : n.val ≠ n'.val := fun e => h (Fin.ext e)
  omega

/-! The blocks a grid point reads. -/

variable (c : Dev nD) (m : (ℓ : Loc nD τ sig) → Buf (Elt Ideal) ℓ)

theorem e0 : ∀ t : Fin cfg0.N, win0_0.index t = ![t.val, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![t.val, 0] := (by decide +kernel : ∀ t : Fin grid0.N, _)
theorem e4 : ∀ t : Fin cfg0.N, win0_4.index t = ![t.val, 0] := (by decide +kernel : ∀ t : Fin grid0.N, _)
theorem e5 : ∀ t : Fin cfg0.N, win0_5.index t = ![t.val, 1] := (by decide +kernel : ∀ t : Fin grid0.N, _)
theorem e6 : ∀ t : Fin cfg0.N, win0_6.index t = ![0, 0] := (by decide +kernel : ∀ t : Fin grid0.N, _)
theorem e7 : ∀ t : Fin cfg0.N, win0_7.index t = ![0, 0] := (by decide +kernel : ∀ t : Fin grid0.N, _)
theorem e8 : ∀ t : Fin cfg0.N, win0_8.index t = ![0, 0] := (by decide +kernel : ∀ t : Fin grid0.N, _)
theorem e9 : ∀ t : Fin cfg0.N, win0_9.index t = ![0, 0] := (by decide +kernel : ∀ t : Fin grid0.N, _)
theorem e10 : ∀ t : Fin cfg0.N, win0_10.index t = ![0, 0] := (by decide +kernel : ∀ t : Fin grid0.N, _)
theorem e11 : ∀ t : Fin cfg0.N, win0_11.index t = ![t.val, 1] := (by decide +kernel : ∀ t : Fin grid0.N, _)
theorem e12 : ∀ t : Fin cfg0.N, win0_12.index t = ![t.val, 0] := (by decide +kernel : ∀ t : Fin grid0.N, _)
theorem e13 : ∀ t : Fin cfg0.N, win0_13.index t = ![t.val, 0] := (by decide +kernel : ∀ t : Fin grid0.N, _)
theorem e14 : ∀ t : Fin cfg0.N, win0_14.index t = ![t.val, 0] := (by decide +kernel : ∀ t : Fin grid0.N, _)
theorem e15 : ∀ t : Fin cfg0.N, win0_15.index t = ![t.val, 0] := (by decide +kernel : ∀ t : Fin grid0.N, _)
theorem e16 : ∀ t : Fin cfg0.N, win0_16.index t = ![t.val, 0] := (by decide +kernel : ∀ t : Fin grid0.N, _)
theorem e17 : ∀ t : Fin cfg0.N, win0_17.index t = ![t.val, 0] := (by decide +kernel : ∀ t : Fin grid0.N, _)
theorem e18 : ∀ t : Fin cfg0.N, win0_18.index t = ![0, 0] := (by decide +kernel : ∀ t : Fin grid0.N, _)
theorem e19 : ∀ t : Fin cfg0.N, win0_19.index t = ![0, 0] := (by decide +kernel : ∀ t : Fin grid0.N, _)

/-- The arguments, as launched. -/
abbrev X : (⟨2, ![8192, 1024]⟩ : Shape).Idx → EReal := m ((c : Thread nD τ).loc main_arg0)
abbrev T : (⟨2, ![8192, 1024]⟩ : Shape).Idx → EReal := m ((c : Thread nD τ).loc main_arg1)
abbrev YS : (⟨2, ![8192, 2048]⟩ : Shape).Idx → EReal := m ((c : Thread nD τ).loc main_arg2)
abbrev YL : (⟨2, ![8192, 1536]⟩ : Shape).Idx → EReal := m ((c : Thread nD τ).loc main_arg3)
abbrev YM : (⟨2, ![8192, 1024]⟩ : Shape).Idx → EReal := m ((c : Thread nD τ).loc main_arg4)
abbrev PJ : (⟨2, ![8192, 12544]⟩ : Shape).Idx → EReal := m ((c : Thread nD τ).loc main_arg5)
abbrev WS : (⟨2, ![2048, 1024]⟩ : Shape).Idx → EReal := m ((c : Thread nD τ).loc main_arg6)
abbrev WL : (⟨2, ![1536, 1024]⟩ : Shape).Idx → EReal := m ((c : Thread nD τ).loc main_arg7)
abbrev WM : (⟨2, ![1024, 1024]⟩ : Shape).Idx → EReal := m ((c : Thread nD τ).loc main_arg8)
abbrev WO : (⟨2, ![1024, 1024]⟩ : Shape).Idx → EReal := m ((c : Thread nD τ).loc main_arg9)
abbrev FG : (⟨2, ![1, 1024]⟩ : Shape).Idx → EReal := m ((c : Thread nD τ).loc main_arg10)

/-- The row of the whole array that row `r` of point `n`'s block is. -/
abbrev rowOf (n : ℕ) (r : Fin 256) : Fin 8192 := Cert.Prod.place (K := 32) (by decide) rfl n r

theorem blk0_at (t : Fin cfg0.N) (r : Fin 256) (d : Fin 1024) : iblk m c 0 t (ix2 r d) = X c m (ix2 (rowOf t.val r) d) := by
  have ht : t.val < 32 := t.isLt
  blk_simp [iblk, V_main_arg0]
  congr 1
  funext a; apply Fin.ext
  fin_cases a <;> blk_simp [e0]
  · show t.val * 256 + r.val = t.val % 32 * 256 + r.val; omega
  · rfl

theorem blk1_at (t : Fin cfg0.N) (r : Fin 256) (d : Fin 1024) : iblk m c 1 t (ix2 r d) = T c m (ix2 (rowOf t.val r) d) := by
  have ht : t.val < 32 := t.isLt
  blk_simp [iblk, V_main_arg1]
  congr 1
  funext a; apply Fin.ext
  fin_cases a <;> blk_simp [e1]
  · show t.val * 256 + r.val = t.val % 32 * 256 + r.val; omega
  · rfl

theorem blk2_at (t : Fin cfg0.N) (r : Fin 256) (d : Fin 2048) : iblk m c 2 t (ix2 r d) = YS c m (ix2 (rowOf t.val r) d) := by
  have ht : t.val < 32 := t.isLt
  blk_simp [iblk, V_main_arg2]
  congr 1
  funext a; apply Fin.ext
  fin_cases a <;> blk_simp [e2]
  · show t.val * 256 + r.val = t.val % 32 * 256 + r.val; omega
  · rfl

theorem blk3_at (t : Fin cfg0.N) (r : Fin 256) (d : Fin 1536) : iblk m c 3 t (ix2 r d) = YL c m (ix2 (rowOf t.val r) d) := by
  have ht : t.val < 32 := t.isLt
  blk_simp [iblk, V_main_arg3]
  congr 1
  funext a; apply Fin.ext
  fin_cases a <;> blk_simp [e3]
  · show t.val * 256 + r.val = t.val % 32 * 256 + r.val; omega
  · rfl

theorem blk4_at (t : Fin cfg0.N) (r : Fin 256) (d : Fin 1024) : iblk m c 4 t (ix2 r d) = YM c m (ix2 (rowOf t.val r) d) := by
  have ht : t.val < 32 := t.isLt
  blk_simp [iblk, V_main_arg4]
  congr 1
  funext a; apply Fin.ext
  fin_cases a <;> blk_simp [e4]
  · show t.val * 256 + r.val = t.val % 32 * 256 + r.val; omega
  · rfl

theorem blk5_at (t : Fin cfg0.N) (r : Fin 256) (y : Fin 3072) : X0_5 m c t (ix2 r y) = PJ c m (ix2 (rowOf t.val r) ⟨3072 + y.val, by omega⟩) := by
  have ht : t.val < 32 := t.isLt
  unfold X0_5 Pipeline.Window.fill
  rw [dif_pos (moved0_5 t _)]
  blk_simp [iblk, V_main_arg5]
  congr 1
  funext a; apply Fin.ext
  fin_cases a <;> blk_simp [e5]
  · show t.val * 256 + r.val = t.val % 32 * 256 + r.val; omega
  · show 1 * 3072 + y.val = 3072 + y.val; omega

theorem blk6_at (t : Fin cfg0.N) (i : (⟨2, ![2048, 1024]⟩ : Shape).Idx) : iblk m c 6 t i = WS c m i := by
  blk_simp [iblk, V_main_arg6]
  congr 1
  funext a; apply Fin.ext
  fin_cases a <;> blk_simp [e6] <;> omega

theorem blk7_at (t : Fin cfg0.N) (i : (⟨2, ![1536, 1024]⟩ : Shape).Idx) : iblk m c 7 t i = WL c m i := by
  blk_simp [iblk, V_main_arg7]
  congr 1
  funext a; apply Fin.ext
  fin_cases a <;> blk_simp [e7] <;> omega

theorem blk8_at (t : Fin cfg0.N) (i : (⟨2, ![1024, 1024]⟩ : Shape).Idx) : iblk m c 8 t i = WM c m i := by
  blk_simp [iblk, V_main_arg8]
  congr 1
  funext a; apply Fin.ext
  fin_cases a <;> blk_simp [e8] <;> omega

theorem blk9_at (t : Fin cfg0.N) (i : (⟨2, ![1024, 1024]⟩ : Shape).Idx) : iblk m c 9 t i = WO c m i := by
  blk_simp [iblk, V_main_arg9]
  congr 1
  funext a; apply Fin.ext
  fin_cases a <;> blk_simp [e9] <;> omega

theorem blk10_at (t : Fin cfg0.N) (i : (⟨2, ![1, 1024]⟩ : Shape).Idx) : iblk m c 10 t i = FG c m i := by
  blk_simp [iblk, V_main_arg10]
  congr 1
  funext a; apply Fin.ext
  fin_cases a <;> blk_simp [e10] <;> omega

/-- What a row of the call reads, its branch products formed. -/
def mrow (y : Fin 8192) : Row where
  x d := X c m (ix2 y d)
  t d := T c m (ix2 y d)
  b := ![fun d => ∑ k, YS c m (ix2 y k) * WS c m (ix2 k d), fun d => ∑ k, YL c m (ix2 y k) * WL c m (ix2 k d),
    fun d => ∑ k, YM c m (ix2 y k) * WM c m (ix2 k d)]
  l n d := PJ c m (ix2 y ⟨3072 + (col n d).val, by omega⟩)

/-- The output projection and the gain. -/
abbrev wo : Fin 1024 → Fin 1024 → EReal := fun k d => WO c m (ix2 k d)
abbrev fg : Fin 1024 → EReal := fun d => FG c m (ix2 0 d)

theorem prod0_at (t : Fin cfg0.N) (r : Fin 256) (d : Fin 1024) :
    k0_pay9 (F := Ideal) (iblk m c 2 t) (iblk m c 6 t) (ix2 r d) = (mrow c m (rowOf t.val r)).b 0 d := by
  unfold k0_pay9; pointwise
  simp only [blk2_at, blk6_at]; rfl
theorem prod1_at (t : Fin cfg0.N) (r : Fin 256) (d : Fin 1024) :
    k0_pay10 (F := Ideal) (iblk m c 3 t) (iblk m c 7 t) (ix2 r d) = (mrow c m (rowOf t.val r)).b 1 d := by
  unfold k0_pay10; pointwise
  simp only [blk3_at, blk7_at]; rfl
theorem prod2_at (t : Fin cfg0.N) (r : Fin 256) (d : Fin 1024) :
    k0_pay11 (F := Ideal) (iblk m c 4 t) (iblk m c 8 t) (ix2 r d) = (mrow c m (rowOf t.val r)).b 2 d := by
  unfold k0_pay11; pointwise
  simp only [blk4_at, blk8_at]; rfl

/-- A point's row of the block is the array's row. -/
theorem vrow_eq (t : Fin cfg0.N) (r : Fin 256) :
    vrow (k0_pay9 (F := Ideal) (iblk m c 2 t) (iblk m c 6 t)) (k0_pay10 (F := Ideal) (iblk m c 3 t) (iblk m c 7 t))
      (k0_pay11 (F := Ideal) (iblk m c 4 t) (iblk m c 8 t)) (partCols 0 (X0_5 m c t)) (partCols 1 (X0_5 m c t)) (partCols 2 (X0_5 m c t))
      (iblk m c 0 t) (iblk m c 1 t) r = mrow c m (rowOf t.val r) := by
  unfold vrow
  rw [Row.mk.injEq]
  refine ⟨funext fun d => blk0_at c m t r d, funext fun d => blk1_at c m t r d, funext fun n => funext fun d => ?_, funext fun n => funext fun d => ?_⟩
  · fin_cases n
    · exact prod0_at c m t r d
    · exact prod1_at c m t r d
    · exact prod2_at c m t r d
  · fin_cases n <;> exact blk5_at c m t r _

theorem wo_eq (t : Fin cfg0.N) : woV (iblk m c 9 t) = wo c m := funext fun k => funext fun d => blk9_at c m t (ix2 k d)
theorem fg_eq (t : Fin cfg0.N) : fgV (iblk m c 10 t) = fg c m := funext fun d => blk10_at c m t (ix2 0 d)

/-! What each point leaves. -/

theorem out_dx (t : Fin cfg0.N) (r : Fin 256) (d : Fin 1024) : (outsAt0 m c t.val t.isLt).2.1 (ix2 r d) = (mrow c m (rowOf t.val r)).dx2 (wo c m) (fg c m) d := by
  rw [← vrow_eq c m t r, ← wo_eq c m t, ← fg_eq c m t]
  by_cases h0 : t.val % 32 = 0
  on_goal 1 => rw [outsAt0_A m c t h0]
  on_goal 2 => rw [outsAt0_B m c t h0]
  all_goals
    frame_out
    simp only [ld_part 0 0 rfl, ld_part 1 1024 rfl, ld_part 2 2048 rfl]
    exact dx2_at ..

theorem out_dxc (t : Fin cfg0.N) (r : Fin 256) (d : Fin 1024) : (outsAt0 m c t.val t.isLt).2.2.1 (ix2 r d) = (mrow c m (rowOf t.val r)).dx2 (wo c m) (fg c m) d := by
  rw [← vrow_eq c m t r, ← wo_eq c m t, ← fg_eq c m t]
  by_cases h0 : t.val % 32 = 0
  on_goal 1 => rw [outsAt0_A m c t h0]
  on_goal 2 => rw [outsAt0_B m c t h0]
  all_goals
    frame_out
    simp only [ld_part 0 0 rfl, ld_part 1 1024 rfl, ld_part 2 2048 rfl]
    exact dx2c_at ..

theorem out_mg (t : Fin cfg0.N) (r : Fin 256) (d : Fin 1024) : (outsAt0 m c t.val t.isLt).2.2.2.1 (ix2 r d) = (mrow c m (rowOf t.val r)).merged d := by
  rw [← vrow_eq c m t r]
  by_cases h0 : t.val % 32 = 0
  on_goal 1 => rw [outsAt0_A m c t h0]
  on_goal 2 => rw [outsAt0_B m c t h0]
  all_goals
    frame_out
    simp only [ld_part 0 0 rfl, ld_part 1 1024 rfl, ld_part 2 2048 rfl]
    exact mg_at ..

theorem out_db0 (t : Fin cfg0.N) (r : Fin 256) (d : Fin 1024) : (outsAt0 m c t.val t.isLt).2.2.2.2.1 (ix2 r d) = (mrow c m (rowOf t.val r)).db (wo c m) (fg c m) 0 d := by
  rw [← vrow_eq c m t r, ← wo_eq c m t, ← fg_eq c m t]
  by_cases h0 : t.val % 32 = 0
  on_goal 1 => rw [outsAt0_A m c t h0]
  on_goal 2 => rw [outsAt0_B m c t h0]
  all_goals
    frame_out
    simp only [ld_part 0 0 rfl, ld_part 1 1024 rfl, ld_part 2 2048 rfl]
    exact db0_at ..

theorem out_db1 (t : Fin cfg0.N) (r : Fin 256) (d : Fin 1024) : (outsAt0 m c t.val t.isLt).2.2.2.2.2.1 (ix2 r d) = (mrow c m (rowOf t.val r)).db (wo c m) (fg c m) 1 d := by
  rw [← vrow_eq c m t r, ← wo_eq c m t, ← fg_eq c m t]
  by_cases h0 : t.val % 32 = 0
  on_goal 1 => rw [outsAt0_A m c t h0]
  on_goal 2 => rw [outsAt0_B m c t h0]
  all_goals
    frame_out
    simp only [ld_part 0 0 rfl, ld_part 1 1024 rfl, ld_part 2 2048 rfl]
    exact db1_at ..

theorem out_db2 (t : Fin cfg0.N) (r : Fin 256) (d : Fin 1024) : (outsAt0 m c t.val t.isLt).2.2.2.2.2.2.1 (ix2 r d) = (mrow c m (rowOf t.val r)).db (wo c m) (fg c m) 2 d := by
  rw [← vrow_eq c m t r, ← wo_eq c m t, ← fg_eq c m t]
  by_cases h0 : t.val % 32 = 0
  on_goal 1 => rw [outsAt0_A m c t h0]
  on_goal 2 => rw [outsAt0_B m c t h0]
  all_goals
    frame_out
    simp only [ld_part 0 0 rfl, ld_part 1 1024 rfl, ld_part 2 2048 rfl]
    exact db2_at ..

theorem out_dl (n : Fin 3) (t : Fin cfg0.N) (r : Fin 256) (d : Fin 1024) :
    (outsAt0 m c t.val t.isLt).1 (ix2 r (col n d)) = (mrow c m (rowOf t.val r)).dl (wo c m) (fg c m) n d := by
  rw [← vrow_eq c m t r, ← wo_eq c m t, ← fg_eq c m t]
  by_cases h0 : t.val % 32 = 0
  on_goal 1 => rw [outsAt0_A m c t h0]
  on_goal 2 => rw [outsAt0_B m c t h0]
  all_goals
    frame_out
    simp only [ld_part 0 0 rfl, ld_part 1 1024 rfl, ld_part 2 2048 rfl]
    fin_cases n
    · refine (part_miss 0 2 (by decide) _ rfl _ _ _ r d).trans ((part_miss 0 1 (by decide) _ rfl _ _ _ r d).trans ((part_hit 0 _ rfl _ _ _ r d).trans ?_))
      exact dl0_at ..
    · refine (part_miss 1 2 (by decide) _ rfl _ _ _ r d).trans ((part_hit 1 _ rfl _ _ _ r d).trans ?_)
      exact dl1_at ..
    · refine (part_hit 2 _ rfl _ _ _ r d).trans ?_
      exact dl2_at ..

/-- A row's part of the loss, and of the gradient by the gain. -/
def lossTerm (d : Fin 1024) (y : Fin 8192) : EReal :=
  (mrow c m y).err (wo c m) (fg c m) d * (mrow c m y).err (wo c m) (fg c m) d * Cert.Merge.halfPart
def dfgTerm (d : Fin 1024) (y : Fin 8192) : EReal := (mrow c m y).dfg (wo c m) (fg c m) d

theorem loss_first (d : Fin 1024) (n : ℕ) (h : n < cfg0.N) (h0 : n % 32 = 0) :
    (outsAt0 m c n h).2.2.2.2.2.2.2.1 (ix2 0 d) = ∑ r : Fin 256, lossTerm c m d (rowOf n r) := by
  unfold lossTerm
  simp only [← vrow_eq c m ⟨n, h⟩, ← wo_eq c m ⟨n, h⟩, ← fg_eq c m ⟨n, h⟩]
  rw [outsAt0_A m c ⟨n, h⟩ h0]
  frame_out
  simp only [ld_part 0 0 rfl, ld_part 1 1024 rfl, ld_part 2 2048 rfl]
  refine (loss_at ..).trans ?_
  rw [pay7_at, zero_add]

theorem loss_next (d : Fin 1024) (n : ℕ) (h : n + 1 < cfg0.N) (h0 : (n + 1) % 32 ≠ 0) :
    (outsAt0 m c (n + 1) h).2.2.2.2.2.2.2.1 (ix2 0 d) = (outsAt0 m c n (by omega)).2.2.2.2.2.2.2.1 (ix2 0 d) + ∑ r : Fin 256, lossTerm c m d (rowOf (n + 1) r) := by
  unfold lossTerm
  simp only [← vrow_eq c m ⟨n + 1, h⟩, ← wo_eq c m ⟨n + 1, h⟩, ← fg_eq c m ⟨n + 1, h⟩]
  rw [outsAt0_B m c ⟨n + 1, h⟩ h0]
  frame_out
  simp only [ld_part 0 0 rfl, ld_part 1 1024 rfl, ld_part 2 2048 rfl]
  exact loss_at ..

theorem out_loss (d : Fin 1024) (t : Fin cfg0.N) (h : t.val % 32 = 31) :
    (outsAt0 m c t.val t.isLt).2.2.2.2.2.2.2.1 (ix2 0 d) = ∑ y, lossTerm c m d y :=
  Cert.Prod.fold_tiles (T := 256) (M := 8192) (by decide) rfl (fun n h => (outsAt0 m c n h).2.2.2.2.2.2.2.1 (ix2 0 d)) (fun _ => lossTerm c m d)
    (loss_first c m d) (loss_next c m d) t.val t.isLt h

theorem dfg_first (d : Fin 1024) (n : ℕ) (h : n < cfg0.N) (h0 : n % 32 = 0) :
    (outsAt0 m c n h).2.2.2.2.2.2.2.2 (ix2 0 d) = ∑ r : Fin 256, dfgTerm c m d (rowOf n r) := by
  unfold dfgTerm
  simp only [← vrow_eq c m ⟨n, h⟩, ← wo_eq c m ⟨n, h⟩, ← fg_eq c m ⟨n, h⟩]
  rw [outsAt0_A m c ⟨n, h⟩ h0]
  frame_out
  simp only [ld_part 0 0 rfl, ld_part 1 1024 rfl, ld_part 2 2048 rfl]
  refine (dfg_at ..).trans ?_
  rw [pay8_at, zero_add]

theorem dfg_next (d : Fin 1024) (n : ℕ) (h : n + 1 < cfg0.N) (h0 : (n + 1) % 32 ≠ 0) :
    (outsAt0 m c (n + 1) h).2.2.2.2.2.2.2.2 (ix2 0 d) = (outsAt0 m c n (by omega)).2.2.2.2.2.2.2.2 (ix2 0 d) + ∑ r : Fin 256, dfgTerm c m d (rowOf (n + 1) r) := by
  unfold dfgTerm
  simp only [← vrow_eq c m ⟨n + 1, h⟩, ← wo_eq c m ⟨n + 1, h⟩, ← fg_eq c m ⟨n + 1, h⟩]
  rw [outsAt0_B m c ⟨n + 1, h⟩ h0]
  frame_out
  simp only [ld_part 0 0 rfl, ld_part 1 1024 rfl, ld_part 2 2048 rfl]
  exact dfg_at ..

theorem out_dfg (d : Fin 1024) (t : Fin cfg0.N) (h : t.val % 32 = 31) :
    (outsAt0 m c t.val t.isLt).2.2.2.2.2.2.2.2 (ix2 0 d) = ∑ y, dfgTerm c m d y :=
  Cert.Prod.fold_tiles (T := 256) (M := 8192) (by decide) rfl (fun n h => (outsAt0 m c n h).2.2.2.2.2.2.2.2 (ix2 0 d)) (fun _ => dfgTerm c m d)
    (dfg_first c m d) (dfg_next c m d) t.val t.isLt h

end Cert.Kernel12Ideal.Prod
end
-- ==== Proof.Prod.MergeFb.lean ====
module

public import proofs.«01_k».proof.Proof.Prod.MergeOut

/-! The gated merge of the branches with the loss and its gradients: the arrays the program ends with. -/

@[expose] public section

set_option maxRecDepth 16384
noncomputable section

namespace Cert.Kernel12Ideal.Prod

open Cert.Kernel12Ideal Cert.Kernel12Ideal.Gen Idealize.ShloMosaic Idealize.ShloMosaic.TcCoe Idealize.SL.Sem Idealize.ShloMosaic.Tactic
open Cert.Merge (Row gate col)

variable (c : Dev nD) (m : (ℓ : Loc nD τ sig) → Buf (Elt Ideal) ℓ)

/-- The rows of the results, by their places. -/
def dxArr (y : Fin 8192) (d : Fin 1024) : EReal := (mrow c m y).dx2 (wo c m) (fg c m) d
def mgArr (y : Fin 8192) (d : Fin 1024) : EReal := (mrow c m y).merged d
def dbArr (n : Fin 3) (y : Fin 8192) (d : Fin 1024) : EReal := (mrow c m y).db (wo c m) (fg c m) n d
def dlArr (n : Fin 3) (y : Fin 8192) (d : Fin 1024) : EReal := (mrow c m y).dl (wo c m) (fg c m) n d

theorem final12 : (dats m 0 c).arrAt 12 cfg0.N = fun i => dxArr c m (i 0) (i 1) := by
  refine (dats m 0 c).arrAt_eq_of_covers 12 _ (by decide +kernel) fun t hf y => ?_
  obtain ⟨r, d, rfl⟩ : ∃ r d, y = (ix2 r d : S256x1024.Idx) := ⟨y 0, y 1, eq_ix2 y⟩
  have h := out_dx c m t r d
  have ht : t.val < 32 := t.isLt
  blk_simp
  rw [after0_12]
  refine h.trans (congrArg₂ (dxArr c m) (Fin.ext ?_) (Fin.ext ?_))
  · blk_simp [e12]
    show t.val % 32 * 256 + r.val = t.val * 256 + r.val; omega
  · blk_simp [e12]

theorem final13 : (dats m 0 c).arrAt 13 cfg0.N = fun i => dxArr c m (i 0) (i 1) := by
  refine (dats m 0 c).arrAt_eq_of_covers 13 _ (by decide +kernel) fun t hf y => ?_
  obtain ⟨r, d, rfl⟩ : ∃ r d, y = (ix2 r d : S256x1024.Idx) := ⟨y 0, y 1, eq_ix2 y⟩
  have h := out_dxc c m t r d
  have ht : t.val < 32 := t.isLt
  blk_simp
  rw [after0_13]
  refine h.trans (congrArg₂ (dxArr c m) (Fin.ext ?_) (Fin.ext ?_))
  · blk_simp [e13]
    show t.val % 32 * 256 + r.val = t.val * 256 + r.val; omega
  · blk_simp [e13]

theorem final14 : (dats m 0 c).arrAt 14 cfg0.N = fun i => mgArr c m (i 0) (i 1) := by
  refine (dats m 0 c).arrAt_eq_of_covers 14 _ (by decide +kernel) fun t hf y => ?_
  obtain ⟨r, d, rfl⟩ : ∃ r d, y = (ix2 r d : S256x1024.Idx) := ⟨y 0, y 1, eq_ix2 y⟩
  have h := out_mg c m t r d
  have ht : t.val < 32 := t.isLt
  blk_simp
  rw [after0_14]
  refine h.trans (congrArg₂ (mgArr c m) (Fin.ext ?_) (Fin.ext ?_))
  · blk_simp [e14]
    show t.val % 32 * 256 + r.val = t.val * 256 + r.val; omega
  · blk_simp [e14]

theorem final15 : (dats m 0 c).arrAt 15 cfg0.N = fun i => dbArr c m 0 (i 0) (i 1) := by
  refine (dats m 0 c).arrAt_eq_of_covers 15 _ (by decide +kernel) fun t hf y => ?_
  obtain ⟨r, d, rfl⟩ : ∃ r d, y = (ix2 r d : S256x1024.Idx) := ⟨y 0, y 1, eq_ix2 y⟩
  have h := out_db0 c m t r d
  have ht : t.val < 32 := t.isLt
  blk_simp
  rw [after0_15]
  refine h.trans (congrArg₂ (dbArr c m 0) (Fin.ext ?_) (Fin.ext ?_))
  · blk_simp [e15]
    show t.val % 32 * 256 + r.val = t.val * 256 + r.val; omega
  · blk_simp [e15]

theorem final16 : (dats m 0 c).arrAt 16 cfg0.N = fun i => dbArr c m 1 (i 0) (i 1) := by
  refine (dats m 0 c).arrAt_eq_of_covers 16 _ (by decide +kernel) fun t hf y => ?_
  obtain ⟨r, d, rfl⟩ : ∃ r d, y = (ix2 r d : S256x1024.Idx) := ⟨y 0, y 1, eq_ix2 y⟩
  have h := out_db1 c m t r d
  have ht : t.val < 32 := t.isLt
  blk_simp
  rw [after0_16]
  refine h.trans (congrArg₂ (dbArr c m 1) (Fin.ext ?_) (Fin.ext ?_))
  · blk_simp [e16]
    show t.val % 32 * 256 + r.val = t.val * 256 + r.val; omega
  · blk_simp [e16]

theorem final17 : (dats m 0 c).arrAt 17 cfg0.N = fun i => dbArr c m 2 (i 0) (i 1) := by
  refine (dats m 0 c).arrAt_eq_of_covers 17 _ (by decide +kernel) fun t hf y => ?_
  obtain ⟨r, d, rfl⟩ : ∃ r d, y = (ix2 r d : S256x1024.Idx) := ⟨y 0, y 1, eq_ix2 y⟩
  have h := out_db2 c m t r d
  have ht : t.val < 32 := t.isLt
  blk_simp
  rw [after0_17]
  refine h.trans (congrArg₂ (dbArr c m 2) (Fin.ext ?_) (Fin.ext ?_))
  · blk_simp [e17]
    show t.val % 32 * 256 + r.val = t.val * 256 + r.val; omega
  · blk_simp [e17]

theorem last18 : ∀ t : Fin cfg0.N, (cfg0.win 18).flush t = true → t.val % 32 = 31 := (by decide +kernel : ∀ t : Fin grid0.N, _)
theorem last19 : ∀ t : Fin cfg0.N, (cfg0.win 19).flush t = true → t.val % 32 = 31 := (by decide +kernel : ∀ t : Fin grid0.N, _)

theorem final18 : (dats m 0 c).arrAt 18 cfg0.N = fun i => ∑ y, lossTerm c m (i 1) y := by
  refine (dats m 0 c).arrAt_eq_of_covers 18 _ (by decide +kernel) fun t hf y => ?_
  obtain ⟨r, d, rfl⟩ : ∃ r d, y = (ix2 r d : S1x1024.Idx) := ⟨y 0, y 1, eq_ix2 y⟩
  obtain rfl : r = 0 := Subsingleton.elim _ _
  have h := out_loss c m d t (last18 t hf)
  blk_simp
  rw [after0_18]
  refine h.trans (congrArg (fun d => ∑ y, lossTerm c m d y) (Fin.ext ?_))
  blk_simp [e18]

theorem final19 : (dats m 0 c).arrAt 19 cfg0.N = fun i => ∑ y, dfgTerm c m (i 1) y := by
  refine (dats m 0 c).arrAt_eq_of_covers 19 _ (by decide +kernel) fun t hf y => ?_
  obtain ⟨r, d, rfl⟩ : ∃ r d, y = (ix2 r d : S1x1024.Idx) := ⟨y 0, y 1, eq_ix2 y⟩
  obtain rfl : r = 0 := Subsingleton.elim _ _
  have h := out_dfg c m d t (last19 t hf)
  blk_simp
  rw [after0_19]
  refine h.trans (congrArg (fun d => ∑ y, dfgTerm c m d y) (Fin.ext ?_))
  blk_simp [e19]

/-- Distinct points write distinct blocks of the first output. -/
theorem inj11 : ∀ t t' : Fin cfg0.N, win0_11.index t = win0_11.index t' → t = t' :=
  (by decide +kernel : ∀ t t' : Fin grid0.N, win0_11.index t = win0_11.index t' → t = t')

/-- No block of the first output is cut. -/
theorem cut11 : ∀ (t : Fin cfg0.N) (a : Fin 2), win0_11.xsize (grid0.coords t) a = (![256, 3072] : Fin 2 → ℕ) a :=
  (by decide +kernel : ∀ (t : Fin grid0.N) (a : Fin 2), _)

/-- An index of a point's block, by row and column. -/
def blkIdx (t : Fin cfg0.N) (r : Fin 256) (y : Fin 3072) : ((cfg0.win 11).xblock (cfg0.grid.coords t)).Idx :=
  fun a => ⟨((ix2 r y : S256x3072.Idx) a).val, lt_of_lt_of_eq (by fin_cases a; exact r.isLt; exact y.isLt) (cut11 t a).symm⟩

/-- The gradient by the logits, where the call leaves it. -/
theorem final11 (r : Fin 8192) (n : Fin 3) (d : Fin 1024) (y : Fin 12544) (hy : y.val = 3072 + (col n d).val) :
    (dats m 0 c).arrAt 11 cfg0.N (ix2 r y) = dlArr c m n r d := by
  have ht : r.val / 256 < 32 := by omega
  have hr : r.val % 256 < 256 := by omega
  have hf : (cfg0.win 11).flush ⟨r.val / 256, ht⟩ = true := (by decide +kernel : ∀ t : Fin grid0.N, (cfg0.win 11).flush t = true) _
  have := congrFun ((dats m 0 c).read_blk_arrAt_eq_flushed 11 (fun t t' _ _ hne => (cfg0.win 11).disjoint_blk fun h => hne (inj11 t t' h))
    cfg0.N ⟨r.val / 256, ht⟩ ht hf) (blkIdx ⟨r.val / 256, ht⟩ ⟨r.val % 256, hr⟩ (col n d))
  have ef : (dats m 0 c).flushed 11 ⟨r.val / 256, ht⟩ = (cfg0.win 11).cut (grid0.coords ⟨r.val / 256, ht⟩) ((outsAt0 m c (r.val / 256) ht).1) := by
    show (cfg0.win 11).cut (grid0.coords ⟨r.val / 256, ht⟩) ((dats m 0 c).after 11 ⟨r.val / 256, ht⟩) = _
    rw [after0_11]
  rw [ef] at this
  have e : ((cfg0.win 11).blk ⟨r.val / 256, ht⟩).view.emb (blkIdx ⟨r.val / 256, ht⟩ ⟨r.val % 256, hr⟩ (col n d)) = (ix2 r y : S8192x12544.Idx) := by
    funext a; apply Fin.ext
    fin_cases a <;> blk_simp [e11]
    · show r.val / 256 * 256 + r.val % 256 = r.val; omega
    · show 1 * 3072 + (col n d).val = y.val; omega
  have e2 : (dats m 0 c).arrAt 11 cfg0.N (((cfg0.win 11).blk ⟨r.val / 256, ht⟩).view.emb (blkIdx ⟨r.val / 256, ht⟩ ⟨r.val % 256, hr⟩ (col n d)))
      = (outsAt0 m c (r.val / 256) ht).1 (ix2 ⟨r.val % 256, hr⟩ (col n d)) := this
  rw [e] at e2
  refine e2.trans ((out_dl c m n ⟨r.val / 256, ht⟩ ⟨r.val % 256, hr⟩ d).trans ?_)
  refine congrArg (fun q => dlArr c m n q d) (Fin.ext ?_)
  show r.val / 256 % 32 * 256 + r.val % 256 = r.val; omega

/-- The columns of the first output that the program returns. -/
abbrev dlCols : Buf (Elt Ideal) ((c : Thread nD τ).loc main_v1) :=
  extractStridedSlice S8192x3072 ![0, 3072] ((dats m 0 c).arrAt 11 cfg0.N) slices_S8192x12544_S8192x3072_0_3072

theorem dlCols_at (r : Fin 8192) (n : Fin 3) (d : Fin 1024) : dlCols c m (ix2 r (col n d)) = dlArr c m n r d := by
  refine Eq.trans ?_ (final11 c m r n d ⟨3072 + (col n d).val, by omega⟩ rfl)
  refine congrArg ((dats m 0 c).arrAt 11 cfg0.N) ?_
  funext a; apply Fin.ext
  fin_cases a
  · show 0 + r.val = r.val; omega
  · rfl

/-- The program runs, ends with the call's arrays, the first one's columns cut out, and leaves its arguments as they were. -/
theorem run (ρ : Dev nD → PrngReg) : θ_run (defs (F := Ideal)) (onTc (τ := τ) (main (F := Ideal))) ⟨m, fun _ => 0, ρ⟩ (fun r => ∀ c : Dev nD,
    r.2.mem ((c.tc : Thread nD τ).loc main_v1) = dlCols c m
    ∧ r.2.mem ((c.tc : Thread nD τ).loc main_v0_1) = (dats m 0 c).arrAt 12 cfg0.N
    ∧ r.2.mem ((c.tc : Thread nD τ).loc main_v0_2) = (dats m 0 c).arrAt 13 cfg0.N
    ∧ r.2.mem ((c.tc : Thread nD τ).loc main_v0_3) = (dats m 0 c).arrAt 14 cfg0.N
    ∧ r.2.mem ((c.tc : Thread nD τ).loc main_v0_4) = (dats m 0 c).arrAt 15 cfg0.N
    ∧ r.2.mem ((c.tc : Thread nD τ).loc main_v0_5) = (dats m 0 c).arrAt 16 cfg0.N
    ∧ r.2.mem ((c.tc : Thread nD τ).loc main_v0_6) = (dats m 0 c).arrAt 17 cfg0.N
    ∧ r.2.mem ((c.tc : Thread nD τ).loc main_v0_7) = (dats m 0 c).arrAt 18 cfg0.N
    ∧ r.2.mem ((c.tc : Thread nD τ).loc main_v0_8) = (dats m 0 c).arrAt 19 cfg0.N
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)) := by
  refine (θ_run (defs (F := Ideal)) _ _).mono (fun r h => fun c => ?_) (run_main m ρ)
  refine ⟨?_, (h c).1 12, (h c).1 13, (h c).1 14, (h c).1 15, (h c).1 16, (h c).1 17, (h c).1 18, (h c).1 19, ((h c).1 0).trans (((dats m 0 c).arrAt_in 0 rfl _).trans ((A_eq m c 0).trans (V_main_arg0 m c))), ((h c).1 1).trans (((dats m 0 c).arrAt_in 1 rfl _).trans ((A_eq m c 1).trans (V_main_arg1 m c))), ((h c).1 2).trans (((dats m 0 c).arrAt_in 2 rfl _).trans ((A_eq m c 2).trans (V_main_arg2 m c))), ((h c).1 3).trans (((dats m 0 c).arrAt_in 3 rfl _).trans ((A_eq m c 3).trans (V_main_arg3 m c))), ((h c).1 4).trans (((dats m 0 c).arrAt_in 4 rfl _).trans ((A_eq m c 4).trans (V_main_arg4 m c))), ((h c).1 5).trans (((dats m 0 c).arrAt_in 5 rfl _).trans ((A_eq m c 5).trans (V_main_arg5 m c))), ((h c).1 6).trans (((dats m 0 c).arrAt_in 6 rfl _).trans ((A_eq m c 6).trans (V_main_arg6 m c))), ((h c).1 7).trans (((dats m 0 c).arrAt_in 7 rfl _).trans ((A_eq m c 7).trans (V_main_arg7 m c))), ((h c).1 8).trans (((dats m 0 c).arrAt_in 8 rfl _).trans ((A_eq m c 8).trans (V_main_arg8 m c))), ((h c).1 9).trans (((dats m 0 c).arrAt_in 9 rfl _).trans ((A_eq m c 9).trans (V_main_arg9 m c))), ((h c).1 10).trans (((dats m 0 c).arrAt_in 10 rfl _).trans ((A_eq m c 10).trans (V_main_arg10 m c)))⟩
  refine ((h c).2 main_v1 (by decide)).trans ?_
  unfold Pipeline.afterTail₀
  show StableHlo.after hostOps1 _ _ = _
  unfold hostOps1
  rw [StableHlo.after_cons, StableHlo.after_nil, StableHlo.unary_result]
  refine congrArg (fun x : S8192x12544.Idx → EReal => extractStridedSlice S8192x3072 ![0, 3072] x slices_S8192x12544_S8192x3072_0_3072) ?_
  exact Pipeline.withArrays_arr (cfgs 0).spec (by decide) c (V0 m c) (fun w => (dats m 0 c).arrAt w (cfgs 0).N) 11

end Cert.Kernel12Ideal.Prod
end
-- ==== Proof.Prod.MergeFbClaim.lean ====
module

public import proofs.«01_k».proof.Defs
public import proofs.«01_k».proof.Proof.Gen.Kernel12Ideal
public import proofs.«01_k».proof.Proof.Gen.Reference12Ideal
public import proofs.«01_k».proof.Proof.Gen.Reference12Ideal.Run
public import proofs.«01_k».proof.Proof.Gen.Reference12Ideal.Read
public import proofs.«01_k».proof.Proof.Prod.MergeFb
public import Idealize.ShloMosaic.Lib.Quiescent

/-! The merge with its loss and backward pass is the plain merge, its loss and its derivative. -/

@[expose] public section

set_option maxRecDepth 16384
noncomputable section

open Idealize.ShloMosaic Idealize.SL.Sem

namespace Cert.Reference12Ideal.Prod

open Cert.Reference12Ideal Cert.Reference12Ideal.Gen Cert.Reference12Ideal.Read
open Cert.Merge

/-- The reference runs, leaves its arguments as they were and ends quiet. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun r h => ⟨fun c => (h c).2.2.2.2.2.2.2.2.2, sem_eq_zero_of_no_sems rfl r.2⟩) (Cert.Reference12Ideal.Value.run m ρ)

variable (x0 x1 : S8192x1024.Idx → EReal) (x2 : S8192x2048.Idx → EReal) (x3 : S8192x1536.Idx → EReal) (x4 : S8192x1024.Idx → EReal)
  (x5 : S8192x12544.Idx → EReal) (x6 : S2048x1024.Idx → EReal) (x7 : S1536x1024.Idx → EReal) (x8 x9 : S1024x1024.Idx → EReal) (x10 : S1x1024.Idx → EReal)

/-- What row `y` of the merge reads. -/
def row (y : Fin 8192) : Row where
  x d := x0 (ix2 y d)
  t d := x1 (ix2 y d)
  b := ![fun d => ∑ k, x2 (ix2 y k) * x6 (ix2 k d), fun d => ∑ k, x3 (ix2 y k) * x7 (ix2 k d), fun d => ∑ k, x4 (ix2 y k) * x8 (ix2 k d)]
  l n d := x5 (ix2 y ⟨3072 + (col n d).val, by omega⟩)

/-- The output projection and the gain. -/
abbrev woR : Fin 1024 → Fin 1024 → EReal := fun k d => x9 (ix2 k d)
abbrev fgR : Fin 1024 → EReal := fun d => x10 (ix2 0 d)

theorem i7 (y : Fin 8192) (j : Fin 3072) : idx_main_v7 (ix2 y j) = ix2 y ⟨3072 + j.val, by omega⟩ := by
  funext a; fin_cases a <;> rfl

theorem l8 (y : Fin 8192) (d : Fin 1024) (k : Fin 2048) : lidx_main_v8 (ix2 y d) k = ix2 y k := by
  funext a; fin_cases a <;> rfl

theorem r8 (y : Fin 8192) (d : Fin 1024) (k : Fin 2048) : ridx_main_v8 (ix2 y d) k = ix2 k d := by
  funext a; fin_cases a <;> rfl

theorem l9 (y : Fin 8192) (d : Fin 1024) (k : Fin 1536) : lidx_main_v9 (ix2 y d) k = ix2 y k := by
  funext a; fin_cases a <;> rfl

theorem r9 (y : Fin 8192) (d : Fin 1024) (k : Fin 1536) : ridx_main_v9 (ix2 y d) k = ix2 k d := by
  funext a; fin_cases a <;> rfl

theorem l10 (y : Fin 8192) (d : Fin 1024) (k : Fin 1024) : lidx_main_v10 (ix2 y d) k = ix2 y k := by
  funext a; fin_cases a <;> rfl

theorem r10 (y : Fin 8192) (d : Fin 1024) (k : Fin 1024) : ridx_main_v10 (ix2 y d) k = ix2 k d := by
  funext a; fin_cases a <;> rfl

theorem l28 (y : Fin 8192) (d : Fin 1024) (k : Fin 1024) : lidx_main_v28 (ix2 y d) k = ix2 y k := by
  funext a; fin_cases a <;> rfl

theorem r28 (y : Fin 8192) (d : Fin 1024) (k : Fin 1024) : ridx_main_v28 (ix2 y d) k = ix2 k d := by
  funext a; fin_cases a <;> rfl

theorem l82 (y : Fin 8192) (d : Fin 1024) (k : Fin 1024) : lidx_main_v82 (ix2 y d) k = ix2 y k := by
  funext a; fin_cases a <;> rfl

theorem r82 (y : Fin 8192) (d : Fin 1024) (k : Fin 1024) : ridx_main_v82 (ix2 y d) k = ix2 d k := by
  funext a; fin_cases a <;> rfl

theorem i20 (y : Fin 8192) (d : Fin 1024) : idx_main_v20 (ix2 y d) = ix2 y (col 0 d) := by
  funext a; apply Fin.ext; fin_cases a
  · rfl
  · show d.val = 0 * 1024 + d.val; omega

theorem i21 (y : Fin 8192) (d : Fin 1024) : idx_main_v21 (ix2 y d) = ix2 y (col 1 d) := by
  funext a; apply Fin.ext; fin_cases a
  · rfl
  · show 1024 + d.val = 1 * 1024 + d.val; omega

theorem i22 (y : Fin 8192) (d : Fin 1024) : idx_main_v22 (ix2 y d) = ix2 y (col 2 d) := by
  funext a; apply Fin.ext; fin_cases a
  · rfl
  · show 2048 + d.val = 2 * 1024 + d.val; omega

theorem i31 (y : Fin 8192) (j : Fin 1024) : idx_main_v31 (idx_main_v32 (ix2 y (0 : Fin 1))) j = ix2 y j := by
  funext a; fin_cases a <;> rfl

theorem i69 (y : Fin 8192) (j : Fin 1024) : idx_main_v69 (idx_main_v70 (ix2 y (0 : Fin 1))) j = ix2 y j := by
  funext a; apply Fin.ext; fin_cases a
  · show y.val * 1 + 0 = y.val; omega
  · rfl

theorem i41 (y : Fin 8192) (d : Fin 1024) : idx_main_v41 (ix2 y d) = ix2 y (0 : Fin 1) := by
  funext a; fin_cases a <;> rfl

theorem i71 (y : Fin 8192) (d : Fin 1024) : idx_main_v71 (ix2 y d) = ix2 y (0 : Fin 1) := by
  funext a; fin_cases a <;> rfl

theorem i43 (y : Fin 8192) (d : Fin 1024) : idx_main_v43 (ix2 y d) = ix2 (0 : Fin 1) d := by
  funext a; fin_cases a <;> rfl

theorem i66 (y : Fin 8192) (d : Fin 1024) : idx_main_v66 (ix2 y d) = ix2 (0 : Fin 1) d := by
  funext a; fin_cases a <;> rfl

theorem i51 (d : Fin 1024) (y : Fin 8192) : idx_main_v51 (idx_main_v52 (ix2 (0 : Fin 1) d)) y = ix2 y d := by
  funext a; fin_cases a <;> rfl

theorem i64 (d : Fin 1024) (y : Fin 8192) : idx_main_v64 (idx_main_v65 (ix2 (0 : Fin 1) d)) y = ix2 y d := by
  funext a; apply Fin.ext; fin_cases a
  · rfl
  · show 0 * 1024 + d.val = d.val; omega

theorem i76 (y : Fin 8192) (d : Fin 1024) : idx_main_v76 (idx_main_v77 (ix2 y d)) 0 = ix2 y (0 : Fin 1) := by
  funext a; fin_cases a <;> rfl

/-- A gate of the row. -/
theorem v16_at (y : Fin 8192) (j : Fin 3072) : val_main_v16 (F := Ideal) x5 (ix2 y j) = gate (x5 (ix2 y ⟨3072 + j.val, by omega⟩)) := by
  rw [val_main_v16_apply, val_main_v14_apply, val_main_v12_apply, val_main_v11_apply, val_main_v7_apply, i7, val_main_v15_apply, val_main_v13_apply,
    val_main_cst_apply, val_main_cst_0_apply]
  show Ideal.div one (one + Ideal.exp (-x5 _)) = _
  rw [one_eq, EReal.coe_one]; rfl

/-- The gate's slope. -/
theorem v19_at (y : Fin 8192) (j : Fin 3072) : val_main_v19 (F := Ideal) x5 (ix2 y j) = gate (x5 (ix2 y ⟨3072 + j.val, by omega⟩)) * (1 - gate (x5 (ix2 y ⟨3072 + j.val, by omega⟩))) := by
  rw [val_main_v19_apply, val_main_v18_apply, v16_at, val_main_v17_apply, val_main_cst_1_apply]
  show gate _ * (one - gate _) = _
  rw [one_eq, EReal.coe_one]

theorem v20_at (y : Fin 8192) (d : Fin 1024) : val_main_v20 (F := Ideal) x5 (ix2 y d) = gate ((row x0 x1 x2 x3 x4 x5 x6 x7 x8 y).l 0 d) := by
  rw [val_main_v20_apply, i20, v16_at]; rfl

theorem v21_at (y : Fin 8192) (d : Fin 1024) : val_main_v21 (F := Ideal) x5 (ix2 y d) = gate ((row x0 x1 x2 x3 x4 x5 x6 x7 x8 y).l 1 d) := by
  rw [val_main_v21_apply, i21, v16_at]; rfl

theorem v22_at (y : Fin 8192) (d : Fin 1024) : val_main_v22 (F := Ideal) x5 (ix2 y d) = gate ((row x0 x1 x2 x3 x4 x5 x6 x7 x8 y).l 2 d) := by
  rw [val_main_v22_apply, i22, v16_at]; rfl

theorem v8_at (y : Fin 8192) (d : Fin 1024) : val_main_v8 (F := Ideal) x2 x6 (ix2 y d) = (row x0 x1 x2 x3 x4 x5 x6 x7 x8 y).b 0 d := by
  rw [val_main_v8_apply]
  simp only [l8, r8, val_main_v0_apply, val_main_v3_apply]; rfl

theorem v9_at (y : Fin 8192) (d : Fin 1024) : val_main_v9 (F := Ideal) x3 x7 (ix2 y d) = (row x0 x1 x2 x3 x4 x5 x6 x7 x8 y).b 1 d := by
  rw [val_main_v9_apply]
  simp only [l9, r9, val_main_v1_apply, val_main_v4_apply]; rfl

theorem v10_at (y : Fin 8192) (d : Fin 1024) : val_main_v10 (F := Ideal) x4 x8 (ix2 y d) = (row x0 x1 x2 x3 x4 x5 x6 x7 x8 y).b 2 d := by
  rw [val_main_v10_apply]
  simp only [l10, r10, val_main_v2_apply, val_main_v5_apply]; rfl

theorem v27_at (y : Fin 8192) (d : Fin 1024) : val_main_v27 (F := Ideal) x2 x3 x4 x5 x6 x7 x8 (ix2 y d) = (row x0 x1 x2 x3 x4 x5 x6 x7 x8 y).merged d := by
  rw [val_main_v27_apply, val_main_v25_apply, val_main_v23_apply, val_main_v24_apply, val_main_v26_apply,
    v20_at x0 x1 x2 x3 x4 x5 x6 x7 x8, v21_at x0 x1 x2 x3 x4 x5 x6 x7 x8, v22_at x0 x1 x2 x3 x4 x5 x6 x7 x8, v8_at x0 x1 x2 x3 x4 x5 x6 x7 x8, v9_at x0 x1 x2 x3 x4 x5 x6 x7 x8, v10_at x0 x1 x2 x3 x4 x5 x6 x7 x8]; rfl

theorem v29_at (y : Fin 8192) (d : Fin 1024) : val_main_v29 (F := Ideal) x0 x2 x3 x4 x5 x6 x7 x8 x9 (ix2 y d) = (row x0 x1 x2 x3 x4 x5 x6 x7 x8 y).x2 (woR x9) d := by
  rw [val_main_v29_apply, val_main_v28_apply]
  simp only [l28, r28, val_main_v6_apply, v27_at x0 x1 x2 x3 x4 x5 x6 x7 x8]; rfl

theorem v36_at (y : Fin 8192) : val_main_v36 (F := Ideal) x0 x2 x3 x4 x5 x6 x7 x8 x9 (ix2 y (0 : Fin 1)) = Cert.Rms.var ((row x0 x1 x2 x3 x4 x5 x6 x7 x8 y).x2 (woR x9)) := by
  rw [val_main_v36_apply, val_main_v34_apply, val_main_v32_apply, val_main_v31_apply, val_main_v33_apply, val_main_v35_apply,
    val_main_cst_2_apply, val_main_cst_3_apply, val_main_cst_4_apply]
  simp only [val_main_v30_apply, i31, v29_at x0 x1 x2 x3 x4 x5 x6 x7 x8 x9]
  show Ideal.div (Ideal.ofBits .f32 0x00000000#32 + _) _ + _ = _
  rw [Ideal.ofBits_zero, zero_add]
  rfl

theorem v37_at (y : Fin 8192) : val_main_v37 (F := Ideal) x0 x2 x3 x4 x5 x6 x7 x8 x9 (ix2 y (0 : Fin 1)) = Cert.Rms.rinv ((row x0 x1 x2 x3 x4 x5 x6 x7 x8 y).x2 (woR x9)) := by
  rw [val_main_v37_apply, v36_at x0 x1 x2 x3 x4 x5 x6 x7 x8 x9]; rfl

theorem v40_at (y : Fin 8192) : val_main_v40 (F := Ideal) x0 x2 x3 x4 x5 x6 x7 x8 x9 (ix2 y (0 : Fin 1)) = Cert.Rms.expn * Ideal.div (Cert.Rms.rinv ((row x0 x1 x2 x3 x4 x5 x6 x7 x8 y).x2 (woR x9))) (Cert.Rms.var ((row x0 x1 x2 x3 x4 x5 x6 x7 x8 y).x2 (woR x9))) := by
  rw [val_main_v40_apply, val_main_v39_apply, val_main_v38_apply, val_main_cst_5_apply, v36_at x0 x1 x2 x3 x4 x5 x6 x7 x8 x9, v37_at x0 x1 x2 x3 x4 x5 x6 x7 x8 x9]; rfl

theorem v42_at (y : Fin 8192) (d : Fin 1024) : val_main_v42 (F := Ideal) x0 x2 x3 x4 x5 x6 x7 x8 x9 (ix2 y d) = Cert.Rms.hat ((row x0 x1 x2 x3 x4 x5 x6 x7 x8 y).x2 (woR x9)) d := by
  rw [val_main_v42_apply, v29_at x0 x1 x2 x3 x4 x5 x6 x7 x8 x9, val_main_v41_apply, i41, v37_at x0 x1 x2 x3 x4 x5 x6 x7 x8 x9]; rfl

theorem v45_at (y : Fin 8192) (d : Fin 1024) : val_main_v45 (F := Ideal) x0 x1 x2 x3 x4 x5 x6 x7 x8 x9 x10 (ix2 y d) = (row x0 x1 x2 x3 x4 x5 x6 x7 x8 y).err (woR x9) (fgR x10) d := by
  rw [val_main_v45_apply, val_main_v44_apply, v42_at x0 x1 x2 x3 x4 x5 x6 x7 x8 x9, val_main_v43_apply, i43]; rfl

/-- The loss. -/
theorem v54_at (d : Fin 1024) : val_main_v54 (F := Ideal) x0 x1 x2 x3 x4 x5 x6 x7 x8 x9 x10 (ix2 (0 : Fin 1) d) = ∑ y, (row x0 x1 x2 x3 x4 x5 x6 x7 x8 y).err (woR x9) (fgR x10) d * (row x0 x1 x2 x3 x4 x5 x6 x7 x8 y).err (woR x9) (fgR x10) d * halfPart := by
  rw [val_main_v54_apply, val_main_v53_apply, val_main_cst_9_apply, val_main_v52_apply, val_main_v51_apply, val_main_cst_8_apply]
  simp only [i51, val_main_v50_apply, val_main_v46_apply, val_main_v49_apply, val_main_cst_7_apply, v45_at]
  show half * (Ideal.ofBits .f32 0x00000000#32 + _) = _
  rw [Ideal.ofBits_zero, zero_add]
  exact loss_eq (fun y => (row x0 x1 x2 x3 x4 x5 x6 x7 x8 y).err (woR x9) (fgR x10) d * (row x0 x1 x2 x3 x4 x5 x6 x7 x8 y).err (woR x9) (fgR x10) d)

/-- A prediction's share of the cotangent. -/
theorem v61_at (y : Fin 8192) (d : Fin 1024) : val_main_v61 (F := Ideal) (ix2 y d) = Ideal.div (half * one) Cert.Rms.width := by
  rw [val_main_v61_apply, val_main_v59_apply, val_main_v58_apply, val_main_v60_apply, val_main_cst_12_apply, val_main_cst_13_apply]
  simp only [val_main_v57_apply, val_main_v56_apply, val_main_v55_apply, val_main_cst_10_apply, val_main_cst_11_apply]
  show Ideal.div (Ideal.ofBits .f32 0x00000000#32 + ∑ _ : Fin 1, half * one) _ = _
  rw [Ideal.ofBits_zero, zero_add, Fin.sum_univ_one]; rfl

theorem v62_at (y : Fin 8192) (d : Fin 1024) : val_main_v62 (F := Ideal) x0 x1 x2 x3 x4 x5 x6 x7 x8 x9 x10 (ix2 y d) = (row x0 x1 x2 x3 x4 x5 x6 x7 x8 y).dy (woR x9) (fgR x10) d := by
  rw [val_main_v62_apply, v61_at, val_main_v48_apply, val_main_v47_apply, val_main_cst_6_apply, v45_at]
  exact dy_eq _

theorem v65_at (d : Fin 1024) : val_main_v65 (F := Ideal) x0 x1 x2 x3 x4 x5 x6 x7 x8 x9 x10 (ix2 (0 : Fin 1) d) = ∑ y, (row x0 x1 x2 x3 x4 x5 x6 x7 x8 y).dfg (woR x9) (fgR x10) d := by
  rw [val_main_v65_apply, val_main_v64_apply, val_main_cst_14_apply]
  show Ideal.ofBits .f32 0x00000000#32 + _ = _
  rw [Ideal.ofBits_zero, zero_add]
  refine Finset.sum_congr rfl fun y _ => ?_
  rw [val_main_v63_apply, i64, v42_at x0 x1 x2 x3 x4 x5 x6 x7 x8 x9, v62_at]
  exact mul_comm _ _

theorem v67_at (y : Fin 8192) (d : Fin 1024) : val_main_v67 (F := Ideal) x0 x1 x2 x3 x4 x5 x6 x7 x8 x9 x10 (ix2 y d) = (row x0 x1 x2 x3 x4 x5 x6 x7 x8 y).dy (woR x9) (fgR x10) d * (fgR x10) d := by
  rw [val_main_v67_apply, v62_at, val_main_v66_apply, i66]; rfl

theorem v75_at (y : Fin 8192) : val_main_v75 (F := Ideal) x0 x1 x2 x3 x4 x5 x6 x7 x8 x9 x10 (ix2 y (0 : Fin 1)) = Cert.Rms.gradSq ((row x0 x1 x2 x3 x4 x5 x6 x7 x8 y).x2 (woR x9)) (fun j => (row x0 x1 x2 x3 x4 x5 x6 x7 x8 y).dy (woR x9) (fgR x10) j * (fgR x10) j) := by
  rw [val_main_v75_apply, val_main_v73_apply, val_main_v70_apply, val_main_v69_apply, v40_at x0 x1 x2 x3 x4 x5 x6 x7 x8 x9, val_main_v74_apply, val_main_cst_15_apply, val_main_cst_16_apply]
  simp only [i69, val_main_v68_apply, v29_at x0 x1 x2 x3 x4 x5 x6 x7 x8 x9, v67_at]
  show Ideal.div ((Ideal.ofBits .f32 0x00000000#32 + _) * _) _ = _
  rw [Ideal.ofBits_zero, zero_add]; rfl

theorem v77_at (y : Fin 8192) (d : Fin 1024) : val_main_v77 (F := Ideal) x0 x1 x2 x3 x4 x5 x6 x7 x8 x9 x10 (ix2 y d) = Cert.Rms.gradSq ((row x0 x1 x2 x3 x4 x5 x6 x7 x8 y).x2 (woR x9)) (fun j => (row x0 x1 x2 x3 x4 x5 x6 x7 x8 y).dy (woR x9) (fgR x10) j * (fgR x10) j) := by
  rw [val_main_v77_apply, val_main_v76_apply, val_main_cst_17_apply]
  show Ideal.ofBits .f32 0x00000000#32 + _ = _
  rw [Ideal.ofBits_zero, zero_add, Fin.sum_univ_one, i76, v75_at]

/-- The gradient by the residual stream. -/
theorem v81_at (y : Fin 8192) (d : Fin 1024) : val_main_v81 (F := Ideal) x0 x1 x2 x3 x4 x5 x6 x7 x8 x9 x10 (ix2 y d) = (row x0 x1 x2 x3 x4 x5 x6 x7 x8 y).dx2 (woR x9) (fgR x10) d := by
  rw [val_main_v81_apply, val_main_v79_apply, val_main_v72_apply, val_main_v78_apply, val_main_v80_apply, v77_at, v67_at, v29_at x0 x1 x2 x3 x4 x5 x6 x7 x8 x9,
    val_main_v71_apply, i71, v37_at x0 x1 x2 x3 x4 x5 x6 x7 x8 x9, Row.dx2, Cert.Rms.grad_eq, Cert.Rms.gradLines]
  exact add_assoc _ _ _

theorem v82_at (y : Fin 8192) (d : Fin 1024) : val_main_v82 (F := Ideal) x0 x1 x2 x3 x4 x5 x6 x7 x8 x9 x10 (ix2 y d) = (row x0 x1 x2 x3 x4 x5 x6 x7 x8 y).dmg (woR x9) (fgR x10) d := by
  rw [val_main_v82_apply]
  simp only [l82, r82, val_main_v6_apply, v81_at]; rfl

theorem v87_at (y : Fin 8192) (d : Fin 1024) : val_main_v87 (F := Ideal) x0 x1 x2 x3 x4 x5 x6 x7 x8 x9 x10 (ix2 y d) = (row x0 x1 x2 x3 x4 x5 x6 x7 x8 y).db (woR x9) (fgR x10) 0 d := by
  rw [val_main_v87_apply, v82_at, v20_at x0 x1 x2 x3 x4 x5 x6 x7 x8]
  exact mul_comm _ _

theorem v85_at (y : Fin 8192) (d : Fin 1024) : val_main_v85 (F := Ideal) x0 x1 x2 x3 x4 x5 x6 x7 x8 x9 x10 (ix2 y d) = (row x0 x1 x2 x3 x4 x5 x6 x7 x8 y).db (woR x9) (fgR x10) 1 d := by
  rw [val_main_v85_apply, v82_at, v21_at x0 x1 x2 x3 x4 x5 x6 x7 x8]
  exact mul_comm _ _

theorem v83_at (y : Fin 8192) (d : Fin 1024) : val_main_v83 (F := Ideal) x0 x1 x2 x3 x4 x5 x6 x7 x8 x9 x10 (ix2 y d) = (row x0 x1 x2 x3 x4 x5 x6 x7 x8 y).db (woR x9) (fgR x10) 2 d := by
  rw [val_main_v83_apply, v82_at, v22_at x0 x1 x2 x3 x4 x5 x6 x7 x8]
  exact mul_comm _ _

theorem v88_at (y : Fin 8192) (d : Fin 1024) : val_main_v88 (F := Ideal) x0 x1 x2 x3 x4 x5 x6 x7 x8 x9 x10 (ix2 y d) = (row x0 x1 x2 x3 x4 x5 x6 x7 x8 y).dmg (woR x9) (fgR x10) d * (row x0 x1 x2 x3 x4 x5 x6 x7 x8 y).b 0 d := by
  rw [val_main_v88_apply, v82_at, v8_at x0 x1 x2 x3 x4 x5 x6 x7 x8]; rfl

theorem v86_at (y : Fin 8192) (d : Fin 1024) : val_main_v86 (F := Ideal) x0 x1 x2 x3 x4 x5 x6 x7 x8 x9 x10 (ix2 y d) = (row x0 x1 x2 x3 x4 x5 x6 x7 x8 y).dmg (woR x9) (fgR x10) d * (row x0 x1 x2 x3 x4 x5 x6 x7 x8 y).b 1 d := by
  rw [val_main_v86_apply, v82_at, v9_at x0 x1 x2 x3 x4 x5 x6 x7 x8]; rfl

theorem v84_at (y : Fin 8192) (d : Fin 1024) : val_main_v84 (F := Ideal) x0 x1 x2 x3 x4 x5 x6 x7 x8 x9 x10 (ix2 y d) = (row x0 x1 x2 x3 x4 x5 x6 x7 x8 y).dmg (woR x9) (fgR x10) d * (row x0 x1 x2 x3 x4 x5 x6 x7 x8 y).b 2 d := by
  rw [val_main_v84_apply, v82_at, v10_at x0 x1 x2 x3 x4 x5 x6 x7 x8]; rfl

/-- The three branches' parts, side by side. -/
theorem v89_at (y : Fin 8192) (n : Fin 3) (d : Fin 1024) : val_main_v89 (F := Ideal) x0 x1 x2 x3 x4 x5 x6 x7 x8 x9 x10 (ix2 y (col n d)) = (row x0 x1 x2 x3 x4 x5 x6 x7 x8 y).dmg (woR x9) (fgR x10) d * (row x0 x1 x2 x3 x4 x5 x6 x7 x8 y).b n d := by
  unfold val_main_v89
  have off (k : Fin 3) : ∀ b : Fin S8192x1024.rank, b.cast (rfl : S8192x1024.rank = S8192x3072.rank) ≠ 1 →
      ((ix2 y d : S8192x1024.Idx) b).val = ((ix2 y (col k d) : S8192x3072.Idx) (b.cast rfl)).val := by
    intro b hb
    fin_cases b
    · rfl
    · exact absurd rfl hb
  fin_cases n
  · refine (concatenate_apply_piece 1 _ _ (ix2 y (col 0 d)) 0 ?_ S8192x1024 _ rfl rfl 0 rfl (ix2 y d) (off 0) ?_).trans (v88_at x0 x1 x2 x3 x4 x5 x6 x7 x8 x9 x10 y d)
    · show 0 < 3; decide
    · show 0 + d.val = 0 * 1024 + d.val; omega
  · refine (concatenate_apply_piece 1 _ _ (ix2 y (col 1 d)) 1 ?_ S8192x1024 _ rfl rfl 1024 rfl (ix2 y d) (off 1) ?_).trans (v86_at x0 x1 x2 x3 x4 x5 x6 x7 x8 x9 x10 y d)
    · show 1 < 3; decide
    · show 1024 + d.val = 1 * 1024 + d.val; omega
  · refine (concatenate_apply_piece 1 _ _ (ix2 y (col 2 d)) 2 ?_ S8192x1024 _ rfl rfl 2048 rfl (ix2 y d) (off 2) ?_).trans (v84_at x0 x1 x2 x3 x4 x5 x6 x7 x8 x9 x10 y d)
    · show 2 < 3; decide
    · show 2048 + d.val = 2 * 1024 + d.val; omega

/-- The gradient by a logit. -/
theorem v91_at (y : Fin 8192) (n : Fin 3) (d : Fin 1024) : val_main_v91 (F := Ideal) x0 x1 x2 x3 x4 x5 x6 x7 x8 x9 x10 (ix2 y (col n d)) = (row x0 x1 x2 x3 x4 x5 x6 x7 x8 y).dl (woR x9) (fgR x10) n d := by
  rw [val_main_v91_apply, val_main_v90_apply, v89_at, v19_at]
  exact (mul_assoc _ _ _).symm

end Cert.Reference12Ideal.Prod

namespace Cert.Prod

/-- A column of three parts is one part's. -/
theorem col_cases (j : Fin 3072) : ∃ n d, j = Cert.Merge.col n d :=
  ⟨⟨j.val / 1024, by omega⟩, ⟨j.val % 1024, by omega⟩, Fin.ext (by show j.val = j.val / 1024 * 1024 + j.val % 1024; omega)⟩

namespace MergeFb

open Cert.Kernel12Ideal.Prod Cert.Reference12Ideal.Read

variable (c : Dev Cert.Kernel12Ideal.nD) (m : (ℓ : Loc Cert.Kernel12Ideal.nD Cert.Kernel12Ideal.τ Cert.Kernel12Ideal.sig) → Buf (Elt Ideal) ℓ)

theorem res91 : val_main_v91 (F := Ideal) (X c m) (T c m) (YS c m) (YL c m) (YM c m) (PJ c m) (WS c m) (WL c m) (WM c m) (WO c m) (FG c m) = dlCols c m := by
  funext i
  obtain ⟨y, j, rfl⟩ : ∃ y j, i = ix2 y j := ⟨i 0, i 1, eq_ix2 i⟩
  obtain ⟨n, d, rfl⟩ := col_cases j
  exact (Cert.Reference12Ideal.Prod.v91_at _ _ _ _ _ _ _ _ _ _ _ y n d).trans (dlCols_at c m y n d).symm

theorem res81 : val_main_v81 (F := Ideal) (X c m) (T c m) (YS c m) (YL c m) (YM c m) (PJ c m) (WS c m) (WL c m) (WM c m) (WO c m) (FG c m) = (Cert.Kernel12Ideal.Gen.dats m 0 c).arrAt 12 Cert.Kernel12Ideal.cfg0.N := by
  refine Eq.trans ?_ (final12 c m).symm
  funext i
  obtain ⟨y, d, rfl⟩ : ∃ y d, i = ix2 y d := ⟨i 0, i 1, eq_ix2 i⟩
  exact Cert.Reference12Ideal.Prod.v81_at _ _ _ _ _ _ _ _ _ _ _ y d

theorem res92 : val_main_v92 (F := Ideal) (X c m) (T c m) (YS c m) (YL c m) (YM c m) (PJ c m) (WS c m) (WL c m) (WM c m) (WO c m) (FG c m) = (Cert.Kernel12Ideal.Gen.dats m 0 c).arrAt 13 Cert.Kernel12Ideal.cfg0.N := by
  refine Eq.trans ?_ (final13 c m).symm
  funext i
  obtain ⟨y, d, rfl⟩ : ∃ y d, i = ix2 y d := ⟨i 0, i 1, eq_ix2 i⟩
  exact Cert.Reference12Ideal.Prod.v81_at _ _ _ _ _ _ _ _ _ _ _ y d

theorem res93 : val_main_v93 (F := Ideal) (YS c m) (YL c m) (YM c m) (PJ c m) (WS c m) (WL c m) (WM c m) = (Cert.Kernel12Ideal.Gen.dats m 0 c).arrAt 14 Cert.Kernel12Ideal.cfg0.N := by
  refine Eq.trans ?_ (final14 c m).symm
  funext i
  obtain ⟨y, d, rfl⟩ : ∃ y d, i = ix2 y d := ⟨i 0, i 1, eq_ix2 i⟩
  exact Cert.Reference12Ideal.Prod.v27_at (X c m) (T c m) _ _ _ _ _ _ _ y d

theorem res94 : val_main_v94 (F := Ideal) (X c m) (T c m) (YS c m) (YL c m) (YM c m) (PJ c m) (WS c m) (WL c m) (WM c m) (WO c m) (FG c m) = (Cert.Kernel12Ideal.Gen.dats m 0 c).arrAt 15 Cert.Kernel12Ideal.cfg0.N := by
  refine Eq.trans ?_ (final15 c m).symm
  funext i
  obtain ⟨y, d, rfl⟩ : ∃ y d, i = ix2 y d := ⟨i 0, i 1, eq_ix2 i⟩
  exact Cert.Reference12Ideal.Prod.v87_at _ _ _ _ _ _ _ _ _ _ _ y d

theorem res95 : val_main_v95 (F := Ideal) (X c m) (T c m) (YS c m) (YL c m) (YM c m) (PJ c m) (WS c m) (WL c m) (WM c m) (WO c m) (FG c m) = (Cert.Kernel12Ideal.Gen.dats m 0 c).arrAt 16 Cert.Kernel12Ideal.cfg0.N := by
  refine Eq.trans ?_ (final16 c m).symm
  funext i
  obtain ⟨y, d, rfl⟩ : ∃ y d, i = ix2 y d := ⟨i 0, i 1, eq_ix2 i⟩
  exact Cert.Reference12Ideal.Prod.v85_at _ _ _ _ _ _ _ _ _ _ _ y d

theorem res96 : val_main_v96 (F := Ideal) (X c m) (T c m) (YS c m) (YL c m) (YM c m) (PJ c m) (WS c m) (WL c m) (WM c m) (WO c m) (FG c m) = (Cert.Kernel12Ideal.Gen.dats m 0 c).arrAt 17 Cert.Kernel12Ideal.cfg0.N := by
  refine Eq.trans ?_ (final17 c m).symm
  funext i
  obtain ⟨y, d, rfl⟩ : ∃ y d, i = ix2 y d := ⟨i 0, i 1, eq_ix2 i⟩
  exact Cert.Reference12Ideal.Prod.v83_at _ _ _ _ _ _ _ _ _ _ _ y d

theorem res54 : val_main_v54 (F := Ideal) (X c m) (T c m) (YS c m) (YL c m) (YM c m) (PJ c m) (WS c m) (WL c m) (WM c m) (WO c m) (FG c m) = (Cert.Kernel12Ideal.Gen.dats m 0 c).arrAt 18 Cert.Kernel12Ideal.cfg0.N := by
  refine Eq.trans ?_ (final18 c m).symm
  funext i
  obtain ⟨y, d, rfl⟩ : ∃ y d, i = ix2 y d := ⟨i 0, i 1, eq_ix2 i⟩
  obtain rfl : y = 0 := Subsingleton.elim _ _
  exact Cert.Reference12Ideal.Prod.v54_at _ _ _ _ _ _ _ _ _ _ _ d

theorem res65 : val_main_v65 (F := Ideal) (X c m) (T c m) (YS c m) (YL c m) (YM c m) (PJ c m) (WS c m) (WL c m) (WM c m) (WO c m) (FG c m) = (Cert.Kernel12Ideal.Gen.dats m 0 c).arrAt 19 Cert.Kernel12Ideal.cfg0.N := by
  refine Eq.trans ?_ (final19 c m).symm
  funext i
  obtain ⟨y, d, rfl⟩ : ∃ y d, i = ix2 y d := ⟨i 0, i 1, eq_ix2 i⟩
  obtain rfl : y = 0 := Subsingleton.elim _ _
  exact Cert.Reference12Ideal.Prod.v65_at _ _ _ _ _ _ _ _ _ _ _ d

end MergeFb

/-- A function of equal arguments. -/
theorem congr7 {A0 A1 A2 A3 A4 A5 A6 B : Type} (f : A0 → A1 → A2 → A3 → A4 → A5 → A6 → B) {p0 q0 : A0} {p1 q1 : A1} {p2 q2 : A2} {p3 q3 : A3} {p4 q4 : A4} {p5 q5 : A5} {p6 q6 : A6}
    (e0 : p0 = q0) (e1 : p1 = q1) (e2 : p2 = q2) (e3 : p3 = q3) (e4 : p4 = q4) (e5 : p5 = q5) (e6 : p6 = q6) : f p0 p1 p2 p3 p4 p5 p6 = f q0 q1 q2 q3 q4 q5 q6 := by
  subst e0 e1 e2 e3 e4 e5 e6; rfl

/-- A function of equal arguments. -/
theorem congr11 {A0 A1 A2 A3 A4 A5 A6 A7 A8 A9 A10 B : Type} (f : A0 → A1 → A2 → A3 → A4 → A5 → A6 → A7 → A8 → A9 → A10 → B) {p0 q0 : A0} {p1 q1 : A1} {p2 q2 : A2} {p3 q3 : A3} {p4 q4 : A4} {p5 q5 : A5} {p6 q6 : A6} {p7 q7 : A7} {p8 q8 : A8} {p9 q9 : A9} {p10 q10 : A10}
    (e0 : p0 = q0) (e1 : p1 = q1) (e2 : p2 = q2) (e3 : p3 = q3) (e4 : p4 = q4) (e5 : p5 = q5) (e6 : p6 = q6) (e7 : p7 = q7) (e8 : p8 = q8) (e9 : p9 = q9) (e10 : p10 = q10) : f p0 p1 p2 p3 p4 p5 p6 p7 p8 p9 p10 = f q0 q1 q2 q3 q4 q5 q6 q7 q8 q9 q10 := by
  subst e0 e1 e2 e3 e4 e5 e6 e7 e8 e9 e10; rfl

set_option maxHeartbeats 2000000 in
theorem algebraic12 : algebraic_Kernel12Ideal_Reference12Ideal (hKernel12Ideal := Cert.Kernel12Ideal.Gen.facts)
    (hReference12Ideal := Cert.Reference12Ideal.Gen.facts) := by
  intro m g m' g' hp hargs
  refine ⟨(fun c => Cert.Kernel12Ideal.Prod.dlCols c m), (fun c => (Cert.Kernel12Ideal.Gen.dats m 0 c).arrAt 12 Cert.Kernel12Ideal.cfg0.N), (fun c => (Cert.Kernel12Ideal.Gen.dats m 0 c).arrAt 13 Cert.Kernel12Ideal.cfg0.N), (fun c => (Cert.Kernel12Ideal.Gen.dats m 0 c).arrAt 14 Cert.Kernel12Ideal.cfg0.N), (fun c => (Cert.Kernel12Ideal.Gen.dats m 0 c).arrAt 15 Cert.Kernel12Ideal.cfg0.N), (fun c => (Cert.Kernel12Ideal.Gen.dats m 0 c).arrAt 16 Cert.Kernel12Ideal.cfg0.N), (fun c => (Cert.Kernel12Ideal.Gen.dats m 0 c).arrAt 17 Cert.Kernel12Ideal.cfg0.N), (fun c => (Cert.Kernel12Ideal.Gen.dats m 0 c).arrAt 18 Cert.Kernel12Ideal.cfg0.N), (fun c => (Cert.Kernel12Ideal.Gen.dats m 0 c).arrAt 19 Cert.Kernel12Ideal.cfg0.N),
    Cert.Kernel12Ideal.Prod.run m g, ?_⟩
  refine (θ_run Cert.Reference12Ideal.defs _ _).mono (fun r h c => ?_) (Cert.Reference12Ideal.Value.run m' g')
  obtain ⟨h0, h1, h2, h3, h4, h5, h6, h7, h8, h9⟩ := h c
  obtain ⟨a0, a1, a2, a3, a4, a5, a6, a7, a8, a9, a10⟩ := hargs c
  refine ⟨h0.trans ?_, h1.trans ?_, h2.trans ?_, h3.trans ?_, h4.trans ?_, h5.trans ?_, h6.trans ?_, h7.trans ?_, h8.trans ?_, h9⟩
  · exact ((Cert.Reference12Ideal.Read.val_main_v91_eq (StableHlo.launchContents m' c)).trans ((congr11 (Cert.Reference12Ideal.Read.val_main_v91 (F := Ideal)) a0 a1 a2 a3 a4 a5 a6 a7 a8 a9 a10).trans (MergeFb.res91 c m)))
  · exact ((Cert.Reference12Ideal.Read.val_main_v81_eq (StableHlo.launchContents m' c)).trans ((congr11 (Cert.Reference12Ideal.Read.val_main_v81 (F := Ideal)) a0 a1 a2 a3 a4 a5 a6 a7 a8 a9 a10).trans (MergeFb.res81 c m)))
  · exact ((Cert.Reference12Ideal.Read.val_main_v92_eq (StableHlo.launchContents m' c)).trans ((congr11 (Cert.Reference12Ideal.Read.val_main_v92 (F := Ideal)) a0 a1 a2 a3 a4 a5 a6 a7 a8 a9 a10).trans (MergeFb.res92 c m)))
  · exact ((Cert.Reference12Ideal.Read.val_main_v93_eq (StableHlo.launchContents m' c)).trans ((congr7 (Cert.Reference12Ideal.Read.val_main_v93 (F := Ideal)) a2 a3 a4 a5 a6 a7 a8).trans (MergeFb.res93 c m)))
  · exact ((Cert.Reference12Ideal.Read.val_main_v94_eq (StableHlo.launchContents m' c)).trans ((congr11 (Cert.Reference12Ideal.Read.val_main_v94 (F := Ideal)) a0 a1 a2 a3 a4 a5 a6 a7 a8 a9 a10).trans (MergeFb.res94 c m)))
  · exact ((Cert.Reference12Ideal.Read.val_main_v95_eq (StableHlo.launchContents m' c)).trans ((congr11 (Cert.Reference12Ideal.Read.val_main_v95 (F := Ideal)) a0 a1 a2 a3 a4 a5 a6 a7 a8 a9 a10).trans (MergeFb.res95 c m)))
  · exact ((Cert.Reference12Ideal.Read.val_main_v96_eq (StableHlo.launchContents m' c)).trans ((congr11 (Cert.Reference12Ideal.Read.val_main_v96 (F := Ideal)) a0 a1 a2 a3 a4 a5 a6 a7 a8 a9 a10).trans (MergeFb.res96 c m)))
  · exact ((Cert.Reference12Ideal.Read.val_main_v54_eq (StableHlo.launchContents m' c)).trans ((congr11 (Cert.Reference12Ideal.Read.val_main_v54 (F := Ideal)) a0 a1 a2 a3 a4 a5 a6 a7 a8 a9 a10).trans (MergeFb.res54 c m)))
  · exact ((Cert.Reference12Ideal.Read.val_main_v65_eq (StableHlo.launchContents m' c)).trans ((congr11 (Cert.Reference12Ideal.Read.val_main_v65 (F := Ideal)) a0 a1 a2 a3 a4 a5 a6 a7 a8 a9 a10).trans (MergeFb.res65 c m)))

end Cert.Prod
end
-- ==== Proof.Prod.MemKvClaim.lean ====
module

public import proofs.«01_k».proof.Defs
public import proofs.«01_k».proof.Proof.Gen.Kernel13Ideal
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Prod.Rms
public import Idealize.ShloMosaic.Lib.Pointwise
public import Idealize.ShloMosaic.Lib.Pipeline.ValueKit
public import Idealize.ShloMosaic.Lib.Quiescent

/-! The backward pass of the memory keys and values is the derivative of the plain norm and product. -/

@[expose] public section

set_option maxRecDepth 16384
noncomputable section

namespace Cert.Kernel13Ideal.Prod

open Cert.Kernel13Ideal Cert.Kernel13Ideal.Gen Idealize.ShloMosaic Idealize.ShloMosaic.TcCoe Idealize.SL.Sem Idealize.ShloMosaic.Tactic
open Cert.Rms (rinv hat)

section
variable (x : Vec Ideal S256x1024 .f32) (mn : Vec Ideal S256x1024 .bf16) (w : Vec Ideal S1024x2048 .bf16) (dk dv : Vec Ideal S256x1024 .f32)

/-- The gradients of the keys and the values side by side. -/
def dkv : S256x2048.Idx → EReal := Cert.Reference13Ideal.Read.val_main_v16 (F := Ideal) dk dv
/-- The gradient by the weights. -/
def dwAt : S1024x2048.Idx → EReal := fun i => ∑ r : Fin 256, mn (ix2 r (i 0)) * dkv dk dv (ix2 r (i 1))
/-- The gradient by the normed, scaled memory. -/
def dmnAt (r : Fin 256) (d : Fin 1024) : EReal := ∑ y : Fin 2048, dkv dk dv (ix2 r y) * w (ix2 d y)
/-- The gradient by the gain. -/
def dgAt : S1x1024.Idx → EReal := fun i => ∑ r : Fin 256, dmnAt w dk dv r (i 1) * x (ix2 r (i 1)) * rinv (fun j => x (ix2 r j))

theorem pay1_eq : k0_pay1 dk dv = dkv dk dv := rfl

theorem pay2_eq : k0_pay2 dk dv mn = dwAt mn dk dv := by
  funext i
  obtain ⟨e, y, rfl⟩ : ∃ e y, i = (ix2 e y : S1024x2048.Idx) := ⟨i 0, i 1, eq_ix2 i⟩
  unfold k0_pay2
  rw [pay1_eq]
  unfold dwAt
  generalize dkv dk dv = z
  pointwise

theorem pay3_eq : k0_pay3 dk dv w x = dgAt x w dk dv := by
  funext i
  obtain ⟨e, y, rfl⟩ : ∃ e y, i = (ix2 e y : S1x1024.Idx) := ⟨i 0, i 1, eq_ix2 i⟩
  obtain rfl : e = 0 := Subsingleton.elim _ _
  unfold k0_pay3
  rw [pay1_eq]
  unfold dgAt dmnAt
  generalize dkv dk dv = z
  pointwise; rfl
end

variable (c : Dev nD) (m : (ℓ : Loc nD τ sig) → Buf (Elt Ideal) ℓ)

/-- The normed memory the host computes before the call. -/
def MN : S256x1024.Idx → EReal :=
  Cert.Reference13Ideal.Read.val_main_v12 (F := Ideal) (m ((c : Thread nD τ).loc main_arg0)) (m ((c : Thread nD τ).loc main_arg1))

theorem V_mn : V m c main_v12 = MN c m := by
  unfold V
  after_results <;> rfl

theorem e0 : ∀ t : Fin cfg0.N, win0_0.index t = ![0, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![0, 0] := (by decide +kernel : ∀ t : Fin grid0.N, _)
theorem e6 : ∀ t : Fin cfg0.N, win0_6.index t = ![0, 0] := (by decide +kernel : ∀ t : Fin grid0.N, _)
theorem e7 : ∀ t : Fin cfg0.N, win0_7.index t = ![0, 0] := (by decide +kernel : ∀ t : Fin grid0.N, _)

theorem blk0_eq (t : Fin cfg0.N) : iblk m c 0 t = (m ((c : Thread nD τ).loc main_arg0) : Vec Ideal S256x1024 .f32) := by
  funext i
  blk_simp [iblk, V_main_arg0]
  congr 1
  funext a; apply Fin.ext
  fin_cases a <;> blk_simp [e0] <;> omega

theorem blk2_eq (t : Fin cfg0.N) : iblk m c 2 t = (MN c m : Vec Ideal S256x1024 .bf16) := by
  funext i
  blk_simp [iblk]
  refine Eq.trans ?_ (congrFun (V_mn c m) i)
  refine congrArg (V m c main_v12) (funext fun a => Fin.ext ?_)
  fin_cases a <;> blk_simp [e2] <;> omega

theorem blk3_eq (t : Fin cfg0.N) : iblk m c 3 t = (m ((c : Thread nD τ).loc main_arg2) : Vec Ideal S1024x2048 .bf16) := by
  funext i
  blk_simp [iblk, V_main_arg2]
  congr 1
  funext a; apply Fin.ext
  fin_cases a <;> blk_simp [e3] <;> omega

theorem blk4_eq (t : Fin cfg0.N) : iblk m c 4 t = (m ((c : Thread nD τ).loc main_arg3) : Vec Ideal S256x1024 .f32) := by
  funext i
  blk_simp [iblk, V_main_arg3]
  congr 1
  funext a; apply Fin.ext
  fin_cases a <;> blk_simp [e4] <;> omega

theorem blk5_eq (t : Fin cfg0.N) : iblk m c 5 t = (m ((c : Thread nD τ).loc main_arg4) : Vec Ideal S256x1024 .f32) := by
  funext i
  blk_simp [iblk, V_main_arg4]
  congr 1
  funext a; apply Fin.ext
  fin_cases a <;> blk_simp [e5] <;> omega

abbrev X : S256x1024.Idx → EReal := m ((c : Thread nD τ).loc main_arg0)
abbrev W : S1024x2048.Idx → EReal := m ((c : Thread nD τ).loc main_arg2)
abbrev DK : S256x1024.Idx → EReal := m ((c : Thread nD τ).loc main_arg3)
abbrev DV : S256x1024.Idx → EReal := m ((c : Thread nD τ).loc main_arg4)

theorem out6 (t : Fin cfg0.N) : out0_6 (iblk m c 0 t) (iblk m c 1 t) (iblk m c 2 t) (iblk m c 3 t) (iblk m c 4 t) (iblk m c 5 t)
    = dwAt (MN c m) (DK c m) (DV c m) := by
  unfold out0_6
  frame_out
  rw [pay2_eq, blk2_eq, blk4_eq, blk5_eq]

theorem out7 (t : Fin cfg0.N) : out0_7 (iblk m c 0 t) (iblk m c 1 t) (iblk m c 2 t) (iblk m c 3 t) (iblk m c 4 t) (iblk m c 5 t)
    = dgAt (X c m) (W c m) (DK c m) (DV c m) := by
  unfold out0_7
  frame_out
  rw [pay3_eq, blk0_eq, blk3_eq, blk4_eq, blk5_eq]

theorem final6 : (dats m 0 c).arrAt 6 cfg0.N = dwAt (MN c m) (DK c m) (DV c m) := by
  refine (dats m 0 c).arrAt_eq_of_covers 6 _ (by decide +kernel) fun t hf y => ?_
  obtain ⟨r, d, rfl⟩ : ∃ r d, y = (ix2 r d : S1024x2048.Idx) := ⟨y 0, y 1, eq_ix2 y⟩
  have h := congrFun (out6 c m t) (ix2 r d)
  blk_simp
  rw [after0_6]
  refine h.trans (congrArg _ (funext fun a => Fin.ext ?_))
  fin_cases a <;> blk_simp [e6] <;> omega

theorem final7 : (dats m 0 c).arrAt 7 cfg0.N = dgAt (X c m) (W c m) (DK c m) (DV c m) := by
  refine (dats m 0 c).arrAt_eq_of_covers 7 _ (by decide +kernel) fun t hf y => ?_
  obtain ⟨r, d, rfl⟩ : ∃ r d, y = (ix2 r d : S1x1024.Idx) := ⟨y 0, y 1, eq_ix2 y⟩
  have h := congrFun (out7 c m t) (ix2 r d)
  blk_simp
  rw [after0_7]
  refine h.trans (congrArg _ (funext fun a => Fin.ext ?_))
  fin_cases a <;> blk_simp [e7] <;> omega

end Cert.Kernel13Ideal.Prod

open Idealize.ShloMosaic Idealize.SL.Sem

namespace Cert.Reference13Ideal.Prod

open Cert.Reference13Ideal Cert.Reference13Ideal.Gen Cert.Reference13Ideal.Read
open Cert.Rms

/-- The reference runs, leaves its arguments as they were and ends quiet. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => (h c).2.2, sem_eq_zero_of_no_sems rfl r.2⟩) (Cert.Reference13Ideal.Value.run m ρ)

variable (x : S256x1024.Idx → EReal) (g : S1x1024.Idx → EReal) (w : S1024x2048.Idx → EReal) (dk dv : S256x1024.Idx → EReal)

theorem i2 (y : Fin 256) (j : Fin 1024) : idx_main_v2 (idx_main_v3 (ix2 y (0 : Fin 1))) j = ix2 y j := by
  funext a; fin_cases a <;> rfl

theorem i9 (y : Fin 256) (d : Fin 1024) : idx_main_v9 (ix2 y d) = ix2 y (0 : Fin 1) := by
  funext a; fin_cases a <;> rfl

theorem i11 (y : Fin 256) (d : Fin 1024) : idx_main_v11 (ix2 y d) = ix2 (0 : Fin 1) d := by
  funext a; fin_cases a <;> rfl

theorem v7_at (y : Fin 256) : val_main_v7 (F := Ideal) x (ix2 y (0 : Fin 1)) = var (fun j => x (ix2 y j)) := by
  rw [val_main_v7_apply, val_main_v5_apply, val_main_v3_apply, val_main_v2_apply, val_main_v4_apply, val_main_v6_apply,
    val_main_cst_0_apply, val_main_cst_1_apply, val_main_cst_apply]
  simp only [val_main_v1_apply]
  show Ideal.div (Ideal.ofBits .f32 0x00000000#32 + ∑ k : Fin 1024, x _ * x _) width + eps = _
  rw [Ideal.ofBits_zero, zero_add]
  simp only [i2]
  rfl

theorem v8_at (y : Fin 256) : val_main_v8 (F := Ideal) x (ix2 y (0 : Fin 1)) = rinv (fun j => x (ix2 y j)) := by
  rw [val_main_v8_apply, v7_at]; rfl

theorem v10_at (y : Fin 256) (d : Fin 1024) : val_main_v10 (F := Ideal) x (ix2 y d) = hat (fun j => x (ix2 y j)) d := by
  rw [val_main_v10_apply, val_main_v9_apply, i9, v8_at]; rfl

theorem v12_at (y : Fin 256) (d : Fin 1024) : val_main_v12 (F := Ideal) x g (ix2 y d) = hat (fun j => x (ix2 y j)) d * g (ix2 (0 : Fin 1) d) := by
  rw [val_main_v12_apply, v10_at, val_main_v11_apply, i11]; rfl

theorem v23_eq : val_main_v23 (F := Ideal) x g dk dv = Cert.Kernel13Ideal.Prod.dwAt (val_main_v12 (F := Ideal) x g) dk dv := by
  funext i
  obtain ⟨e, y, rfl⟩ : ∃ e y, i = (ix2 e y : S1024x2048.Idx) := ⟨i 0, i 1, eq_ix2 i⟩
  have e18 : idx_main_v18 (ix2 e y) = ix2 y e := by funext a; fin_cases a <;> rfl
  rw [val_main_v23_apply, val_main_v18_apply, e18, val_main_v17_apply]
  refine Finset.sum_congr rfl fun r _ => ?_
  have el : lidx_main_v17 (ix2 y e) r = ix2 r y := by funext a; fin_cases a <;> rfl
  have er : ridx_main_v17 (ix2 y e) r = ix2 r e := by funext a; fin_cases a <;> rfl
  rw [el, er]
  exact mul_comm _ _

theorem v19_at (r : Fin 256) (d : Fin 1024) : val_main_v19 (F := Ideal) w dk dv (ix2 r d) = Cert.Kernel13Ideal.Prod.dmnAt w dk dv r d := by
  rw [val_main_v19_apply]
  refine Finset.sum_congr rfl fun y _ => ?_
  have el : lidx_main_v19 (ix2 r d) y = ix2 r y := by funext a; fin_cases a <;> rfl
  have er : ridx_main_v19 (ix2 r d) y = ix2 d y := by funext a; fin_cases a <;> rfl
  rw [el, er]; rfl

theorem v22_eq : val_main_v22 (F := Ideal) x w dk dv = Cert.Kernel13Ideal.Prod.dgAt x w dk dv := by
  funext i
  obtain ⟨e, d, rfl⟩ : ∃ e d, i = (ix2 e d : S1x1024.Idx) := ⟨i 0, i 1, eq_ix2 i⟩
  obtain rfl : e = 0 := Subsingleton.elim _ _
  have e21 : ∀ r : Fin 256, idx_main_v21 (idx_main_v22 (ix2 (0 : Fin 1) d)) r = ix2 r d := fun r => by
    funext a; apply Fin.ext; fin_cases a
    · rfl
    · show 0 * 1024 + d.val = d.val; omega
  rw [val_main_v22_apply, val_main_v21_apply, val_main_cst_2_apply]
  show Ideal.ofBits .f32 0x00000000#32 + _ = _
  rw [Ideal.ofBits_zero, zero_add]
  refine Finset.sum_congr rfl fun r _ => ?_
  rw [e21, val_main_v20_apply, v10_at, v19_at]
  show x (ix2 r d) * rinv (fun j => x (ix2 r j)) * Cert.Kernel13Ideal.Prod.dmnAt w dk dv r d = Cert.Kernel13Ideal.Prod.dmnAt w dk dv r d * x (ix2 r d) * rinv (fun j => x (ix2 r j))
  ac_rfl

end Cert.Reference13Ideal.Prod

namespace Cert.Prod

theorem algebraic13 : algebraic_Kernel13Ideal_Reference13Ideal (hKernel13Ideal := Cert.Kernel13Ideal.Gen.facts)
    (hReference13Ideal := Cert.Reference13Ideal.Gen.facts) := by
  intro m g m' g' hp hargs
  refine ⟨fun c => (Cert.Kernel13Ideal.Gen.dats m 0 c).arrAt 6 Cert.Kernel13Ideal.cfg0.N, fun c => (Cert.Kernel13Ideal.Gen.dats m 0 c).arrAt 7 Cert.Kernel13Ideal.cfg0.N,
    Cert.Kernel13Ideal.Value.run_blocks m g, ?_⟩
  refine (θ_run Cert.Reference13Ideal.defs _ _).mono (fun r h c => ?_) (Cert.Reference13Ideal.Value.run m' g')
  obtain ⟨h0, h1, h2⟩ := h c
  obtain ⟨a0, a1, a2, a3, a4⟩ := hargs c
  refine ⟨h0.trans ?_, h1.trans ?_, h2⟩
  · rw [Cert.Reference13Ideal.Read.val_main_v23_eq, a0, a1, a3, a4]
    exact (Cert.Reference13Ideal.Prod.v23_eq _ _ _ _).trans (Cert.Kernel13Ideal.Prod.final6 c m).symm
  · rw [Cert.Reference13Ideal.Read.val_main_v22_eq, a0, a2, a3, a4]
    exact (Cert.Reference13Ideal.Prod.v22_eq _ _ _ _).trans (Cert.Kernel13Ideal.Prod.final7 c m).symm

end Cert.Prod
end
-- ==== Proof.Prod.NormFwdClaim.lean ====
module

public import proofs.«01_k».proof.Defs
public import proofs.«01_k».proof.Proof.Gen.Kernel14Ideal
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Prod.Rms
public import Idealize.ShloMosaic.Lib.Pointwise
public import Idealize.ShloMosaic.Lib.Pipeline.ValueKit
public import Idealize.ShloMosaic.Lib.Quiescent

/-! The forward pass of the input norm is the plain norm. -/

@[expose] public section

set_option maxRecDepth 16384
noncomputable section

namespace Cert.Kernel14Ideal.Prod

open Cert.Kernel14Ideal Cert.Kernel14Ideal.Gen Idealize.ShloMosaic Idealize.ShloMosaic.TcCoe Idealize.SL.Sem Idealize.ShloMosaic.Tactic
open Cert.Rms (hat)

theorem pay1_at (x : Vec Ideal S512x1024 .f32) (g : Vec Ideal S1x1024 .f32) (r : Fin 512) (d : Fin 1024) :
    k0_pay1 x g (ix2 r d) = hat (fun j => x (ix2 r j)) d * g (ix2 (0 : Fin 1) d) := by
  unfold k0_pay1; pointwise; rfl

variable (c : Dev nD) (m : (ℓ : Loc nD τ sig) → Buf (Elt Ideal) ℓ)

theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![t.val, 0] := (by decide +kernel : ∀ t : Fin grid0.N, _)

abbrev X : (⟨2, ![8192, 1024]⟩ : Shape).Idx → EReal := m ((c : Thread nD τ).loc main_arg0)
abbrev G : (⟨2, ![1, 1024]⟩ : Shape).Idx → EReal := m ((c : Thread nD τ).loc main_arg1)

/-- The row of the whole array that row `r` of point `t`'s block is. -/
def rowAt (t : Fin 16) (r : Fin 512) : Fin 8192 := ⟨t.val * 512 + r.val, by omega⟩

theorem blk0_at (t : Fin cfg0.N) (r : Fin 512) (d : Fin 1024) : iblk m c 0 t (ix2 r d) = X c m (ix2 (rowAt t r) d) := by
  blk_simp [iblk, V_main_arg0]
  congr 1
  funext a; apply Fin.ext
  fin_cases a <;> blk_simp [e0] <;> rfl

theorem blk1_at (t : Fin cfg0.N) (d : Fin 1024) : iblk m c 1 t (ix2 (0 : Fin 1) d) = G c m (ix2 0 d) := by
  blk_simp [iblk, V_main_arg1]
  congr 1
  funext a; apply Fin.ext
  fin_cases a <;> blk_simp [e1] <;> rfl

/-- The normed row, scaled by the gain. -/
def hAt (y : Fin 8192) (d : Fin 1024) : EReal := hat (fun j => X c m (ix2 y j)) d * G c m (ix2 0 d)

theorem out_h (t : Fin cfg0.N) (r : Fin 512) (d : Fin 1024) : out0_2 (iblk m c 0 t) (iblk m c 1 t) (ix2 r d) = hAt c m (rowAt t r) d := by
  unfold out0_2
  frame_out
  rw [pay1_at]
  simp only [blk0_at, blk1_at]
  rfl

/-- The array the call leaves. -/
theorem final2 : (dats m 0 c).arrAt 2 cfg0.N = fun i => hAt c m (i 0) (i 1) := by
  refine (dats m 0 c).arrAt_eq_of_covers 2 _ (by decide +kernel) fun t hf y => ?_
  obtain ⟨r, d, rfl⟩ : ∃ r d, y = (ix2 r d : S512x1024.Idx) := ⟨y 0, y 1, eq_ix2 y⟩
  have h := out_h c m t r d
  blk_simp
  rw [after0_2]
  refine h.trans (congrArg₂ (hAt c m) (Fin.ext ?_) (Fin.ext ?_))
  · blk_simp [e2]; rfl
  · blk_simp [e2]

end Cert.Kernel14Ideal.Prod

open Idealize.ShloMosaic Idealize.SL.Sem

namespace Cert.Reference14Ideal.Prod

open Cert.Reference14Ideal Cert.Reference14Ideal.Gen Cert.Reference14Ideal.Read
open Cert.Rms

/-- The reference runs, leaves its arguments as they were and ends quiet. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2, sem_eq_zero_of_no_sems rfl r.2⟩) (Cert.Reference14Ideal.Value.run m ρ)

variable (x : S8192x1024.Idx → EReal) (g : S1x1024.Idx → EReal)

theorem i1 (y : Fin 8192) (j : Fin 1024) : idx_main_v1 (idx_main_v2 (ix2 y (0 : Fin 1))) j = ix2 y j := by
  funext a; fin_cases a <;> rfl

theorem i8 (y : Fin 8192) (d : Fin 1024) : idx_main_v8 (ix2 y d) = ix2 y (0 : Fin 1) := by
  funext a; fin_cases a <;> rfl

theorem i10 (y : Fin 8192) (d : Fin 1024) : idx_main_v10 (ix2 y d) = ix2 (0 : Fin 1) d := by
  funext a; fin_cases a <;> rfl

theorem v6_at (y : Fin 8192) : val_main_v6 (F := Ideal) x (ix2 y (0 : Fin 1)) = var (fun j => x (ix2 y j)) := by
  rw [val_main_v6_apply, val_main_v4_apply, val_main_v2_apply, val_main_v1_apply, val_main_v3_apply, val_main_v5_apply,
    val_main_cst_0_apply, val_main_cst_1_apply, val_main_cst_apply]
  simp only [val_main_v0_apply]
  show Ideal.div (Ideal.ofBits .f32 0x00000000#32 + ∑ k : Fin 1024, x _ * x _) width + eps = _
  rw [Ideal.ofBits_zero, zero_add]
  simp only [i1]
  rfl

theorem v7_at (y : Fin 8192) : val_main_v7 (F := Ideal) x (ix2 y (0 : Fin 1)) = rinv (fun j => x (ix2 y j)) := by
  rw [val_main_v7_apply, v6_at]; rfl

theorem v9_at (y : Fin 8192) (d : Fin 1024) : val_main_v9 (F := Ideal) x (ix2 y d) = hat (fun j => x (ix2 y j)) d := by
  rw [val_main_v9_apply, val_main_v8_apply, i8, v7_at]; rfl

theorem v12_at (y : Fin 8192) (d : Fin 1024) : val_main_v12 (F := Ideal) x g (ix2 y d) = hat (fun j => x (ix2 y j)) d * g (ix2 (0 : Fin 1) d) := by
  rw [val_main_v12_apply, val_main_v11_apply, v9_at, val_main_v10_apply, i10]; rfl

end Cert.Reference14Ideal.Prod

namespace Cert.Prod

theorem algebraic14 : algebraic_Kernel14Ideal_Reference14Ideal (hKernel14Ideal := Cert.Kernel14Ideal.Gen.facts)
    (hReference14Ideal := Cert.Reference14Ideal.Gen.facts) := by
  intro m g m' g' hp hargs
  refine ⟨fun c => (Cert.Kernel14Ideal.Gen.dats m 0 c).arrAt 2 Cert.Kernel14Ideal.cfg0.N, Cert.Kernel14Ideal.Value.run_blocks m g, ?_⟩
  refine (θ_run Cert.Reference14Ideal.defs _ _).mono (fun r h c => ?_) (Cert.Reference14Ideal.Value.run m' g')
  obtain ⟨h0, h1⟩ := h c
  obtain ⟨a0, a1⟩ := hargs c
  refine ⟨h0.trans ?_, h1⟩
  rw [Cert.Reference14Ideal.Read.val_main_v12_eq, a0, a1]
  refine Eq.trans ?_ (Cert.Kernel14Ideal.Prod.final2 c m).symm
  funext i
  obtain ⟨y, d, rfl⟩ : ∃ y d, i = ix2 y d := ⟨i 0, i 1, eq_ix2 i⟩
  exact Cert.Reference14Ideal.Prod.v12_at _ _ y d

end Cert.Prod
end
-- ==== Proof.Prod.AttnFwd.lean ====
module

public import proofs.«01_k».proof.Proof.Gen.Kernel15Ideal.Value
public import proofs.«01_k».proof.Proof.Attn.Body
public import Idealize.ShloMosaic.Lib.Pipeline.ValueKit
public import Idealize.ShloMosaic.Lib.Pointwise.Sums

/-! What the forward pass of attention ends with. -/

@[expose] public section

set_option maxRecDepth 16384
noncomputable section

namespace Cert.Kernel15Ideal.Prod

open Cert.Kernel15Ideal Cert.Kernel15Ideal.Gen Idealize.ShloMosaic Idealize.ShloMosaic.TcCoe Idealize.SL.Sem Idealize.ShloMosaic.Tactic
open Cert.Attn (col qRow heads prob)
open Cert.KernelIdeal.Attn (headCols ld_headCols)

section
variable (q : Vec Ideal S1024x256 .f32) (k v : Vec Ideal S256x256 .bf16)

/-- One head's output over a block of rows. -/
def headOut (r : Fin 1024) (d : Fin 256) : EReal := ∑ n, prob (fun d => q (ix2 r d)) (fun n d => k (ix2 n d)) n * v (ix2 n d)

theorem pay2_at (r : Fin 1024) (d : Fin 256) : k0_pay2 q k v (ix2 r d) = headOut q k v r d := by
  unfold k0_pay2; pointwise; rfl

theorem pay34_at (r : Fin 1024) (d : Fin 256) : k0_pay4 (k0_pay3 q k) v (ix2 r d) = headOut q k v r d := by
  unfold k0_pay4 k0_pay3; pointwise; rfl

theorem pay5_at (r : Fin 1024) (d : Fin 256) : k0_pay5 q k v (ix2 r d) = headOut q k v r d := by
  unfold k0_pay5; pointwise; rfl

theorem pay61_at (r : Fin 1024) (d : Fin 256) : k0_pay1 (k0_pay6 q k) v (ix2 r d) = headOut q k v r d := by
  unfold k0_pay1 k0_pay6; pointwise; rfl
end

/-- A write over the columns of head `h` is read, at a column of that head, as its payload. -/
theorem canon_hit {R : ℕ} {e : EltTy} (h : Fin 4) (o : ℕ) (ho : o = h.val * 256)
    (inb : ∀ a, (![0, o] : Fin 2 → ℕ) a + (![R, 256] : Fin 2 → ℕ) a ≤ (⟨2, ![R, 1024]⟩ : Shape).size a)
    (w : Vec Ideal ⟨2, ![R, 256]⟩ e) (L : List (View.Piece (Elt Ideal) ⟨2, ![R, 1024]⟩ e)) (r : Fin R) (d : Fin 256) (y : Fin 1024)
    (hy : y.val = h.val * 256 + d.val) :
    View.canon (⟨Rect.unit (s := ⟨2, ![R, 1024]⟩) ![0, o] ![R, 256] inb, w⟩ :: L) (ix2 r y) = w (ix2 r d) :=
  Cert.KernelIdeal.Attn.canon_hit h o ho inb w L r d y hy

/-- A write over the columns of another head is not met. -/
theorem canon_miss {R : ℕ} {e : EltTy} (o : ℕ)
    (inb : ∀ a, (![0, o] : Fin 2 → ℕ) a + (![R, 256] : Fin 2 → ℕ) a ≤ (⟨2, ![R, 1024]⟩ : Shape).size a)
    (w : Vec Ideal ⟨2, ![R, 256]⟩ e) (L : List (View.Piece (Elt Ideal) ⟨2, ![R, 1024]⟩ e)) (r : Fin R) (y : Fin 1024)
    (hy : y.val < o ∨ o + 256 ≤ y.val) :
    View.canon (⟨Rect.unit (s := ⟨2, ![R, 1024]⟩) ![0, o] ![R, 256] inb, w⟩ :: L) (ix2 r y) = View.canon L (ix2 r y) :=
  Cert.KernelIdeal.Attn.canon_miss o inb w L r y hy

theorem out_apply (c : Dev nD) (i : grid0.Coords) (arg1 : Memref sig .tc .vmem S1024x1024 .f32) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S1024x1024 .bf16) (harg4 : arg4.IsWhole)
    (x0 : Vec Ideal S1024x1024 .f32) (x1 x2 : Vec Ideal S256x1024 .bf16) (h : Fin 4) (r : Fin 1024) (d : Fin 256) (y : Fin 1024) (hy : y.val = h.val * 256 + d.val) :
    out0_A_3 c i arg1 harg1 arg2 harg2 arg3 harg3 arg4 harg4 x0 x1 x2 (ix2 r y)
      = headOut (headCols h x0) (headCols h x1) (headCols h x2) r d := by
  unfold out0_A_3
  rw [View.read_writes_junk_eq_canon]
  unfold kernelRun0_A
  dsimp only; sl_unfold_words
  simp only [Memref.IsWhole.read_unread, View.readAt_eq_ld, harg1, harg2, harg3, harg4]
  simp only [ld_headCols 0 0 rfl, ld_headCols 1 256 rfl, ld_headCols 2 512 rfl, ld_headCols 3 768 rfl]
  fin_cases h
  · rw [canon_miss _ _ _ _ _ _ (by simp at hy ⊢; omega), canon_miss _ _ _ _ _ _ (by simp at hy ⊢; omega), canon_miss _ _ _ _ _ _ (by simp at hy ⊢; omega), canon_hit 0 _ (by rfl) _ _ _ _ d _ hy]
    exact pay2_at _ _ _ r d
  · rw [canon_miss _ _ _ _ _ _ (by simp at hy ⊢; omega), canon_miss _ _ _ _ _ _ (by simp at hy ⊢; omega), canon_hit 1 _ (by rfl) _ _ _ _ d _ hy]
    exact pay34_at _ _ _ r d
  · rw [canon_miss _ _ _ _ _ _ (by simp at hy ⊢; omega), canon_hit 2 _ (by rfl) _ _ _ _ d _ hy]
    exact pay5_at _ _ _ r d
  · rw [canon_hit 3 _ (by rfl) _ _ _ _ d _ hy]
    exact pay61_at _ _ _ r d

variable (m : (ℓ : Loc nD τ sig) → Buf (Elt Ideal) ℓ)

theorem e0 : ∀ t : Fin cfg0.N, win0_0.index t = ![t.val, 8] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![t.val, 0] := (by decide +kernel : ∀ t : Fin grid0.N, _)

/-- The row of the whole array that row `r` of point `t`'s block is. -/
def rowAt (t : Fin 8) (r : Fin 1024) : Fin 8192 := ⟨t.val * 1024 + r.val, by omega⟩

theorem blk0_at (c : Dev nD) (t : Fin cfg0.N) (r y : Fin 1024) :
    X0_0 m c t (ix2 r y) = m ((c : Thread nD τ).loc main_arg0) (ix2 (rowAt t r) ⟨8192 + y.val, by omega⟩) := by
  unfold X0_0 Pipeline.Window.fill
  rw [dif_pos (moved0_0 t _)]
  blk_simp [iblk, V_main_arg0]
  congr 1
  funext a; apply Fin.ext
  fin_cases a <;> blk_simp [e0] <;> rfl

theorem blk1_at (c : Dev nD) (t : Fin cfg0.N) (i : S256x1024.Idx) :
    iblk m c 1 t i = m ((c : Thread nD τ).loc main_arg1) i := by
  blk_simp [iblk, V_main_arg1]
  congr 1
  funext a; apply Fin.ext
  fin_cases a <;> blk_simp [e1] <;> omega

theorem blk2_at (c : Dev nD) (t : Fin cfg0.N) (i : S256x1024.Idx) :
    iblk m c 2 t i = m ((c : Thread nD τ).loc main_arg2) i := by
  blk_simp [iblk, V_main_arg2]
  congr 1
  funext a; apply Fin.ext
  fin_cases a <;> blk_simp [e2] <;> omega

variable (c : Dev nD)

abbrev A0 : (⟨2, ![8192, 12544]⟩ : Shape).Idx → EReal := m ((c : Thread nD τ).loc main_arg0)
abbrev A1 : (⟨2, ![256, 1024]⟩ : Shape).Idx → EReal := m ((c : Thread nD τ).loc main_arg1)
abbrev A2 : (⟨2, ![256, 1024]⟩ : Shape).Idx → EReal := m ((c : Thread nD τ).loc main_arg2)

theorem hq_at (t : Fin cfg0.N) (h : Fin 4) (r : Fin 1024) (d : Fin 256) :
    headCols (F := Ideal) h (X0_0 m c t) (ix2 r d) = qRow (A0 m c) (rowAt t r) h d := blk0_at m c t r (col h d)
theorem hk_at (t : Fin cfg0.N) (h : Fin 4) (n d : Fin 256) :
    headCols (F := Ideal) h (iblk m c 1 t : Vec Ideal S256x1024 .bf16) (ix2 n d) = heads (A1 m c) h n d := blk1_at m c t (ix2 n (col h d))
theorem hv_at (t : Fin cfg0.N) (h : Fin 4) (n d : Fin 256) :
    headCols (F := Ideal) h (iblk m c 2 t : Vec Ideal S256x1024 .bf16) (ix2 n d) = heads (A2 m c) h n d := blk2_at m c t (ix2 n (col h d))

/-- Attention's output, by row and column. -/
def yAt (r : Fin 8192) (y : Fin 1024) : EReal :=
  ∑ n, prob (qRow (A0 m c) r ⟨y.val / 256, by omega⟩) (heads (A1 m c) ⟨y.val / 256, by omega⟩) n * A2 m c (ix2 n y)

theorem yAt_col (r : Fin 8192) (h : Fin 4) (d : Fin 256) :
    yAt m c r (col h d) = ∑ n, prob (qRow (A0 m c) r h) (heads (A1 m c) h) n * heads (A2 m c) h n d := by
  have e : (⟨(col h d).val / 256, by have := (col h d).isLt; omega⟩ : Fin 4) = h := Fin.ext (by show (h.val * 256 + d.val) / 256 = h.val; omega)
  unfold yAt
  rw [e]; rfl

theorem outs_y (t : Fin cfg0.N) (r y : Fin 1024) : outsAt0 m c t (ix2 r y) = yAt m c (rowAt t r) y := by
  obtain ⟨h, d, rfl⟩ := Cert.Attn.exists_col y
  unfold outsAt0
  rw [out_apply c _ _ _ _ _ _ _ _ _ _ _ _ h r d _ rfl, yAt_col]
  unfold headOut
  simp only [hq_at, hk_at, hv_at]

/-- The array the call leaves. -/
theorem final3 : (dats m 0 c).arrAt 3 cfg0.N = fun i => yAt m c (i 0) (i 1) := by
  refine (dats m 0 c).arrAt_eq_of_covers 3 _ (by decide +kernel) fun t hf y => ?_
  obtain ⟨r, d, rfl⟩ : ∃ r d, y = (ix2 r d : S1024x1024.Idx) := ⟨y 0, y 1, eq_ix2 y⟩
  have h := outs_y m c t r d
  blk_simp
  rw [after0_3]
  refine h.trans (congrArg₂ (yAt m c) (Fin.ext ?_) (Fin.ext ?_))
  · blk_simp [e3]; rfl
  · blk_simp [e3]

end Cert.Kernel15Ideal.Prod
end
-- ==== Proof.Prod.AttnFwdClaim.lean ====
module

public import proofs.«01_k».proof.Defs
public import proofs.«01_k».proof.Proof.Gen.Kernel15Ideal
public import proofs.«01_k».proof.Proof.Gen.Reference15Ideal
public import proofs.«01_k».proof.Proof.Gen.Reference15Ideal.Run
public import proofs.«01_k».proof.Proof.Gen.Reference15Ideal.Read
public import proofs.«01_k».proof.Proof.Prod.AttnFwd
public import Idealize.ShloMosaic.Lib.Quiescent

/-! The forward pass of attention is plain attention. -/

@[expose] public section

set_option maxRecDepth 16384
noncomputable section

open Idealize.ShloMosaic Idealize.SL.Sem

namespace Cert.Reference15Ideal.Prod

open Cert.Reference15Ideal Cert.Reference15Ideal.Gen Cert.Reference15Ideal.Read
open Cert.Attn

/-- The reference runs, leaves its arguments as they were and ends quiet. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => (h c).2, sem_eq_zero_of_no_sems rfl r.2⟩) (Cert.Reference15Ideal.Value.run m ρ)

variable (x0 : (⟨S8192x12544, .f32⟩ : BufTy).Contents (Elt Ideal)) (x1 x2 : (⟨S256x1024, .bf16⟩ : BufTy).Contents (Elt Ideal))

theorem v3_at (r : Fin 8192) (h : Fin 4) (d : Fin 256) : val_main_v3 x0 (ix3 r h d) = qRow x0 r h d := by
  unfold val_main_v3 val_main_v0
  pointwise
  rfl

theorem v4_at (m : Fin 256) (h : Fin 4) (d : Fin 256) : val_main_v4 x1 (ix3 m h d) = heads (R := 256) x1 h m d := by
  unfold val_main_v4 val_main_v1
  pointwise
  rfl

theorem v5_at (m : Fin 256) (h : Fin 4) (d : Fin 256) : val_main_v5 x2 (ix3 m h d) = heads (R := 256) x2 h m d := by
  unfold val_main_v5 val_main_v2
  pointwise
  rfl

theorem v8_at (r : Fin 8192) (h : Fin 4) (m : Fin 256) : val_main_v8 x0 x1 (ix3 h r m) = score (qRow x0 r h) (heads (R := 256) x1 h) m := by
  unfold val_main_v8 val_main_v7 val_main_v6 val_main_cst
  pointwise
  simp only [v3_at, v4_at]
  rfl

theorem v9_at (r : Fin 8192) (h : Fin 4) : val_main_v9 x0 x1 (ix2 h r) = top (qRow x0 r h) (heads (R := 256) x1 h) := by
  unfold val_main_v9 val_main_cst_0
  pointwise
  simp only [v8_at]
  rfl

theorem v11_at (r : Fin 8192) (h : Fin 4) : val_main_v11 x0 x1 (ix2 h r) = top (qRow x0 r h) (heads (R := 256) x1 h) := by
  rw [val_main_v11_apply, val_main_v10_apply, val_main_cst_1_apply, v9_at]
  exact max_low_top _ _

theorem v13_at (r : Fin 8192) (h : Fin 4) (m : Fin 256) : val_main_v13 x0 x1 (ix3 h r m) = top (qRow x0 r h) (heads (R := 256) x1 h) := by
  rw [val_main_v13_apply, val_main_v12_apply, ← v11_at]
  refine congrArg _ (funext fun a => ?_)
  fin_cases a <;> rfl

theorem v15_at (r : Fin 8192) (h : Fin 4) (m : Fin 256) : val_main_v15 x0 x1 (ix3 h r m) = expo (qRow x0 r h) (heads (R := 256) x1 h) m := by
  rw [val_main_v15_apply, val_main_v14_apply, v13_at, v8_at]
  rfl

theorem v16_at (r : Fin 8192) (h : Fin 4) : val_main_v16 x0 x1 (ix2 h r) = total (qRow x0 r h) (heads (R := 256) x1 h) := by
  unfold val_main_v16 val_main_cst_2
  pointwise
  simp only [v15_at]
  rfl

theorem v18_at (r : Fin 8192) (h : Fin 4) (m : Fin 256) : val_main_v18 x0 x1 (ix3 h r m) = total (qRow x0 r h) (heads (R := 256) x1 h) := by
  rw [val_main_v18_apply, val_main_v17_apply, ← v16_at]
  refine congrArg _ (funext fun a => ?_)
  fin_cases a <;> rfl

theorem v19_at (r : Fin 8192) (h : Fin 4) (m : Fin 256) : val_main_v19 x0 x1 (ix3 h r m) = prob (qRow x0 r h) (heads (R := 256) x1 h) m := by
  rw [val_main_v19_apply, v15_at, v18_at]
  rfl

theorem v20_at (r : Fin 8192) (h : Fin 4) (d : Fin 256) : val_main_v20 x0 x1 x2 (ix3 h d r)
    = ∑ n, heads (R := 256) x2 h n d * prob (qRow x0 r h) (heads (R := 256) x1 h) n := by
  unfold val_main_v20
  pointwise
  simp only [v5_at, v19_at]

theorem v23_at (r : Fin 8192) (h : Fin 4) (d : Fin 256) : val_main_v23 x0 x1 x2 (ix2 r (col h d))
    = ∑ n, prob (qRow x0 r h) (heads (R := 256) x1 h) n * heads (R := 256) x2 h n d := by
  have e : idx_main_v21 (idx_main_v22 (ix2 r (col h d))) = ix3 h d r := by
    have hd : (h.val * 256 + d.val) / 256 = h.val := by omega
    funext a; apply Fin.ext
    fin_cases a
    · show (r.val * 1024 + (h.val * 256 + d.val)) / 256 % 4 = h.val; omega
    · show (r.val * 1024 + (h.val * 256 + d.val)) % 256 = d.val; omega
    · show (r.val * 1024 + (h.val * 256 + d.val)) / 1024 = r.val; omega
  rw [val_main_v23_apply, val_main_v22_apply, val_main_v21_apply, e, v20_at]
  exact Finset.sum_congr rfl fun n _ => mul_comm _ _

end Cert.Reference15Ideal.Prod

namespace Cert.Prod

theorem algebraic15 : algebraic_Kernel15Ideal_Reference15Ideal (hKernel15Ideal := Cert.Kernel15Ideal.Gen.facts)
    (hReference15Ideal := Cert.Reference15Ideal.Gen.facts) := by
  intro m g m' g' hp hargs
  refine ⟨fun c => (Cert.Kernel15Ideal.Gen.dats m 0 c).arrAt 3 Cert.Kernel15Ideal.cfg0.N, Cert.Kernel15Ideal.Value.run_blocks m g, ?_⟩
  refine (θ_run Cert.Reference15Ideal.defs _ _).mono (fun r h c => ?_) (Cert.Reference15Ideal.Value.run m' g')
  obtain ⟨h0, h1⟩ := h c
  obtain ⟨a0, a1, a2⟩ := hargs c
  refine ⟨h0.trans ?_, h1⟩
  rw [Cert.Reference15Ideal.Read.val_main_v23_eq, a0, a1, a2]
  refine Eq.trans ?_ (Cert.Kernel15Ideal.Prod.final3 m c).symm
  funext i
  obtain ⟨y, d, rfl⟩ : ∃ y d, i = ix2 y d := ⟨i 0, i 1, eq_ix2 i⟩
  obtain ⟨h, d, rfl⟩ := Cert.Attn.exists_col d
  exact (Cert.Reference15Ideal.Prod.v23_at _ _ _ y h d).trans (Cert.Kernel15Ideal.Prod.yAt_col m c y h d).symm

end Cert.Prod
end
-- ==== Proof.Prod.MemFwdClaim.lean ====
module

public import proofs.«01_k».proof.Defs
public import proofs.«01_k».proof.Proof.Gen.Kernel16Ideal
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Prod.Rms
public import Idealize.ShloMosaic.Lib.Pointwise
public import Idealize.ShloMosaic.Lib.Pipeline.ValueKit
public import Idealize.ShloMosaic.Lib.Quiescent

/-! The forward pass of the memory keys and values is the plain norm and product. -/

@[expose] public section

set_option maxRecDepth 16384
noncomputable section

namespace Cert.Kernel16Ideal.Prod

open Cert.Kernel16Ideal Cert.Kernel16Ideal.Gen Idealize.ShloMosaic Idealize.ShloMosaic.TcCoe Idealize.SL.Sem Idealize.ShloMosaic.Tactic
open Cert.Rms (hat)

section
variable (x : Vec Ideal S256x1024 .f32) (g : Vec Ideal S1x1024 .f32) (w : Vec Ideal S1024x2048 .bf16)

/-- The normed memory, scaled by the gain. -/
def mnAt : S256x1024.Idx → EReal := fun i => hat (fun j => x (ix2 (i 0) j)) (i 1) * g (ix2 (0 : Fin 1) (i 1))
/-- The keys. -/
def kAt : S256x1024.Idx → EReal := fun i => ∑ e : Fin 1024, mnAt x g (ix2 (i 0) e) * w (ix2 e ⟨(i 1).val, lt_trans (show (i 1).val < 1024 from (i 1).isLt) (by decide)⟩)
/-- The values. -/
def vAt : S256x1024.Idx → EReal := fun i => ∑ e : Fin 1024, mnAt x g (ix2 (i 0) e) * w (ix2 e ⟨1024 + (i 1).val, by have := (show (i 1).val < 1024 from (i 1).isLt); omega⟩)

theorem pay1_eq : k0_pay1 x g = mnAt x g := by
  funext i
  obtain ⟨r, d, rfl⟩ : ∃ r d, i = (ix2 r d : S256x1024.Idx) := ⟨i 0, i 1, eq_ix2 i⟩
  unfold k0_pay1; pointwise; rfl

theorem pay2_at (r : Fin 256) (d : Fin 2048) : k0_pay2 x g w (ix2 r d) = ∑ e : Fin 1024, mnAt x g (ix2 r e) * w (ix2 e d) := by
  unfold k0_pay2
  rw [pay1_eq]
  pointwise

theorem pay3_eq : k0_pay3 x g w = kAt x g w := by
  funext i
  obtain ⟨r, d, rfl⟩ : ∃ r d, i = (ix2 r d : S256x1024.Idx) := ⟨i 0, i 1, eq_ix2 i⟩
  unfold k0_pay3; pointwise
  refine Eq.trans ?_ (pay2_at x g w r ⟨d.val, by omega⟩)
  refine congrArg _ (funext fun a => Fin.ext ?_)
  fin_cases a <;> simp

theorem pay4_eq : k0_pay4 x g w = vAt x g w := by
  funext i
  obtain ⟨r, d, rfl⟩ : ∃ r d, i = (ix2 r d : S256x1024.Idx) := ⟨i 0, i 1, eq_ix2 i⟩
  unfold k0_pay4; pointwise
  refine Eq.trans ?_ (pay2_at x g w r ⟨1024 + d.val, by omega⟩)
  refine congrArg _ (funext fun a => Fin.ext ?_)
  fin_cases a <;> simp
end

variable (c : Dev nD) (m : (ℓ : Loc nD τ sig) → Buf (Elt Ideal) ℓ)

theorem e0 : ∀ t : Fin cfg0.N, win0_0.index t = ![0, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![0, 0] := (by decide +kernel : ∀ t : Fin grid0.N, _)

theorem blk0_eq (t : Fin cfg0.N) : iblk m c 0 t = (m ((c : Thread nD τ).loc main_arg0) : Vec Ideal S256x1024 .f32) := by
  funext i
  blk_simp [iblk, V_main_arg0]
  congr 1
  funext a; apply Fin.ext
  fin_cases a <;> blk_simp [e0] <;> omega

theorem blk1_eq (t : Fin cfg0.N) : iblk m c 1 t = (m ((c : Thread nD τ).loc main_arg1) : Vec Ideal S1x1024 .f32) := by
  funext i
  blk_simp [iblk, V_main_arg1]
  congr 1
  funext a; apply Fin.ext
  fin_cases a <;> blk_simp [e1] <;> omega

theorem blk2_eq (t : Fin cfg0.N) : iblk m c 2 t = (m ((c : Thread nD τ).loc main_arg2) : Vec Ideal S1024x2048 .bf16) := by
  funext i
  blk_simp [iblk, V_main_arg2]
  congr 1
  funext a; apply Fin.ext
  fin_cases a <;> blk_simp [e2] <;> omega

abbrev X : S256x1024.Idx → EReal := m ((c : Thread nD τ).loc main_arg0)
abbrev G : S1x1024.Idx → EReal := m ((c : Thread nD τ).loc main_arg1)
abbrev W : S1024x2048.Idx → EReal := m ((c : Thread nD τ).loc main_arg2)

theorem out3 (t : Fin cfg0.N) : out0_3 (iblk m c 0 t) (iblk m c 1 t) (iblk m c 2 t) = kAt (X c m) (G c m) (W c m) := by
  unfold out0_3
  frame_out
  rw [pay3_eq, blk0_eq, blk1_eq, blk2_eq]

theorem out4 (t : Fin cfg0.N) : out0_4 (iblk m c 0 t) (iblk m c 1 t) (iblk m c 2 t) = vAt (X c m) (G c m) (W c m) := by
  unfold out0_4
  frame_out
  rw [pay4_eq, blk0_eq, blk1_eq, blk2_eq]

theorem out5 (t : Fin cfg0.N) : out0_5 (iblk m c 0 t) (iblk m c 1 t) (iblk m c 2 t) = mnAt (X c m) (G c m) := by
  unfold out0_5
  frame_out
  rw [pay1_eq, blk0_eq, blk1_eq]

theorem final3 : (dats m 0 c).arrAt 3 cfg0.N = kAt (X c m) (G c m) (W c m) := by
  refine (dats m 0 c).arrAt_eq_of_covers 3 _ (by decide +kernel) fun t hf y => ?_
  obtain ⟨r, d, rfl⟩ : ∃ r d, y = (ix2 r d : S256x1024.Idx) := ⟨y 0, y 1, eq_ix2 y⟩
  have h := congrFun (out3 c m t) (ix2 r d)
  blk_simp
  rw [after0_3]
  refine h.trans (congrArg _ (funext fun a => Fin.ext ?_))
  fin_cases a <;> blk_simp [e3] <;> omega

theorem final4 : (dats m 0 c).arrAt 4 cfg0.N = vAt (X c m) (G c m) (W c m) := by
  refine (dats m 0 c).arrAt_eq_of_covers 4 _ (by decide +kernel) fun t hf y => ?_
  obtain ⟨r, d, rfl⟩ : ∃ r d, y = (ix2 r d : S256x1024.Idx) := ⟨y 0, y 1, eq_ix2 y⟩
  have h := congrFun (out4 c m t) (ix2 r d)
  blk_simp
  rw [after0_4]
  refine h.trans (congrArg _ (funext fun a => Fin.ext ?_))
  fin_cases a <;> blk_simp [e4] <;> omega

theorem final5 : (dats m 0 c).arrAt 5 cfg0.N = mnAt (X c m) (G c m) := by
  refine (dats m 0 c).arrAt_eq_of_covers 5 _ (by decide +kernel) fun t hf y => ?_
  obtain ⟨r, d, rfl⟩ : ∃ r d, y = (ix2 r d : S256x1024.Idx) := ⟨y 0, y 1, eq_ix2 y⟩
  have h := congrFun (out5 c m t) (ix2 r d)
  blk_simp
  rw [after0_5]
  refine h.trans (congrArg _ (funext fun a => Fin.ext ?_))
  fin_cases a <;> blk_simp [e5] <;> omega

end Cert.Kernel16Ideal.Prod

open Idealize.ShloMosaic Idealize.SL.Sem

namespace Cert.Reference16Ideal.Prod

open Cert.Reference16Ideal Cert.Reference16Ideal.Gen Cert.Reference16Ideal.Read
open Cert.Rms

/-- The reference runs, leaves its arguments as they were and ends quiet. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => (h c).2.2.2, sem_eq_zero_of_no_sems rfl r.2⟩) (Cert.Reference16Ideal.Value.run m ρ)

variable (x : S256x1024.Idx → EReal) (g : S1x1024.Idx → EReal) (w : S1024x2048.Idx → EReal)

theorem i2 (y : Fin 256) (j : Fin 1024) : idx_main_v2 (idx_main_v3 (ix2 y (0 : Fin 1))) j = ix2 y j := by
  funext a; fin_cases a <;> rfl

theorem i9 (y : Fin 256) (d : Fin 1024) : idx_main_v9 (ix2 y d) = ix2 y (0 : Fin 1) := by
  funext a; fin_cases a <;> rfl

theorem i11 (y : Fin 256) (d : Fin 1024) : idx_main_v11 (ix2 y d) = ix2 (0 : Fin 1) d := by
  funext a; fin_cases a <;> rfl

theorem v7_at (y : Fin 256) : val_main_v7 (F := Ideal) x (ix2 y (0 : Fin 1)) = var (fun j => x (ix2 y j)) := by
  rw [val_main_v7_apply, val_main_v5_apply, val_main_v3_apply, val_main_v2_apply, val_main_v4_apply, val_main_v6_apply,
    val_main_cst_0_apply, val_main_cst_1_apply, val_main_cst_apply]
  simp only [val_main_v1_apply]
  show Ideal.div (Ideal.ofBits .f32 0x00000000#32 + ∑ k : Fin 1024, x _ * x _) width + eps = _
  rw [Ideal.ofBits_zero, zero_add]
  simp only [i2]
  rfl

theorem v8_at (y : Fin 256) : val_main_v8 (F := Ideal) x (ix2 y (0 : Fin 1)) = rinv (fun j => x (ix2 y j)) := by
  rw [val_main_v8_apply, v7_at]; rfl

theorem v10_at (y : Fin 256) (d : Fin 1024) : val_main_v10 (F := Ideal) x (ix2 y d) = hat (fun j => x (ix2 y j)) d := by
  rw [val_main_v10_apply, val_main_v9_apply, i9, v8_at]; rfl

theorem v12_at (y : Fin 256) (d : Fin 1024) : val_main_v12 (F := Ideal) x g (ix2 y d) = hat (fun j => x (ix2 y j)) d * g (ix2 (0 : Fin 1) d) := by
  rw [val_main_v12_apply, v10_at, val_main_v11_apply, i11]; rfl

theorem i19 (y : Fin 256) (j : Fin 1024) : idx_main_v19 (idx_main_v20 (ix2 y (0 : Fin 1))) j = ix2 y j := by
  funext a; fin_cases a <;> rfl

theorem i26 (y : Fin 256) (d : Fin 1024) : idx_main_v26 (ix2 y d) = ix2 y (0 : Fin 1) := by
  funext a; fin_cases a <;> rfl

theorem i28 (y : Fin 256) (d : Fin 1024) : idx_main_v28 (ix2 y d) = ix2 (0 : Fin 1) d := by
  funext a; fin_cases a <;> rfl

theorem v24_at (y : Fin 256) : val_main_v24 (F := Ideal) x (ix2 y (0 : Fin 1)) = var (fun j => x (ix2 y j)) := by
  rw [val_main_v24_apply, val_main_v22_apply, val_main_v20_apply, val_main_v19_apply, val_main_v21_apply, val_main_v23_apply,
    val_main_cst_3_apply, val_main_cst_4_apply, val_main_cst_2_apply]
  simp only [val_main_v18_apply]
  show Ideal.div (Ideal.ofBits .f32 0x00000000#32 + ∑ k : Fin 1024, x _ * x _) width + eps = _
  rw [Ideal.ofBits_zero, zero_add]
  simp only [i19]
  rfl

theorem v25_at (y : Fin 256) : val_main_v25 (F := Ideal) x (ix2 y (0 : Fin 1)) = rinv (fun j => x (ix2 y j)) := by
  rw [val_main_v25_apply, v24_at]; rfl

theorem v27_at (y : Fin 256) (d : Fin 1024) : val_main_v27 (F := Ideal) x (ix2 y d) = hat (fun j => x (ix2 y j)) d := by
  rw [val_main_v27_apply, val_main_v26_apply, i26, v25_at]; rfl

theorem v29_at (y : Fin 256) (d : Fin 1024) : val_main_v29 (F := Ideal) x g (ix2 y d) = hat (fun j => x (ix2 y j)) d * g (ix2 (0 : Fin 1) d) := by
  rw [val_main_v29_apply, v27_at, val_main_v28_apply, i28]; rfl

theorem v30_eq : val_main_v30 (F := Ideal) x g = Cert.Kernel16Ideal.Prod.mnAt x g := by
  funext i
  obtain ⟨r, d, rfl⟩ : ∃ r d, i = (ix2 r d : S256x1024.Idx) := ⟨i 0, i 1, eq_ix2 i⟩
  rw [val_main_v30_apply, v29_at]; rfl

theorem v13_at (r : Fin 256) (d : Fin 2048) : val_main_v13 (F := Ideal) x g w (ix2 r d)
    = ∑ e : Fin 1024, Cert.Kernel16Ideal.Prod.mnAt x g (ix2 r e) * w (ix2 e d) := by
  rw [val_main_v13_apply]
  refine Finset.sum_congr rfl fun e _ => ?_
  have el : lidx_main_v13 (ix2 r d) e = ix2 r e := by funext a; fin_cases a <;> rfl
  have er : ridx_main_v13 (ix2 r d) e = ix2 e d := by funext a; fin_cases a <;> rfl
  rw [el, er, v12_at]; rfl

theorem v16_eq : val_main_v16 (F := Ideal) x g w = Cert.Kernel16Ideal.Prod.kAt x g w := by
  funext i
  obtain ⟨r, d, rfl⟩ : ∃ r d, i = (ix2 r d : S256x1024.Idx) := ⟨i 0, i 1, eq_ix2 i⟩
  have e : idx_main_v14 (ix2 r d) = ix2 r ⟨d.val, by omega⟩ := by funext a; fin_cases a <;> rfl
  rw [val_main_v16_apply, val_main_v14_apply, e, v13_at]; rfl

theorem v17_eq : val_main_v17 (F := Ideal) x g w = Cert.Kernel16Ideal.Prod.vAt x g w := by
  funext i
  obtain ⟨r, d, rfl⟩ : ∃ r d, i = (ix2 r d : S256x1024.Idx) := ⟨i 0, i 1, eq_ix2 i⟩
  have e : idx_main_v15 (ix2 r d) = ix2 r ⟨1024 + d.val, by omega⟩ := by funext a; fin_cases a <;> rfl
  rw [val_main_v17_apply, val_main_v15_apply, e, v13_at]; rfl

end Cert.Reference16Ideal.Prod

namespace Cert.Prod

theorem algebraic16 : algebraic_Kernel16Ideal_Reference16Ideal (hKernel16Ideal := Cert.Kernel16Ideal.Gen.facts)
    (hReference16Ideal := Cert.Reference16Ideal.Gen.facts) := by
  intro m g m' g' hp hargs
  refine ⟨fun c => (Cert.Kernel16Ideal.Gen.dats m 0 c).arrAt 3 Cert.Kernel16Ideal.cfg0.N, fun c => (Cert.Kernel16Ideal.Gen.dats m 0 c).arrAt 4 Cert.Kernel16Ideal.cfg0.N,
    fun c => (Cert.Kernel16Ideal.Gen.dats m 0 c).arrAt 5 Cert.Kernel16Ideal.cfg0.N, Cert.Kernel16Ideal.Value.run_blocks m g, ?_⟩
  refine (θ_run Cert.Reference16Ideal.defs _ _).mono (fun r h c => ?_) (Cert.Reference16Ideal.Value.run m' g')
  obtain ⟨h0, h1, h2, h3⟩ := h c
  obtain ⟨a0, a1, a2⟩ := hargs c
  refine ⟨h0.trans ?_, h1.trans ?_, h2.trans ?_, h3⟩
  · rw [Cert.Reference16Ideal.Read.val_main_v16_eq, a0, a1, a2]
    exact (Cert.Reference16Ideal.Prod.v16_eq _ _ _).trans (Cert.Kernel16Ideal.Prod.final3 c m).symm
  · rw [Cert.Reference16Ideal.Read.val_main_v17_eq, a0, a1, a2]
    exact (Cert.Reference16Ideal.Prod.v17_eq _ _ _).trans (Cert.Kernel16Ideal.Prod.final4 c m).symm
  · rw [Cert.Reference16Ideal.Read.val_main_v30_eq, a0, a1]
    exact (Cert.Reference16Ideal.Prod.v30_eq _ _).trans (Cert.Kernel16Ideal.Prod.final5 c m).symm

end Cert.Prod
end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Reference8Ideal
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Reference9Ideal
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Reference10Ideal
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Reference11Ideal
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Reference13Ideal
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Reference14Ideal
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Reference15Ideal
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Reference16Ideal
public import proofs.«01_k».proof.Proof.Gen.Kernel16Ideal.Value
public import proofs.«01_k».proof.Proof.Gen.Reference16Ideal.Run
public import proofs.«01_k».proof.Proof.Gen.Reference16Ideal.Read
public import proofs.«01_k».proof.Proof.Attn.Claim
public import proofs.«01_k».proof.Proof.Prod.DwInClaim
public import proofs.«01_k».proof.Proof.Prod.DhClaim
public import proofs.«01_k».proof.Proof.Prod.NormBwdClaim
public import proofs.«01_k».proof.Proof.Prod.InProjClaim
public import proofs.«01_k».proof.Proof.Prod.DySsdClaim
public import proofs.«01_k».proof.Proof.Prod.DyLruClaim
public import proofs.«01_k».proof.Proof.Prod.DyMemClaim
public import proofs.«01_k».proof.Proof.Prod.DwSsdClaim
public import proofs.«01_k».proof.Proof.Prod.DwLruClaim
public import proofs.«01_k».proof.Proof.Prod.DwOutClaim
public import proofs.«01_k».proof.Proof.Prod.MergeFbClaim
public import proofs.«01_k».proof.Proof.Prod.MemKvClaim
public import proofs.«01_k».proof.Proof.Prod.NormFwdClaim
public import proofs.«01_k».proof.Proof.Prod.AttnFwdClaim
public import proofs.«01_k».proof.Proof.Prod.MemFwdClaim
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Pre_finite_q_k.facts,
    fun m ρ _ => Cert.Kernel.Gen.frame m ρ,
    fun m ρ _ => Cert.KernelIdeal.Gen.frame m ρ,
    fun m ρ _ => Cert.KernelIdeal.Gen.frame m ρ,
    fun m ρ _ => Cert.ReferenceIdeal.Attn.frame m ρ,
    fun m ρ _ => Cert.ReferenceIdeal.Attn.frame m ρ,
    fun m ρ _ => Cert.Kernel2.Gen.frame m ρ,
    fun m ρ _ => Cert.Kernel2Ideal.Gen.frame m ρ,
    fun m ρ _ => Cert.Reference2Ideal.Prod.frame m ρ,
    fun m ρ _ => Cert.Kernel3.Gen.frame m ρ,
    fun m ρ _ => Cert.Kernel3Ideal.Gen.frame m ρ,
    fun m ρ _ => Cert.Reference3Ideal.Prod.frame m ρ,
    fun m ρ _ => Cert.Kernel4.Gen.frame m ρ,
    fun m ρ _ => Cert.Kernel4Ideal.Gen.frame m ρ,
    fun m ρ _ => Cert.Reference4Ideal.Prod.frame m ρ,
    fun m ρ _ => Cert.Kernel5.Gen.frame m ρ,
    fun m ρ _ => Cert.Kernel5Ideal.Gen.frame m ρ,
    fun m ρ _ => Cert.Reference5Ideal.Prod.frame m ρ,
    fun m ρ _ => Cert.Kernel6.Gen.frame m ρ,
    fun m ρ _ => Cert.Kernel6Ideal.Gen.frame m ρ,
    fun m ρ _ => Cert.Reference6Ideal.Prod.frame m ρ,
    fun m ρ _ => Cert.Kernel7.Gen.frame m ρ,
    fun m ρ _ => Cert.Kernel7Ideal.Gen.frame m ρ,
    fun m ρ _ => Cert.Reference7Ideal.Prod.frame m ρ,
    fun m ρ _ => Cert.Kernel8.Gen.frame m ρ,
    fun m ρ _ => Cert.Kernel8Ideal.Gen.frame m ρ,
    fun m ρ _ => Cert.Reference8Ideal.Prod.frame m ρ,
    fun m ρ _ => Cert.Kernel9.Gen.frame m ρ,
    fun m ρ _ => Cert.Kernel9Ideal.Gen.frame m ρ,
    fun m ρ _ => Cert.Reference9Ideal.Prod.frame m ρ,
    fun m ρ _ => Cert.Kernel10.Gen.frame m ρ,
    fun m ρ _ => Cert.Kernel10Ideal.Gen.frame m ρ,
    fun m ρ _ => Cert.Reference10Ideal.Prod.frame m ρ,
    fun m ρ _ => Cert.Kernel11.Gen.frame m ρ,
    fun m ρ _ => Cert.Kernel11Ideal.Gen.frame m ρ,
    fun m ρ _ => Cert.Reference11Ideal.Prod.frame m ρ,
    fun m ρ _ => Cert.Kernel12.Gen.frame m ρ,
    fun m ρ _ => Cert.Kernel12Ideal.Gen.frame m ρ,
    fun m ρ _ => Cert.Reference12Ideal.Prod.frame m ρ,
    fun m ρ _ => Cert.Kernel13.Gen.frame m ρ,
    fun m ρ _ => Cert.Kernel13Ideal.Gen.frame m ρ,
    fun m ρ _ => Cert.Reference13Ideal.Prod.frame m ρ,
    fun m ρ _ => Cert.Kernel14.Gen.frame m ρ,
    fun m ρ _ => Cert.Kernel14Ideal.Gen.frame m ρ,
    fun m ρ _ => Cert.Reference14Ideal.Prod.frame m ρ,
    fun m ρ _ => Cert.Kernel15.Gen.frame m ρ,
    fun m ρ _ => Cert.Kernel15Ideal.Gen.frame m ρ,
    fun m ρ _ => Cert.Reference15Ideal.Prod.frame m ρ,
    fun m ρ _ => Cert.Kernel16.Gen.frame m ρ,
    fun m ρ _ => Cert.Kernel16Ideal.Gen.frame m ρ,
    fun m ρ _ => Cert.Reference16Ideal.Prod.frame m ρ,
    trivial,
    Cert.Attn.algebraic,
    trivial,
    Cert.Prod.algebraic2,
    trivial,
    Cert.Prod.algebraic3,
    trivial,
    Cert.Prod.algebraic4,
    trivial,
    Cert.Prod.algebraic5,
    trivial,
    Cert.Prod.algebraic6,
    trivial,
    Cert.Prod.algebraic7,
    trivial,
    Cert.Prod.algebraic8,
    trivial,
    Cert.Prod.algebraic9,
    trivial,
    Cert.Prod.algebraic10,
    trivial,
    Cert.Prod.algebraic11,
    trivial,
    Cert.Prod.algebraic12,
    trivial,
    Cert.Prod.algebraic13,
    trivial,
    Cert.Prod.algebraic14,
    trivial,
    Cert.Prod.algebraic15,
    trivial,
    Cert.Prod.algebraic16⟩

end Cert.Proof

end
